-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      True)
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      True)
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      True)
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      True)
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      True)
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      True)
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)) (v3 : (c : Dev Cert.Kernel2Ideal.nD) → Buf (Elt Ideal) ((c.tc : Thread Cert.Kernel2Ideal.nD Cert.Kernel2Ideal.τ).loc Cert.Kernel2Ideal.main_v25_3)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v25_5)) (v6 : (c : Dev Cert.Kernel2Ideal.nD) → Buf (Elt Ideal) ((c.tc : Thread Cert.Kernel2Ideal.nD Cert.Kernel2Ideal.τ).loc Cert.Kernel2Ideal.main_v25_6)) (v7 : (c : Dev Cert.Kernel2Ideal.nD) → Buf (Elt Ideal) ((c.tc : Thread Cert.Kernel2Ideal.nD Cert.Kernel2Ideal.τ).loc Cert.Kernel2Ideal.main_v25_7)) (v8 : (c : Dev Cert.Kernel2Ideal.nD) → Buf (Elt Ideal) ((c.tc : Thread Cert.Kernel2Ideal.nD Cert.Kernel2Ideal.τ).loc Cert.Kernel2Ideal.main_v25_8)) (v9 : (c : Dev Cert.Kernel2Ideal.nD) → Buf (Elt Ideal) ((c.tc : Thread Cert.Kernel2Ideal.nD Cert.Kernel2Ideal.τ).loc Cert.Kernel2Ideal.main_v25_9)) (v10 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v25_5) = v5 c
          ∧ r.2.mem ((c.tc : Thread Cert.Kernel2Ideal.nD Cert.Kernel2Ideal.τ).loc Cert.Kernel2Ideal.main_v25_6) = v6 c
          ∧ r.2.mem ((c.tc : Thread Cert.Kernel2Ideal.nD Cert.Kernel2Ideal.τ).loc Cert.Kernel2Ideal.main_v25_7) = v7 c
          ∧ r.2.mem ((c.tc : Thread Cert.Kernel2Ideal.nD Cert.Kernel2Ideal.τ).loc Cert.Kernel2Ideal.main_v25_8) = v8 c
          ∧ r.2.mem ((c.tc : Thread Cert.Kernel2Ideal.nD Cert.Kernel2Ideal.τ).loc Cert.Kernel2Ideal.main_v25_9) = v9 c
          ∧ r.2.mem ((c.tc : Thread Cert.Kernel2Ideal.nD Cert.Kernel2Ideal.τ).loc Cert.Kernel2Ideal.main_v27) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v84) = v4 c
          ∧ r.2.mem ((c.tc : Thread Cert.Reference2Ideal.nD Cert.Reference2Ideal.τ).loc Cert.Reference2Ideal.main_v47) = v5 c
          ∧ r.2.mem ((c.tc : Thread Cert.Reference2Ideal.nD Cert.Reference2Ideal.τ).loc Cert.Reference2Ideal.main_v87) = v6 c
          ∧ r.2.mem ((c.tc : Thread Cert.Reference2Ideal.nD Cert.Reference2Ideal.τ).loc Cert.Reference2Ideal.main_v68) = v7 c
          ∧ r.2.mem ((c.tc : Thread Cert.Reference2Ideal.nD Cert.Reference2Ideal.τ).loc Cert.Reference2Ideal.main_v94) = v8 c
          ∧ r.2.mem ((c.tc : Thread Cert.Reference2Ideal.nD Cert.Reference2Ideal.τ).loc Cert.Reference2Ideal.main_v101) = v9 c
          ∧ r.2.mem ((c.tc : Thread Cert.Reference2Ideal.nD Cert.Reference2Ideal.τ).loc Cert.Reference2Ideal.main_v105) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)) (v4 : (c : Dev Cert.Kernel3Ideal.nD) → Buf (Elt Ideal) ((c.tc : Thread Cert.Kernel3Ideal.nD Cert.Kernel3Ideal.τ).loc Cert.Kernel3Ideal.main_v18_4)) (v5 : (c : Dev Cert.Kernel3Ideal.nD) → Buf (Elt Ideal) ((c.tc : Thread Cert.Kernel3Ideal.nD Cert.Kernel3Ideal.τ).loc Cert.Kernel3Ideal.main_v18_5)) (v6 : (c : Dev Cert.Kernel3Ideal.nD) → Buf (Elt Ideal) ((c.tc : Thread Cert.Kernel3Ideal.nD Cert.Kernel3Ideal.τ).loc Cert.Kernel3Ideal.main_v18_6)) (v7 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_v18_4) = v4 c
          ∧ r.2.mem ((c.tc : Thread Cert.Kernel3Ideal.nD Cert.Kernel3Ideal.τ).loc Cert.Kernel3Ideal.main_v18_5) = v5 c
          ∧ r.2.mem ((c.tc : Thread Cert.Kernel3Ideal.nD Cert.Kernel3Ideal.τ).loc Cert.Kernel3Ideal.main_v18_6) = v6 c
          ∧ r.2.mem ((c.tc : Thread Cert.Kernel3Ideal.nD Cert.Kernel3Ideal.τ).loc Cert.Kernel3Ideal.main_v21) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_v66) = v4 c
          ∧ r.2.mem ((c.tc : Thread Cert.Reference3Ideal.nD Cert.Reference3Ideal.τ).loc Cert.Reference3Ideal.main_v80) = v5 c
          ∧ r.2.mem ((c.tc : Thread Cert.Reference3Ideal.nD Cert.Reference3Ideal.τ).loc Cert.Reference3Ideal.main_v87) = v6 c
          ∧ r.2.mem ((c.tc : Thread Cert.Reference3Ideal.nD Cert.Reference3Ideal.τ).loc Cert.Reference3Ideal.main_v90) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      True) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c)
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v22) = v1 c)

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      True) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c)
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v26) = v1 c)

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_keys.lean ====
abbrev S32768x1024 : Shape := ⟨2, ![32768, 1024]⟩
abbrev S32768x128 : Shape := ⟨2, ![32768, 128]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn_part1 {F : FTy → Type} [FloatOps F] (main_v4 : IVec S_ 1) (main_v9 : IVec S_ 1) (main_v14 : IVec S_ 1) (main_v16 : FVec F S32768x128 .f32) (main_cst_4 : FVec F S_ .f32) : IVec S_ 1 :=
  let main_v17 : FVec F S32768x128 .f32 := broadcastInDim S32768x128 ![] bcast_S_S32768x128 main_cst_4
  let main_v18 : IVec S32768x128 1 := cmpf .olt main_v16 main_v17
  let main_c_5 : IVec S_ 1 := constantI S_ 1 1#1
  let main_v19 : IVec S_ 1 := (fun x v => Host.reduce IntOp.andi x v reducesTo_S32768x128_S_d0_1 h_S_) main_v18 main_c_5
  let main_v20 : IVec S_ 1 := andi main_v4 main_v9
  let main_v21 : IVec S_ 1 := andi main_v14 main_v19
  let main_v22 : IVec S_ 1 := andi main_v20 main_v21
  main_v22

def fn {F : FTy → Type} [FloatOps F] (main_arg0 : FVec F S32768x1024 .bf16) (main_arg1 : FVec F S32768x1024 .bf16) (main_arg2 : FVec F S32768x1024 .bf16) (main_arg3 : FVec F S32768x128 .bf16) (main_arg4 : FVec F S32768x1024 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : FVec F S32768x1024 .f32 := (extf .f32 · bitsLt_bf16_f32) main_arg2
  let main_v11 : FVec F S32768x1024 .f32 := Host.absf main_v10
  let main_cst_2 : FVec F S_ .f32 := constant S_ .f32 0x7F800000#32
  let main_v12 : FVec F S32768x1024 .f32 := broadcastInDim S32768x1024 ![] bcast_S_S32768x1024 main_cst_2
  let main_v13 : IVec S32768x1024 1 := cmpf .olt main_v11 main_v12
  let main_c_3 : IVec S_ 1 := constantI S_ 1 1#1
  let main_v14 : IVec S_ 1 := (fun x v => Host.reduce IntOp.andi x v reducesTo_S32768x1024_S_d0_1 h_S_) main_v13 main_c_3
  let main_v15 : FVec F S32768x128 .f32 := (extf .f32 · bitsLt_bf16_f32) main_arg3
  let main_v16 : FVec F S32768x128 .f32 := Host.absf main_v15
  let main_cst_4 : FVec F S_ .f32 := constant S_ .f32 0x7F800000#32
  fn_part1 (F := F) main_v4 main_v9 main_v14 main_v16 main_cst_4
-- ==== Kernel.lean ====
abbrev S32768x1024 : Shape := ⟨2, ![32768, 1024]⟩
abbrev S32768x128 : Shape := ⟨2, ![32768, 128]⟩
abbrev S2048x128 : Shape := ⟨2, ![2048, 128]⟩
abbrev S4x2x512x128 : Shape := ⟨4, ![4, 2, 512, 128]⟩
abbrev S512x128 : Shape := ⟨2, ![512, 128]⟩
abbrev S512x256 : Shape := ⟨2, ![512, 256]⟩
abbrev S256x256 : Shape := ⟨2, ![256, 256]⟩
abbrev S256x128 : Shape := ⟨2, ![256, 128]⟩
abbrev S512x512 : Shape := ⟨2, ![512, 512]⟩
abbrev S512 : Shape := ⟨1, ![512]⟩
abbrev S512x1 : Shape := ⟨2, ![512, 1]⟩
abbrev S1x1x512x128 : Shape := ⟨4, ![1, 1, 512, 128]⟩
abbrev S1x1x256x128 : Shape := ⟨4, ![1, 1, 256, 128]⟩
abbrev S256 : Shape := ⟨1, ![256]⟩
abbrev S256x1 : Shape := ⟨2, ![256, 1]⟩

abbrev nBuf : Space → Nat
  | .hbm => 6
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x128, .bf16⟩
  | .hbm, ⟨4, _⟩ => ⟨S32768x1024, .bf16⟩
  | .hbm, ⟨5, _⟩ => ⟨S32768x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S4x2x512x128, .f32⟩
  | .local _ .vmem, ⟨13, _⟩ => ⟨S4x2x512x128, .f32⟩
  | .local _ .vmem, ⟨14, _⟩ => ⟨S4x2x512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S32768x128 : Shape := ⟨2, ![32768, 128]⟩
abbrev S16x2048x16x64 : Shape := ⟨4, ![16, 2048, 16, 64]⟩
abbrev S16x2048x8x128 : Shape := ⟨4, ![16, 2048, 8, 128]⟩
abbrev S16x2048x8x64 : Shape := ⟨4, ![16, 2048, 8, 64]⟩
abbrev S16x2048x16x32 : Shape := ⟨4, ![16, 2048, 16, 32]⟩
abbrev S16x2048x128 : Shape := ⟨3, ![16, 2048, 128]⟩
abbrev S16x2048x64 : Shape := ⟨3, ![16, 2048, 64]⟩
abbrev S16x2048x1x2x32 : Shape := ⟨5, ![16, 2048, 1, 2, 32]⟩
abbrev S16x2048x8x2x32 : Shape := ⟨5, ![16, 2048, 8, 2, 32]⟩
abbrev S16x16x2048x2048 : Shape := ⟨4, ![16, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x128, .bf16⟩
  | .hbm, ⟨4, _⟩ => ⟨S32768x1024, .bf16⟩
  | .hbm, ⟨5, _⟩ => ⟨S32768x1024, .f32⟩
  | .hbm, ⟨6, _⟩ => ⟨S16x2048x16x64, .f32⟩
  | .hbm, ⟨7, _⟩ => ⟨S32768x1024, .f32⟩
  | .hbm, ⟨8, _⟩ => ⟨S16x2048x8x128, .f32⟩
  | .hbm, ⟨9, _⟩ => ⟨S16x2048x8x64, .f32⟩
  | .hbm, ⟨10, _⟩ => ⟨S16x2048x16x32, .f32⟩
  | .hbm, ⟨11, _⟩ => ⟨S32768x1024, .f32⟩
  | .hbm, ⟨12, _⟩ => ⟨S16x2048x16x64, .f32⟩
  | .hbm, ⟨13, _⟩ => ⟨S32768x128, .f32⟩
  | .hbm, ⟨14, _⟩ => ⟨S16x2048x128, .f32⟩
  | .hbm, ⟨15, _⟩ => ⟨S16x2048x64, .f32⟩
  | .hbm, ⟨16, _⟩ => ⟨S16x2048x1x2x32, .f32⟩
  | .hbm, ⟨17, _⟩ => ⟨S16x2048x8x2x32, .f32⟩
  | .hbm, ⟨18, _⟩ => ⟨S16x2048x16x32, .f32⟩
  | .hbm, ⟨19, _⟩ => ⟨S32768x1024, .f32⟩
  | .hbm, ⟨20, _⟩ => ⟨S16x2048x16x64, .f32⟩
  | .hbm, ⟨21, _⟩ => ⟨S16x16x2048x2048, .f32⟩
  | .hbm, ⟨22, _⟩ => ⟨S16x16x2048x2048, .f32⟩
  | .hbm, ⟨23, _⟩ => ⟨S16x16x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S16x16x2048x2048, .f32⟩
  | .hbm, ⟨33, _⟩ => ⟨S16x16x2048x2048, .f32⟩
  | .hbm, ⟨34, _⟩ => ⟨S_, .f32⟩
  | .hbm, ⟨35, _⟩ => ⟨S_, .f32⟩
  | .hbm, ⟨36, _⟩ => ⟨S16x16x2048x2048, .i1⟩
  | .hbm, ⟨37, _⟩ => ⟨S16x16x2048x2048, .f32⟩
  | .hbm, ⟨38, _⟩ => ⟨S16x16x2048x2048, .f32⟩
  | .hbm, ⟨39, _⟩ => ⟨S_, .f32⟩
  | .hbm, ⟨40, _⟩ => ⟨S16x16x2048, .f32⟩
  | .hbm, ⟨41, _⟩ => ⟨S_, .f32⟩
  | .hbm, ⟨42, _⟩ => ⟨S16x16x2048, .f32⟩
  | .hbm, ⟨43, _⟩ => ⟨S16x16x2048, .f32⟩
  | .hbm, ⟨44, _⟩ => ⟨S16x16x2048x1, .f32⟩
  | .hbm, ⟨45, _⟩ => ⟨S16x16x2048x2048, .f32⟩
  | .hbm, ⟨46, _⟩ => ⟨S16x16x2048x2048, .f32⟩
  | .hbm, ⟨47, _⟩ => ⟨S16x16x2048x2048, .f32⟩
  | .hbm, ⟨48, _⟩ => ⟨S_, .f32⟩
  | .hbm, ⟨49, _⟩ => ⟨S16x16x2048, .f32⟩
  | .hbm, ⟨50, _⟩ => ⟨S16x16x2048x1, .f32⟩
  | .hbm, ⟨51, _⟩ => ⟨S16x16x2048x2048, .f32⟩
  | .hbm, ⟨52, _⟩ => ⟨S16x16x2048x2048, .f32⟩
  | .hbm, ⟨53, _⟩ => ⟨S16x16x64x2048, .f32⟩
  | .hbm, ⟨54, _⟩ => ⟨S16x2048x16x64, .f32⟩
  | .hbm, ⟨55, _⟩ => ⟨S32768x1024, .f32⟩
  | .hbm, ⟨56, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel2.lean ====
abbrev S32768x1024 : Shape := ⟨2, ![32768, 1024]⟩
abbrev S1024x3744 : Shape := ⟨2, ![1024, 3744]⟩
abbrev S1x384 : Shape := ⟨2, ![1, 384]⟩
abbrev S384x1536 : Shape := ⟨2, ![384, 1536]⟩
abbrev S1x256 : Shape := ⟨2, ![1, 256]⟩
abbrev S256x16x64 : Shape := ⟨3, ![256, 16, 64]⟩
abbrev S2048x128 : Shape := ⟨2, ![2048, 128]⟩
abbrev S1024x32 : Shape := ⟨2, ![1024, 32]⟩
abbrev S_ : Shape := ⟨0, ![]⟩
abbrev S1024x64 : Shape := ⟨2, ![1024, 64]⟩
abbrev S1024x384 : Shape := ⟨2, ![1024, 384]⟩
abbrev S1024x256 : Shape := ⟨2, ![1024, 256]⟩
abbrev S1024x1024 : Shape := ⟨2, ![1024, 1024]⟩
abbrev S1024x3840 : Shape := ⟨2, ![1024, 3840]⟩
abbrev S384x16x96 : Shape := ⟨3, ![384, 16, 96]⟩
abbrev S384x16x64 : Shape := ⟨3, ![384, 16, 64]⟩
abbrev S384x1024 : Shape := ⟨2, ![384, 1024]⟩
abbrev S384x16x16 : Shape := ⟨3, ![384, 16, 16]⟩
abbrev S384x16x32 : Shape := ⟨3, ![384, 16, 32]⟩
abbrev S384x8x64 : Shape := ⟨3, ![384, 8, 64]⟩
abbrev S384x8x128 : Shape := ⟨3, ![384, 8, 128]⟩
abbrev S384x2048 : Shape := ⟨2, ![384, 2048]⟩
abbrev S256x1024 : Shape := ⟨2, ![256, 1024]⟩
abbrev S256x2048 : Shape := ⟨2, ![256, 2048]⟩
abbrev S32768x128 : Shape := ⟨2, ![32768, 128]⟩
abbrev S32768x256 : Shape := ⟨2, ![32768, 256]⟩
abbrev S32768x32 : Shape := ⟨2, ![32768, 32]⟩
abbrev S32768x512 : Shape := ⟨2, ![32768, 512]⟩
abbrev S512x1024 : Shape := ⟨2, ![512, 1024]⟩
abbrev S512x128 : Shape := ⟨2, ![512, 128]⟩
abbrev S512x256 : Shape := ⟨2, ![512, 256]⟩
abbrev S512x32 : Shape := ⟨2, ![512, 32]⟩
abbrev S512x512 : Shape := ⟨2, ![512, 512]⟩
abbrev S512x384 : Shape := ⟨2, ![512, 384]⟩
abbrev S512 : Shape := ⟨1, ![512]⟩
abbrev S512x1 : Shape := ⟨2, ![512, 1]⟩
abbrev S512x2048 : Shape := ⟨2, ![512, 2048]⟩
abbrev S1024x128 : Shape := ⟨2, ![1024, 128]⟩
abbrev S1024x512 : Shape := ⟨2, ![1024, 512]⟩
abbrev S16x2048x512 : Shape := ⟨3, ![16, 2048, 512]⟩
abbrev S16x30x512 : Shape := ⟨3, ![16, 30, 512]⟩

abbrev nBuf : Space → Nat
  | .hbm => 48
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S1024x3744, .f32⟩
  | .hbm, ⟨2, _⟩ => ⟨S1x384, .f32⟩
  | .hbm, ⟨3, _⟩ => ⟨S384x1536, .f32⟩
  | .hbm, ⟨4, _⟩ => ⟨S1x256, .f32⟩
  | .hbm, ⟨5, _⟩ => ⟨S256x16x64, .f32⟩
  | .hbm, ⟨6, _⟩ => ⟨S256x16x64, .f32⟩
  | .hbm, ⟨7, _⟩ => ⟨S2048x128, .f32⟩
  | .hbm, ⟨8, _⟩ => ⟨S2048x128, .f32⟩
  | .hbm, ⟨9, _⟩ => ⟨S1024x32, .f32⟩
  | .hbm, ⟨10, _⟩ => ⟨S_, .f32⟩
  | .hbm, ⟨11, _⟩ => ⟨S1024x64, .f32⟩
  | .hbm, ⟨12, _⟩ => ⟨S1024x384, .f32⟩
  | .hbm, ⟨13, _⟩ => ⟨S1024x256, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x3840, .f32⟩
  | .hbm, ⟨18, _⟩ => ⟨S1024x3840, .bf16⟩
  | .hbm, ⟨19, _⟩ => ⟨S384x16x96, .f32⟩
  | .hbm, ⟨20, _⟩ => ⟨S384x16x64, .f32⟩
  | .hbm, ⟨21, _⟩ => ⟨S384x1024, .f32⟩
  | .hbm, ⟨22, _⟩ => ⟨S384x16x16, .f32⟩
  | .hbm, ⟨23, _⟩ => ⟨S384x16x16, .f32⟩
  | .hbm, ⟨24, _⟩ => ⟨S384x16x32, .f32⟩
  | .hbm, ⟨25, _⟩ => ⟨S384x8x64, .f32⟩
  | .hbm, ⟨26, _⟩ => ⟨S_, .f32⟩
  | .hbm, ⟨27, _⟩ => ⟨S384x8x64, .f32⟩
  | .hbm, ⟨28, _⟩ => ⟨S384x8x128, .f32⟩
  | .hbm, ⟨29, _⟩ => ⟨S384x1024, .f32⟩
  | .hbm, ⟨30, _⟩ => ⟨S384x2048, .f32⟩
  | .hbm, ⟨31, _⟩ => ⟨S384x2048, .bf16⟩
  | .hbm, ⟨32, _⟩ => ⟨S256x1024, .f32⟩
  | .hbm, ⟨33, _⟩ => ⟨S256x1024, .f32⟩
  | .hbm, ⟨34, _⟩ => ⟨S256x2048, .f32⟩
  | .hbm, ⟨35, _⟩ => ⟨S256x2048, .bf16⟩
  | .hbm, ⟨36, _⟩ => ⟨S32768x1024, .bf16⟩
  | .hbm, ⟨37, _⟩ => ⟨S32768x1024, .bf16⟩
  | .hbm, ⟨38, _⟩ => ⟨S32768x1024, .bf16⟩
  | .hbm, ⟨39, _⟩ => ⟨S32768x1024, .bf16⟩
  | .hbm, ⟨40, _⟩ => ⟨S32768x128, .bf16⟩
  | .hbm, ⟨41, _⟩ => ⟨S32768x256, .f32⟩
  | .hbm, ⟨42, _⟩ => ⟨S32768x32, .f32⟩
  | .hbm, ⟨43, _⟩ => ⟨S32768x512, .f32⟩
  | .hbm, ⟨44, _⟩ => ⟨S32768x1024, .bf16⟩
  | .hbm, ⟨45, _⟩ => ⟨S32768x1024, .bf16⟩
  | .hbm, ⟨46, _⟩ => ⟨S16x2048x512, .f32⟩
  | .hbm, ⟨47, _⟩ => ⟨S16x30x512, .f32⟩
  | .local _ .vmem, ⟨0, _⟩ => ⟨S512x1024, .f32⟩
  | .local _ .vmem, ⟨1, _⟩ => ⟨S512x1024, .f32⟩
  | .local _ .vmem, ⟨2, _⟩ => ⟨S1024x3840, .bf16⟩
  | .local _ .vmem, ⟨3, _⟩ => ⟨S1x384, .f32⟩
  | .local _ .vmem, ⟨4, _⟩ => ⟨S1x256, .f32⟩
  | .local _ .vmem, ⟨5, _⟩ => ⟨S384x2048, .bf16⟩
  | .local _ .vmem, ⟨6, _⟩ => ⟨S256x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x128, .bf16⟩
  | .local _ .vmem, ⟨20, _⟩ => ⟨S512x128, .bf16⟩
  | .local _ .vmem, ⟨21, _⟩ => ⟨S512x256, .f32⟩
  | .local _ .vmem, ⟨22, _⟩ => ⟨S512x256, .f32⟩
  | .local _ .vmem, ⟨23, _⟩ => ⟨S512x32, .f32⟩
  | .local _ .vmem, ⟨24, _⟩ => ⟨S512x32, .f32⟩
  | .local _ .vmem, ⟨25, _⟩ => ⟨S512x512, .f32⟩
  | .local _ .vmem, ⟨26, _⟩ => ⟨S512x512, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev main_v25_8 : Ref sig .tc := ⟨.hbm, 44, rfl⟩
abbrev main_v25_9 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S32768x1024 : Shape := ⟨2, ![32768, 1024]⟩
abbrev S1024x3744 : Shape := ⟨2, ![1024, 3744]⟩
abbrev S1x384 : Shape := ⟨2, ![1, 384]⟩
abbrev S384x1536 : Shape := ⟨2, ![384, 1536]⟩
abbrev S1x256 : Shape := ⟨2, ![1, 256]⟩
abbrev S256x16x64 : Shape := ⟨3, ![256, 16, 64]⟩
abbrev S2048x128 : Shape := ⟨2, ![2048, 128]⟩
abbrev S32768x3744 : Shape := ⟨2, ![32768, 3744]⟩
abbrev S32768x384 : Shape := ⟨2, ![32768, 384]⟩
abbrev S32768x256 : Shape := ⟨2, ![32768, 256]⟩
abbrev S32768x32 : Shape := ⟨2, ![32768, 32]⟩
abbrev S32768x512 : Shape := ⟨2, ![32768, 512]⟩
abbrev S2048x64 : Shape := ⟨2, ![2048, 64]⟩
abbrev S1x2048x1x2x32 : Shape := ⟨5, ![1, 2048, 1, 2, 32]⟩
abbrev S_ : Shape := ⟨0, ![]⟩
abbrev S32768 : Shape := ⟨1, ![32768]⟩
abbrev S32768x1 : Shape := ⟨2, ![32768, 1]⟩
abbrev S32768x1536 : Shape := ⟨2, ![32768, 1536]⟩
abbrev S16x2048x8x2x96 : Shape := ⟨5, ![16, 2048, 8, 2, 96]⟩
abbrev S16x2048x8x2x64 : Shape := ⟨5, ![16, 2048, 8, 2, 64]⟩
abbrev S16x2048x8x2x32 : Shape := ⟨5, ![16, 2048, 8, 2, 32]⟩
abbrev S16x2048x8x2x16 : Shape := ⟨5, ![16, 2048, 8, 2, 16]⟩
abbrev S16x2048x1x1x32 : Shape := ⟨5, ![16, 2048, 1, 1, 32]⟩
abbrev S16x2048x1x2x32 : Shape := ⟨5, ![16, 2048, 1, 2, 32]⟩
abbrev S16x2048x1x2x16 : Shape := ⟨5, ![16, 2048, 1, 2, 16]⟩
abbrev S256x1024 : Shape := ⟨2, ![256, 1024]⟩
abbrev S16x2048x8x4x32 : Shape := ⟨5, ![16, 2048, 8, 4, 32]⟩
abbrev S16x2048x1x4x32 : Shape := ⟨5, ![16, 2048, 1, 4, 32]⟩
abbrev S32768x128 : Shape := ⟨2, ![32768, 128]⟩
abbrev S16x2048x1x32 : Shape := ⟨4, ![16, 2048, 1, 32]⟩
abbrev S16x30x512 : Shape := ⟨3, ![16, 30, 512]⟩
abbrev S16x2048x512 : Shape := ⟨3, ![16, 2048, 512]⟩
abbrev S16x2078x512 : Shape := ⟨3, ![16, 2078, 512]⟩

abbrev nBuf : Space → Nat
  | .hbm => 132
  | .vmem => 0
  | .smem => 0
  | _ => 0

abbrev hbmTy0_0 (i : Nat) : BufTy := match i % 128 with
  | 0 => ⟨S32768x1024, .f32⟩
  | 1 => ⟨S1024x3744, .f32⟩
  | 2 => ⟨S1x384, .f32⟩
  | 3 => ⟨S384x1536, .f32⟩
  | 4 => ⟨S1x256, .f32⟩
  | 5 => ⟨S256x16x64, .f32⟩
  | 6 => ⟨S256x16x64, .f32⟩
  | 7 => ⟨S2048x128, .f32⟩
  | 8 => ⟨S2048x128, .f32⟩
  | 9 => ⟨S32768x3744, .f32⟩
  | 10 => ⟨S32768x384, .f32⟩
  | 11 => ⟨S32768x256, .f32⟩
  | 12 => ⟨S32768x32, .f32⟩
  | 13 => ⟨S32768x512, .f32⟩
  | 14 => ⟨S32768x512, .f32⟩
  | 15 => ⟨S32768x1024, .f32⟩
  | 16 => ⟨S32768x1024, .f32⟩
  | 17 => ⟨S2048x64, .f32⟩
  | 18 => ⟨S1x2048x1x2x32, .f32⟩
  | 19 => ⟨S2048x64, .f32⟩
  | 20 => ⟨S1x2048x1x2x32, .f32⟩
  | 21 => ⟨S32768x384, .f32⟩
  | 22 => ⟨S_, .f32⟩
  | 23 => ⟨S32768, .f32⟩
  | 24 => ⟨S32768x1, .f32⟩
  | 25 => ⟨S_, .f32⟩
  | 26 => ⟨S32768x1, .f32⟩
  | 27 => ⟨S32768x1, .f32⟩
  | 28 => ⟨S_, .f32⟩
  | 29 => ⟨S32768x1, .f32⟩
  | 30 => ⟨S32768x1, .f32⟩
  | 31 => ⟨S32768x1, .f32⟩
  | 32 => ⟨S32768x384, .f32⟩
  | 33 => ⟨S32768x384, .f32⟩
  | 34 => ⟨S32768x384, .f32⟩
  | 35 => ⟨S32768x384, .f32⟩
  | 36 => ⟨S32768x1536, .f32⟩
  | 37 => ⟨S16x2048x8x2x96, .f32⟩
  | 38 => ⟨S16x2048x8x2x64, .f32⟩
  | 39 => ⟨S16x2048x8x2x32, .f32⟩
  | 40 => ⟨S16x2048x8x2x16, .f32⟩
  | 41 => ⟨S16x2048x8x2x16, .f32⟩
  | 42 => ⟨S16x2048x8x2x32, .f32⟩
  | 43 => ⟨S16x2048x8x2x32, .f32⟩
  | 44 => ⟨S16x2048x8x2x32, .f32⟩
  | 45 => ⟨S16x2048x8x2x32, .f32⟩
  | 46 => ⟨S16x2048x8x2x32, .f32⟩
  | 47 => ⟨S16x2048x8x2x32, .f32⟩
  | 48 => ⟨S32768x256, .f32⟩
  | 49 => ⟨S_, .f32⟩
  | 50 => ⟨S32768, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x256, .f32⟩
  | 60 => ⟨S32768x256, .f32⟩
  | 61 => ⟨S32768x256, .f32⟩
  | 62 => ⟨S32768x256, .f32⟩
  | 63 => ⟨S16x2048x1x1x32, .f32⟩
  | 64 => ⟨S16x2048x1x2x32, .f32⟩
  | 65 => ⟨S16x2048x1x2x16, .f32⟩
  | 66 => ⟨S16x2048x1x2x16, .f32⟩
  | 67 => ⟨S16x2048x1x2x32, .f32⟩
  | 68 => ⟨S16x2048x1x2x32, .f32⟩
  | 69 => ⟨S16x2048x1x2x32, .f32⟩
  | 70 => ⟨S16x2048x1x2x32, .f32⟩
  | 71 => ⟨S16x2048x1x2x32, .f32⟩
  | 72 => ⟨S16x2048x1x2x32, .f32⟩
  | 73 => ⟨S256x1024, .f32⟩
  | 74 => ⟨S32768x1024, .f32⟩
  | 75 => ⟨S256x1024, .f32⟩
  | 76 => ⟨S32768x1024, .f32⟩
  | 77 => ⟨S32768x512, .f32⟩
  | 78 => ⟨S32768x512, .f32⟩
  | 79 => ⟨S_, .f32⟩
  | 80 => ⟨S32768x512, .f32⟩
  | 81 => ⟨S32768x512, .f32⟩
  | 82 => ⟨S_, .f32⟩
  | 83 => ⟨S32768x512, .f32⟩
  | 84 => ⟨S32768x512, .f32⟩
  | 85 => ⟨S32768x512, .f32⟩
  | 86 => ⟨S_, .f32⟩
  | 87 => ⟨S16x2048x8x2x64, .f32⟩
  | 88 => ⟨S16x2048x8x2x64, .f32⟩
  | 89 => ⟨S32768x1024, .f32⟩
  | 90 => ⟨S32768x1024, .bf16⟩
  | 91 => ⟨S_, .f32⟩
  | 92 => ⟨S16x2048x8x2x32, .f32⟩
  | 93 => ⟨S16x2048x8x2x32, .f32⟩
  | 94 => ⟨S_, .f32⟩
  | 95 => ⟨S16x2048x8x2x32, .f32⟩
  | 96 => ⟨S16x2048x8x4x32, .f32⟩
  | 97 => ⟨S32768x1024, .f32⟩
  | 98 => ⟨S32768x1024, .bf16⟩
  | 99 => ⟨S32768x1024, .bf16⟩
  | 100 => ⟨S32768x1024, .bf16⟩
  | 101 => ⟨S_, .f32⟩
  | 102 => ⟨S16x2048x1x2x32, .f32⟩
  | 103 => ⟨S16x2048x1x4x32, .f32⟩
  | 104 => ⟨S32768x128, .f32⟩
  | 105 => ⟨S32768x128, .bf16⟩
  | 106 => ⟨S16x2048x1x1x32, .f32⟩
  | 107 => ⟨S16x2048x1x32, .f32⟩
  | 108 => ⟨S32768x32, .f32⟩
  | 109 => ⟨S32768x1024, .f32⟩
  | 110 => ⟨S32768x1024, .f32⟩
  | 111 => ⟨S_, .f32⟩
  | 112 => ⟨S32768x1024, .f32⟩
  | 113 => ⟨S32768x1024, .f32⟩
  | 114 => ⟨S_, .f32⟩
  | 115 => ⟨S32768x1024, .f32⟩
  | 116 => ⟨S32768x1024, .f32⟩
  | 117 => ⟨S32768x1024, .bf16⟩
  | 118 => ⟨S32768x1024, .f32⟩
  | 119 => ⟨S32768x1024, .f32⟩
  | 120 => ⟨S_, .f32⟩
  | 121 => ⟨S32768x1024, .f32⟩
  | 122 => ⟨S32768x1024, .f32⟩
  | 123 => ⟨S_, .f32⟩
  | 124 => ⟨S32768x1024, .f32⟩
  | 125 => ⟨S32768x1024, .f32⟩
  | 126 => ⟨S32768x1024, .bf16⟩
  | 127 => ⟨S_, .f32⟩
  | _ => ⟨S32768x1024, .f32⟩

abbrev hbmTy0_1 (i : Nat) : BufTy := match i % 128 with
  | 0 => ⟨S16x30x512, .f32⟩
  | 1 => ⟨S16x2048x512, .f32⟩
  | 2 => ⟨S16x2078x512, .f32⟩
  | 3 => ⟨S16x30x512, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_11 : Ref sig .tc := ⟨.hbm, 111, rfl⟩
abbrev main_v90 : Ref sig .tc := ⟨.hbm, 112, rfl⟩
abbrev main_v91 : Ref sig .tc := ⟨.hbm, 113, rfl⟩
abbrev main_cst_12 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_15 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== Kernel3.lean ====
abbrev S128x1024 : Shape := ⟨2, ![128, 1024]⟩
abbrev S1024x3744 : Shape := ⟨2, ![1024, 3744]⟩
abbrev S1x384 : Shape := ⟨2, ![1, 384]⟩
abbrev S384x1536 : Shape := ⟨2, ![384, 1536]⟩
abbrev S1x256 : Shape := ⟨2, ![1, 256]⟩
abbrev S8x128 : Shape := ⟨2, ![8, 128]⟩
abbrev S128x30x512 : Shape := ⟨3, ![128, 30, 512]⟩
abbrev S1024x32 : Shape := ⟨2, ![1024, 32]⟩
abbrev S_ : Shape := ⟨0, ![]⟩
abbrev S1024x64 : Shape := ⟨2, ![1024, 64]⟩
abbrev S1024x384 : Shape := ⟨2, ![1024, 384]⟩
abbrev S1024x256 : Shape := ⟨2, ![1024, 256]⟩
abbrev S1024x1024 : Shape := ⟨2, ![1024, 1024]⟩
abbrev S1024x3840 : Shape := ⟨2, ![1024, 3840]⟩
abbrev S384x16x96 : Shape := ⟨3, ![384, 16, 96]⟩
abbrev S384x16x64 : Shape := ⟨3, ![384, 16, 64]⟩
abbrev S384x1024 : Shape := ⟨2, ![384, 1024]⟩
abbrev S384x16x16 : Shape := ⟨3, ![384, 16, 16]⟩
abbrev S384x16x32 : Shape := ⟨3, ![384, 16, 32]⟩
abbrev S384x512 : Shape := ⟨2, ![384, 512]⟩
abbrev S128x512 : Shape := ⟨2, ![128, 512]⟩
abbrev S128x256 : Shape := ⟨2, ![128, 256]⟩
abbrev S128x32 : Shape := ⟨2, ![128, 32]⟩
abbrev S1x128 : Shape := ⟨2, ![1, 128]⟩
abbrev S1x512 : Shape := ⟨2, ![1, 512]⟩
abbrev S128x384 : Shape := ⟨2, ![128, 384]⟩
abbrev S128 : Shape := ⟨1, ![128]⟩
abbrev S128x1 : Shape := ⟨2, ![128, 1]⟩
abbrev S128x1536 : Shape := ⟨2, ![128, 1536]⟩
abbrev S128x128 : Shape := ⟨2, ![128, 128]⟩
abbrev S1024x128 : Shape := ⟨2, ![1024, 128]⟩
abbrev S1024x512 : Shape := ⟨2, ![1024, 512]⟩
abbrev S128x1x512 : Shape := ⟨3, ![128, 1, 512]⟩
abbrev S128x31x512 : Shape := ⟨3, ![128, 31, 512]⟩

abbrev nBuf : Space → Nat
  | .hbm => 37
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S1024x3744, .f32⟩
  | .hbm, ⟨2, _⟩ => ⟨S1x384, .f32⟩
  | .hbm, ⟨3, _⟩ => ⟨S384x1536, .f32⟩
  | .hbm, ⟨4, _⟩ => ⟨S1x256, .f32⟩
  | .hbm, ⟨5, _⟩ => ⟨S8x128, .f32⟩
  | .hbm, ⟨6, _⟩ => ⟨S8x128, .f32⟩
  | .hbm, ⟨7, _⟩ => ⟨S128x30x512, .f32⟩
  | .hbm, ⟨8, _⟩ => ⟨S1024x32, .f32⟩
  | .hbm, ⟨9, _⟩ => ⟨S_, .f32⟩
  | .hbm, ⟨10, _⟩ => ⟨S1024x64, .f32⟩
  | .hbm, ⟨11, _⟩ => ⟨S1024x384, .f32⟩
  | .hbm, ⟨12, _⟩ => ⟨S1024x256, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x3840, .f32⟩
  | .hbm, ⟨17, _⟩ => ⟨S1024x3840, .bf16⟩
  | .hbm, ⟨18, _⟩ => ⟨S384x16x96, .f32⟩
  | .hbm, ⟨19, _⟩ => ⟨S384x16x64, .f32⟩
  | .hbm, ⟨20, _⟩ => ⟨S384x1024, .f32⟩
  | .hbm, ⟨21, _⟩ => ⟨S384x16x16, .f32⟩
  | .hbm, ⟨22, _⟩ => ⟨S384x16x16, .f32⟩
  | .hbm, ⟨23, _⟩ => ⟨S384x16x32, .f32⟩
  | .hbm, ⟨24, _⟩ => ⟨S384x512, .f32⟩
  | .hbm, ⟨25, _⟩ => ⟨S384x1536, .f32⟩
  | .hbm, ⟨26, _⟩ => ⟨S384x1536, .bf16⟩
  | .hbm, ⟨27, _⟩ => ⟨S128x1024, .bf16⟩
  | .hbm, ⟨28, _⟩ => ⟨S128x512, .f32⟩
  | .hbm, ⟨29, _⟩ => ⟨S128x256, .f32⟩
  | .hbm, ⟨30, _⟩ => ⟨S128x32, .f32⟩
  | .hbm, ⟨31, _⟩ => ⟨S128x512, .f32⟩
  | .hbm, ⟨32, _⟩ => ⟨S128x1024, .bf16⟩
  | .hbm, ⟨33, _⟩ => ⟨S128x1024, .bf16⟩
  | .hbm, ⟨34, _⟩ => ⟨S128x1x512, .f32⟩
  | .hbm, ⟨35, _⟩ => ⟨S128x31x512, .f32⟩
  | .hbm, ⟨36, _⟩ => ⟨S128x30x512, .f32⟩
  | .local _ .vmem, ⟨0, _⟩ => ⟨S128x1024, .f32⟩
  | .local _ .vmem, ⟨1, _⟩ => ⟨S1024x3840, .bf16⟩
  | .local _ .vmem, ⟨2, _⟩ => ⟨S1x384, .f32⟩
  | .local _ .vmem, ⟨3, _⟩ => ⟨S1x256, .f32⟩
  | .local _ .vmem, ⟨4, _⟩ => ⟨S384x1536, .bf16⟩
  | .local _ .vmem, ⟨5, _⟩ => ⟨S8x128, .f32⟩
  | .local _ .vmem, ⟨6, _⟩ => ⟨S8x128, .f32⟩
  | .local _ .vmem, ⟨7, _⟩ => ⟨S128x1024, .bf16⟩
  | .local _ .vmem, ⟨8, _⟩ => ⟨S128x512, .f32⟩
  | .local _ .vmem, ⟨9, _⟩ => ⟨S128x256, .f32⟩
  | .local _ .vmem, ⟨10, _⟩ => ⟨S128x32, .f32⟩
  | .local _ .vmem, ⟨11, _⟩ => ⟨S128x512, .f32⟩
  | .local _ .vmem, ⟨12, _⟩ => ⟨S128x1024, .bf16⟩
  | .local _ .vmem, ⟨13, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference3Ideal.lean ====
abbrev S128x1024 : Shape := ⟨2, ![128, 1024]⟩
abbrev S1024x3744 : Shape := ⟨2, ![1024, 3744]⟩
abbrev S1x384 : Shape := ⟨2, ![1, 384]⟩
abbrev S384x1536 : Shape := ⟨2, ![384, 1536]⟩
abbrev S1x256 : Shape := ⟨2, ![1, 256]⟩
abbrev S8x128 : Shape := ⟨2, ![8, 128]⟩
abbrev S128x30x512 : Shape := ⟨3, ![128, 30, 512]⟩
abbrev S128x3744 : Shape := ⟨2, ![128, 3744]⟩
abbrev S128x384 : Shape := ⟨2, ![128, 384]⟩
abbrev S128x256 : Shape := ⟨2, ![128, 256]⟩
abbrev S128x32 : Shape := ⟨2, ![128, 32]⟩
abbrev S128x512 : Shape := ⟨2, ![128, 512]⟩
abbrev S1x128 : Shape := ⟨2, ![1, 128]⟩
abbrev S128 : Shape := ⟨1, ![128]⟩
abbrev S1x1x4x32 : Shape := ⟨4, ![1, 1, 4, 32]⟩
abbrev S_ : Shape := ⟨0, ![]⟩
abbrev S128x1 : Shape := ⟨2, ![128, 1]⟩
abbrev S128x1536 : Shape := ⟨2, ![128, 1536]⟩
abbrev S128x4x4x96 : Shape := ⟨4, ![128, 4, 4, 96]⟩
abbrev S128x4x4x64 : Shape := ⟨4, ![128, 4, 4, 64]⟩
abbrev S128x4x4x32 : Shape := ⟨4, ![128, 4, 4, 32]⟩
abbrev S128x4x4x16 : Shape := ⟨4, ![128, 4, 4, 16]⟩
abbrev S1x32 : Shape := ⟨2, ![1, 32]⟩
abbrev S128x16 : Shape := ⟨2, ![128, 16]⟩
abbrev S128x1x512 : Shape := ⟨3, ![128, 1, 512]⟩
abbrev S128x31x512 : Shape := ⟨3, ![128, 31, 512]⟩

abbrev nBuf : Space → Nat
  | .hbm => 113
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x3744, .f32⟩
  | .hbm, ⟨2, _⟩ => ⟨S1x384, .f32⟩
  | .hbm, ⟨3, _⟩ => ⟨S384x1536, .f32⟩
  | .hbm, ⟨4, _⟩ => ⟨S1x256, .f32⟩
  | .hbm, ⟨5, _⟩ => ⟨S8x128, .f32⟩
  | .hbm, ⟨6, _⟩ => ⟨S8x128, .f32⟩
  | .hbm, ⟨7, _⟩ => ⟨S128x30x512, .f32⟩
  | .hbm, ⟨8, _⟩ => ⟨S128x3744, .f32⟩
  | .hbm, ⟨9, _⟩ => ⟨S128x384, .f32⟩
  | .hbm, ⟨10, _⟩ => ⟨S128x256, .f32⟩
  | .hbm, ⟨11, _⟩ => ⟨S128x32, .f32⟩
  | .hbm, ⟨12, _⟩ => ⟨S128x512, .f32⟩
  | .hbm, ⟨13, _⟩ => ⟨S128x512, .f32⟩
  | .hbm, ⟨14, _⟩ => ⟨S128x1024, .f32⟩
  | .hbm, ⟨15, _⟩ => ⟨S128x1024, .f32⟩
  | .hbm, ⟨16, _⟩ => ⟨S1x128, .f32⟩
  | .hbm, ⟨17, _⟩ => ⟨S128, .f32⟩
  | .hbm, ⟨18, _⟩ => ⟨S1x1x4x32, .f32⟩
  | .hbm, ⟨19, _⟩ => ⟨S1x128, .f32⟩
  | .hbm, ⟨20, _⟩ => ⟨S128, .f32⟩
  | .hbm, ⟨21, _⟩ => ⟨S1x1x4x32, .f32⟩
  | .hbm, ⟨22, _⟩ => ⟨S128x384, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x384, .f32⟩
  | .hbm, ⟨34, _⟩ => ⟨S128x384, .f32⟩
  | .hbm, ⟨35, _⟩ => ⟨S128x384, .f32⟩
  | .hbm, ⟨36, _⟩ => ⟨S128x384, .f32⟩
  | .hbm, ⟨37, _⟩ => ⟨S128x1536, .f32⟩
  | .hbm, ⟨38, _⟩ => ⟨S128x4x4x96, .f32⟩
  | .hbm, ⟨39, _⟩ => ⟨S128x4x4x64, .f32⟩
  | .hbm, ⟨40, _⟩ => ⟨S128x4x4x32, .f32⟩
  | .hbm, ⟨41, _⟩ => ⟨S128x4x4x16, .f32⟩
  | .hbm, ⟨42, _⟩ => ⟨S128x4x4x16, .f32⟩
  | .hbm, ⟨43, _⟩ => ⟨S128x4x4x32, .f32⟩
  | .hbm, ⟨44, _⟩ => ⟨S128x4x4x32, .f32⟩
  | .hbm, ⟨45, _⟩ => ⟨S128x4x4x32, .f32⟩
  | .hbm, ⟨46, _⟩ => ⟨S128x4x4x32, .f32⟩
  | .hbm, ⟨47, _⟩ => ⟨S128x4x4x32, .f32⟩
  | .hbm, ⟨48, _⟩ => ⟨S128x4x4x32, .f32⟩
  | .hbm, ⟨49, _⟩ => ⟨S128x256, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S_, .f32⟩
  | .hbm, ⟨57, _⟩ => ⟨S128x1, .f32⟩
  | .hbm, ⟨58, _⟩ => ⟨S128x1, .f32⟩
  | .hbm, ⟨59, _⟩ => ⟨S128x1, .f32⟩
  | .hbm, ⟨60, _⟩ => ⟨S128x256, .f32⟩
  | .hbm, ⟨61, _⟩ => ⟨S128x256, .f32⟩
  | .hbm, ⟨62, _⟩ => ⟨S128x256, .f32⟩
  | .hbm, ⟨63, _⟩ => ⟨S128x256, .f32⟩
  | .hbm, ⟨64, _⟩ => ⟨S1x32, .f32⟩
  | .hbm, ⟨65, _⟩ => ⟨S1x32, .f32⟩
  | .hbm, ⟨66, _⟩ => ⟨S128x16, .f32⟩
  | .hbm, ⟨67, _⟩ => ⟨S128x16, .f32⟩
  | .hbm, ⟨68, _⟩ => ⟨S128x32, .f32⟩
  | .hbm, ⟨69, _⟩ => ⟨S128x32, .f32⟩
  | .hbm, ⟨70, _⟩ => ⟨S128x32, .f32⟩
  | .hbm, ⟨71, _⟩ => ⟨S128x32, .f32⟩
  | .hbm, ⟨72, _⟩ => ⟨S128x32, .f32⟩
  | .hbm, ⟨73, _⟩ => ⟨S128x32, .f32⟩
  | .hbm, ⟨74, _⟩ => ⟨S128x512, .f32⟩
  | .hbm, ⟨75, _⟩ => ⟨S128x512, .f32⟩
  | .hbm, ⟨76, _⟩ => ⟨S_, .f32⟩
  | .hbm, ⟨77, _⟩ => ⟨S128x512, .f32⟩
  | .hbm, ⟨78, _⟩ => ⟨S128x512, .f32⟩
  | .hbm, ⟨79, _⟩ => ⟨S_, .f32⟩
  | .hbm, ⟨80, _⟩ => ⟨S128x512, .f32⟩
  | .hbm, ⟨81, _⟩ => ⟨S128x512, .f32⟩
  | .hbm, ⟨82, _⟩ => ⟨S128x512, .f32⟩
  | .hbm, ⟨83, _⟩ => ⟨S_, .f32⟩
  | .hbm, ⟨84, _⟩ => ⟨S128x4x4x64, .f32⟩
  | .hbm, ⟨85, _⟩ => ⟨S128x4x4x64, .f32⟩
  | .hbm, ⟨86, _⟩ => ⟨S128x1024, .f32⟩
  | .hbm, ⟨87, _⟩ => ⟨S128x1024, .bf16⟩
  | .hbm, ⟨88, _⟩ => ⟨S_, .f32⟩
  | .hbm, ⟨89, _⟩ => ⟨S128x4x4x32, .f32⟩
  | .hbm, ⟨90, _⟩ => ⟨S128x4x4x32, .f32⟩
  | .hbm, ⟨91, _⟩ => ⟨S128x512, .f32⟩
  | .hbm, ⟨92, _⟩ => ⟨S128x1024, .f32⟩
  | .hbm, ⟨93, _⟩ => ⟨S128x1024, .f32⟩
  | .hbm, ⟨94, _⟩ => ⟨S_, .f32⟩
  | .hbm, ⟨95, _⟩ => ⟨S128x1024, .f32⟩
  | .hbm, ⟨96, _⟩ => ⟨S128x1024, .f32⟩
  | .hbm, ⟨97, _⟩ => ⟨S_, .f32⟩
  | .hbm, ⟨98, _⟩ => ⟨S128x1024, .f32⟩
  | .hbm, ⟨99, _⟩ => ⟨S128x1024, .f32⟩
  | .hbm, ⟨100, _⟩ => ⟨S128x1024, .bf16⟩
  | .hbm, ⟨101, _⟩ => ⟨S128x1024, .f32⟩
  | .hbm, ⟨102, _⟩ => ⟨S128x1024, .f32⟩
  | .hbm, ⟨103, _⟩ => ⟨S_, .f32⟩
  | .hbm, ⟨104, _⟩ => ⟨S128x1024, .f32⟩
  | .hbm, ⟨105, _⟩ => ⟨S128x1024, .f32⟩
  | .hbm, ⟨106, _⟩ => ⟨S_, .f32⟩
  | .hbm, ⟨107, _⟩ => ⟨S128x1024, .f32⟩
  | .hbm, ⟨108, _⟩ => ⟨S128x1024, .f32⟩
  | .hbm, ⟨109, _⟩ => ⟨S128x1024, .bf16⟩
  | .hbm, ⟨110, _⟩ => ⟨S128x1x512, .f32⟩
  | .hbm, ⟨111, _⟩ => ⟨S128x31x512, .f32⟩
  | .hbm, ⟨112, _⟩ => ⟨S128x30x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_9 : Ref sig .tc := ⟨.hbm, 94, rfl⟩
abbrev main_v76 : Ref sig .tc := ⟨.hbm, 95, rfl⟩
abbrev main_v77 : Ref sig .tc := ⟨.hbm, 96, rfl⟩
abbrev main_cst_10 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_v84 : Ref sig .tc := ⟨.hbm, 105, rfl⟩
abbrev main_cst_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩

abbrev nD : Nat := 1
abbrev τ : Topo := Topo.v7x

variable {F : FTy → Type} [FloatOps F]
-- ==== Kernel4.lean ====
abbrev S128 : Shape := ⟨1, ![128]⟩
abbrev S16 : Shape := ⟨1, ![16]⟩
abbrev S_ : Shape := ⟨0, ![]⟩
abbrev S128x1 : Shape := ⟨2, ![128, 1]⟩
abbrev S1x128 : Shape := ⟨2, ![1, 128]⟩
abbrev S2048x128 : Shape := ⟨2, ![2048, 128]⟩
abbrev S512x128 : Shape := ⟨2, ![512, 128]⟩

abbrev nBuf : Space → Nat
  | .hbm => 26
  | .vmem => 7
  | .smem => 0
  | _ => 0

abbrev bufTy : (tb : Table) → Fin (tcTables nBuf tb) → BufTy
  | .hbm, ⟨0, _⟩ => ⟨S128, .i32⟩
  | .hbm, ⟨1, _⟩ => ⟨S128, .i1⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S2048x128, .f32⟩
  | .hbm, ⟨25, _⟩ => ⟨S2048x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_c : Ref sig .tc := ⟨.hbm, 0, rfl⟩
abbrev main_c_0 : Ref sig .tc := ⟨.hbm, 1, rfl⟩
abbrev main_cst : Ref sig .tc := ⟨.hbm, 2, rfl⟩
abbrev main_cst_1 : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_v2 : Ref sig .tc := ⟨.hbm, 7, rfl⟩
abbrev main_cst_3 : Ref sig .tc := ⟨.hbm, 8, rfl⟩
abbrev main_v3 : Ref sig .tc := ⟨.hbm, 9, rfl⟩
abbrev main_v4 : Ref sig .tc := ⟨.hbm, 10, rfl⟩
abbrev main_cst_4 : Ref sig .tc := ⟨.hbm, 11, rfl⟩
abbrev main_v5 : Ref sig .tc := ⟨.hbm, 12, rfl⟩
abbrev main_v6 : Ref sig .tc := ⟨.hbm, 13, rfl⟩
abbrev main_c_5 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩

abbrev nBuf : Space → Nat
  | .hbm => 28
  | .vmem => 0
  | .smem => 0
  | _ => 0

abbrev bufTy : (tb : Table) → Fin (tcTables nBuf tb) → BufTy
  | .hbm, ⟨0, _⟩ => ⟨S2048, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2048, .f32⟩
  | .hbm, ⟨12, _⟩ => ⟨S2048x1, .f32⟩
  | .hbm, ⟨13, _⟩ => ⟨S1x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x32, .f32⟩
  | .hbm, ⟨20, _⟩ => ⟨S2048x16, .f32⟩
  | .hbm, ⟨21, _⟩ => ⟨S2048x32, .f32⟩
  | .hbm, ⟨22, _⟩ => ⟨S_, .f32⟩
  | .hbm, ⟨23, _⟩ => ⟨S2048x64, .f32⟩
  | .hbm, ⟨24, _⟩ => ⟨S2048x128, .f32⟩
  | .hbm, ⟨25, _⟩ => ⟨S_, .f32⟩
  | .hbm, ⟨26, _⟩ => ⟨S2048x64, .f32⟩
  | .hbm, ⟨27, _⟩ => ⟨S2048x128, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_cst : Ref sig .tc := ⟨.hbm, 2, rfl⟩
abbrev main_v2 : Ref sig .tc := ⟨.hbm, 3, rfl⟩
abbrev main_v3 : Ref sig .tc := ⟨.hbm, 4, rfl⟩
abbrev main_cst_0 : Ref sig .tc := ⟨.hbm, 5, rfl⟩
abbrev main_v4 : Ref sig .tc := ⟨.hbm, 6, rfl⟩
abbrev main_v5 : Ref sig .tc := ⟨.hbm, 7, rfl⟩
abbrev main_cst_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_2 : Ref sig .tc := ⟨.hbm, 22, rfl⟩
abbrev main_v19 : Ref sig .tc := ⟨.hbm, 23, rfl⟩
abbrev main_v20 : Ref sig .tc := ⟨.hbm, 24, rfl⟩
abbrev main_cst_3 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel5.lean ====
abbrev S128 : Shape := ⟨1, ![128]⟩
abbrev S16 : Shape := ⟨1, ![16]⟩
abbrev S_ : Shape := ⟨0, ![]⟩
abbrev S128x1 : Shape := ⟨2, ![128, 1]⟩
abbrev S1x128 : Shape := ⟨2, ![1, 128]⟩
abbrev S8x128 : Shape := ⟨2, ![8, 128]⟩

abbrev nBuf : Space → Nat
  | .hbm => 26
  | .vmem => 5
  | .smem => 0
  | _ => 0

abbrev bufTy : (tb : Table) → Fin (tcTables nBuf tb) → BufTy
  | .hbm, ⟨0, _⟩ => ⟨S128, .i32⟩
  | .hbm, ⟨1, _⟩ => ⟨S128, .i1⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S8x128, .f32⟩
  | .hbm, ⟨25, _⟩ => ⟨S8x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S8x128, .f32⟩
  | .local _ .vmem, ⟨4, _⟩ => ⟨S8x128, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_c : Ref sig .tc := ⟨.hbm, 0, rfl⟩
abbrev main_c_0 : Ref sig .tc := ⟨.hbm, 1, rfl⟩
abbrev main_cst : Ref sig .tc := ⟨.hbm, 2, rfl⟩
abbrev main_cst_1 : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_v2 : Ref sig .tc := ⟨.hbm, 7, rfl⟩
abbrev main_cst_3 : Ref sig .tc := ⟨.hbm, 8, rfl⟩
abbrev main_v3 : Ref sig .tc := ⟨.hbm, 9, rfl⟩
abbrev main_v4 : Ref sig .tc := ⟨.hbm, 10, rfl⟩
abbrev main_cst_4 : Ref sig .tc := ⟨.hbm, 11, rfl⟩
abbrev main_v5 : Ref sig .tc := ⟨.hbm, 12, rfl⟩
abbrev main_v6 : Ref sig .tc := ⟨.hbm, 13, rfl⟩
abbrev main_c_5 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference5Ideal.lean ====
abbrev S_ : Shape := ⟨0, ![]⟩
abbrev S8 : Shape := ⟨1, ![8]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x32 : Shape := ⟨2, ![8, 32]⟩
abbrev S1x8x1x32 : Shape := ⟨4, ![1, 8, 1, 32]⟩
abbrev S1x8x4x32 : Shape := ⟨4, ![1, 8, 4, 32]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S_, .i32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8, .f32⟩
  | .hbm, ⟨16, _⟩ => ⟨S8x1, .f32⟩
  | .hbm, ⟨17, _⟩ => ⟨S1x16, .f32⟩
  | .hbm, ⟨18, _⟩ => ⟨S8x16, .f32⟩
  | .hbm, ⟨19, _⟩ => ⟨S8x16, .f32⟩
  | .hbm, ⟨20, _⟩ => ⟨S8x16, .f32⟩
  | .hbm, ⟨21, _⟩ => ⟨S8x16, .f32⟩
  | .hbm, ⟨22, _⟩ => ⟨S8x16, .f32⟩
  | .hbm, ⟨23, _⟩ => ⟨S8x32, .f32⟩
  | .hbm, ⟨24, _⟩ => ⟨S8x16, .f32⟩
  | .hbm, ⟨25, _⟩ => ⟨S8x32, .f32⟩
  | .hbm, ⟨26, _⟩ => ⟨S1x8x1x32, .f32⟩
  | .hbm, ⟨27, _⟩ => ⟨S1x8x4x32, .f32⟩
  | .hbm, ⟨28, _⟩ => ⟨S8x128, .f32⟩
  | .hbm, ⟨29, _⟩ => ⟨S1x8x1x32, .f32⟩
  | .hbm, ⟨30, _⟩ => ⟨S1x8x4x32, .f32⟩
  | .hbm, ⟨31, _⟩ => ⟨S8x128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_c : Ref sig .tc := ⟨.hbm, 0, rfl⟩
abbrev main_v0 : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel6.lean ====
abbrev S128x1024 : Shape := ⟨2, ![128, 1024]⟩
abbrev S128x512 : Shape := ⟨2, ![128, 512]⟩
abbrev S1024x1024 : Shape := ⟨2, ![1024, 1024]⟩
abbrev S512x1024 : Shape := ⟨2, ![512, 1024]⟩
abbrev S1x512 : Shape := ⟨2, ![1, 512]⟩
abbrev S1x1024 : Shape := ⟨2, ![1, 1024]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S128x128 : Shape := ⟨2, ![128, 128]⟩
abbrev S8x128 : Shape := ⟨2, ![8, 128]⟩
abbrev S128 : Shape := ⟨1, ![128]⟩
abbrev S128x1 : Shape := ⟨2, ![128, 1]⟩
abbrev S1x128 : Shape := ⟨2, ![1, 128]⟩

abbrev nBuf : Space → Nat
  | .hbm => 28
  | .vmem => 18
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x512, .f32⟩
  | .hbm, ⟨3, _⟩ => ⟨S128x1024, .bf16⟩
  | .hbm, ⟨4, _⟩ => ⟨S128x1024, .bf16⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1x512, .f32⟩
  | .hbm, ⟨9, _⟩ => ⟨S1x512, .f32⟩
  | .hbm, ⟨10, _⟩ => ⟨S1x1024, .f32⟩
  | .hbm, ⟨11, _⟩ => ⟨S1x1024, .f32⟩
  | .hbm, ⟨12, _⟩ => ⟨S1024x4, .f32⟩
  | .hbm, ⟨13, _⟩ => ⟨S1024x32, .f32⟩
  | .hbm, ⟨14, _⟩ => ⟨S_, .f32⟩
  | .hbm, ⟨15, _⟩ => ⟨S1024x92, .f32⟩
  | .hbm, ⟨16, _⟩ => ⟨S1024x128, .f32⟩
  | .hbm, ⟨17, _⟩ => ⟨S1024x128, .bf16⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S1024x1024, .bf16⟩
  | .hbm, ⟨22, _⟩ => ⟨S512x1024, .bf16⟩
  | .hbm, ⟨23, _⟩ => ⟨S1024x1024, .bf16⟩
  | .hbm, ⟨24, _⟩ => ⟨S128x1024, .f32⟩
  | .hbm, ⟨25, _⟩ => ⟨S1024x128, .f32⟩
  | .hbm, ⟨26, _⟩ => ⟨S128x128, .f32⟩
  | .hbm, ⟨27, _⟩ => ⟨S8x128, .f32⟩
  | .local _ .vmem, ⟨0, _⟩ => ⟨S128x1024, .f32⟩
  | .local _ .vmem, ⟨1, _⟩ => ⟨S128x1024, .bf16⟩
  | .local _ .vmem, ⟨2, _⟩ => ⟨S128x512, .f32⟩
  | .local _ .vmem, ⟨3, _⟩ => ⟨S128x1024, .bf16⟩
  | .local _ .vmem, ⟨4, _⟩ => ⟨S128x1024, .bf16⟩
  | .local _ .vmem, ⟨5, _⟩ => ⟨S1024x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S1024x128, .bf16⟩
  | .local _ .vmem, ⟨13, _⟩ => ⟨S1024x128, .bf16⟩
  | .local _ .vmem, ⟨14, _⟩ => ⟨S128x1024, .f32⟩
  | .local _ .vmem, ⟨15, _⟩ => ⟨S1024x128, .f32⟩
  | .local _ .vmem, ⟨16, _⟩ => ⟨S128x128, .f32⟩
  | .local _ .vmem, ⟨17, _⟩ => ⟨S8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference6Ideal.lean ====
abbrev S128x1024 : Shape := ⟨2, ![128, 1024]⟩
abbrev S128x512 : Shape := ⟨2, ![128, 512]⟩
abbrev S1024x1024 : Shape := ⟨2, ![1024, 1024]⟩
abbrev S512x1024 : Shape := ⟨2, ![512, 1024]⟩
abbrev S1x512 : Shape := ⟨2, ![1, 512]⟩
abbrev S1x1024 : Shape := ⟨2, ![1, 1024]⟩
abbrev S1024x4 : Shape := ⟨2, ![1024, 4]⟩
abbrev S1024x32 : Shape := ⟨2, ![1024, 32]⟩
abbrev S_ : Shape := ⟨0, ![]⟩
abbrev S128 : Shape := ⟨1, ![128]⟩
abbrev S128x1 : Shape := ⟨2, ![128, 1]⟩
abbrev S1024x128 : Shape := ⟨2, ![1024, 128]⟩

abbrev nBuf : Space → Nat
  | .hbm => 91
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x512, .f32⟩
  | .hbm, ⟨3, _⟩ => ⟨S128x1024, .bf16⟩
  | .hbm, ⟨4, _⟩ => ⟨S128x1024, .bf16⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1x512, .f32⟩
  | .hbm, ⟨9, _⟩ => ⟨S1x512, .f32⟩
  | .hbm, ⟨10, _⟩ => ⟨S1x1024, .f32⟩
  | .hbm, ⟨11, _⟩ => ⟨S1x1024, .f32⟩
  | .hbm, ⟨12, _⟩ => ⟨S1024x4, .f32⟩
  | .hbm, ⟨13, _⟩ => ⟨S1024x32, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x512, .f32⟩
  | .hbm, ⟨38, _⟩ => ⟨S128x512, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S_, .f32⟩
  | .hbm, ⟨46, _⟩ => ⟨S128x512, .f32⟩
  | .hbm, ⟨47, _⟩ => ⟨S128x512, .f32⟩
  | .hbm, ⟨48, _⟩ => ⟨S_, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S_, .f32⟩
  | .hbm, ⟨60, _⟩ => ⟨S128x1024, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S128x1024, .f32⟩
  | .hbm, ⟨70, _⟩ => ⟨S128x1024, .f32⟩
  | .hbm, ⟨71, _⟩ => ⟨S128x1024, .f32⟩
  | .hbm, ⟨72, _⟩ => ⟨S_, .f32⟩
  | .hbm, ⟨73, _⟩ => ⟨S128, .f32⟩
  | .hbm, ⟨74, _⟩ => ⟨S128x1, .f32⟩
  | .hbm, ⟨75, _⟩ => ⟨S_, .f32⟩
  | .hbm, ⟨76, _⟩ => ⟨S128x1, .f32⟩
  | .hbm, ⟨77, _⟩ => ⟨S128x1, .f32⟩
  | .hbm, ⟨78, _⟩ => ⟨S128x1024, .f32⟩
  | .hbm, ⟨79, _⟩ => ⟨S128x1024, .f32⟩
  | .hbm, ⟨80, _⟩ => ⟨S_, .f32⟩
  | .hbm, ⟨81, _⟩ => ⟨S128x1, .f32⟩
  | .hbm, ⟨82, _⟩ => ⟨S128x1, .f32⟩
  | .hbm, ⟨83, _⟩ => ⟨S128x1, .f32⟩
  | .hbm, ⟨84, _⟩ => ⟨S128x1024, .f32⟩
  | .hbm, ⟨85, _⟩ => ⟨S128x1024, .f32⟩
  | .hbm, ⟨86, _⟩ => ⟨S128x1024, .f32⟩
  | .hbm, ⟨87, _⟩ => ⟨S128x1024, .f32⟩
  | .hbm, ⟨88, _⟩ => ⟨S128x1024, .f32⟩
  | .hbm, ⟨89, _⟩ => ⟨S128x1024, .f32⟩
  | .hbm, ⟨90, _⟩ => ⟨S1024x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Kernel7.lean ====
abbrev S128x31x512 : Shape := ⟨3, ![128, 31, 512]⟩
abbrev S31x512 : Shape := ⟨2, ![31, 512]⟩
abbrev S1x512 : Shape := ⟨2, ![1, 512]⟩
abbrev S_ : Shape := ⟨0, ![]⟩
abbrev S32x512 : Shape := ⟨2, ![32, 512]⟩
abbrev S31x128x512 : Shape := ⟨3, ![31, 128, 512]⟩
abbrev S128x512 : Shape := ⟨2, ![128, 512]⟩
abbrev S1x128x512 : Shape := ⟨3, ![1, 128, 512]⟩

abbrev nBuf : Space → Nat
  | .hbm => 8
  | .vmem => 4
  | .smem => 0
  | _ => 0

abbrev bufTy : (tb : Table) → Fin (tcTables nBuf tb) → BufTy
  | .hbm, ⟨0, _⟩ => ⟨S128x31x512, .f32⟩
  | .hbm, ⟨1, _⟩ => ⟨S31x512, .f32⟩
  | .hbm, ⟨2, _⟩ => ⟨S1x512, .f32⟩
  | .hbm, ⟨3, _⟩ => ⟨S_, .f32⟩
  | .hbm, ⟨4, _⟩ => ⟨S1x512, .f32⟩
  | .hbm, ⟨5, _⟩ => ⟨S32x512, .f32⟩
  | .hbm, ⟨6, _⟩ => ⟨S31x128x512, .f32⟩
  | .hbm, ⟨7, _⟩ => ⟨S128x512, .f32⟩
  | .local _ .vmem, ⟨0, _⟩ => ⟨S31x128x512, .f32⟩
  | .local _ .vmem, ⟨1, _⟩ => ⟨S32x512, .f32⟩
  | .local _ .vmem, ⟨2, _⟩ => ⟨S1x512, .f32⟩
  | .local _ .vmem, ⟨3, _⟩ => ⟨S128x512, .f32⟩
  | _, _ => ⟨S128x31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S31x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S128x31x512 : Shape := ⟨3, ![128, 31, 512]⟩
abbrev S31x512 : Shape := ⟨2, ![31, 512]⟩
abbrev S1x512 : Shape := ⟨2, ![1, 512]⟩
abbrev S1x31x512 : Shape := ⟨3, ![1, 31, 512]⟩
abbrev S_ : Shape := ⟨0, ![]⟩
abbrev S128x512 : Shape := ⟨2, ![128, 512]⟩

abbrev nBuf : Space → Nat
  | .hbm => 10
  | .vmem => 0
  | .smem => 0
  | _ => 0

abbrev bufTy : (tb : Table) → Fin (tcTables nBuf tb) → BufTy
  | .hbm, ⟨0, _⟩ => ⟨S128x31x512, .f32⟩
  | .hbm, ⟨1, _⟩ => ⟨S31x512, .f32⟩
  | .hbm, ⟨2, _⟩ => ⟨S1x512, .f32⟩
  | .hbm, ⟨3, _⟩ => ⟨S1x31x512, .f32⟩
  | .hbm, ⟨4, _⟩ => ⟨S128x31x512, .f32⟩
  | .hbm, ⟨5, _⟩ => ⟨S128x31x512, .f32⟩
  | .hbm, ⟨6, _⟩ => ⟨S_, .f32⟩
  | .hbm, ⟨7, _⟩ => ⟨S128x512, .f32⟩
  | .hbm, ⟨8, _⟩ => ⟨S128x512, .f32⟩
  | .hbm, ⟨9, _⟩ => ⟨S128x512, .f32⟩
  | _, _ => ⟨S128x31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S128x1024 : Shape := ⟨2, ![128, 1024]⟩
abbrev S1024x4096 : Shape := ⟨2, ![1024, 4096]⟩
abbrev S128x4096 : Shape := ⟨2, ![128, 4096]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .bf16⟩
  | .hbm, ⟨1, _⟩ => ⟨S1024x4096, .bf16⟩
  | .hbm, ⟨2, _⟩ => ⟨S128x4096, .f32⟩
  | .local _ .vmem, ⟨0, _⟩ => ⟨S128x1024, .bf16⟩
  | .local _ .vmem, ⟨1, _⟩ => ⟨S1024x4096, .bf16⟩
  | .local _ .vmem, ⟨2, _⟩ => ⟨S128x4096, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S128x1024 : Shape := ⟨2, ![128, 1024]⟩
abbrev S1024x4096 : Shape := ⟨2, ![1024, 4096]⟩
abbrev S128x4096 : Shape := ⟨2, ![128, 4096]⟩

abbrev nBuf : Space → Nat
  | .hbm => 5
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S1024x4096, .bf16⟩
  | .hbm, ⟨2, _⟩ => ⟨S128x1024, .f32⟩
  | .hbm, ⟨3, _⟩ => ⟨S1024x4096, .f32⟩
  | .hbm, ⟨4, _⟩ => ⟨S128x4096, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S128x4096 : Shape := ⟨2, ![128, 4096]⟩
abbrev S4096x1024 : Shape := ⟨2, ![4096, 1024]⟩
abbrev S128x1024 : Shape := ⟨2, ![128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x4096, .f32⟩
  | .hbm, ⟨1, _⟩ => ⟨S4096x1024, .bf16⟩
  | .hbm, ⟨2, _⟩ => ⟨S128x1024, .bf16⟩
  | .local _ .vmem, ⟨0, _⟩ => ⟨S128x4096, .f32⟩
  | .local _ .vmem, ⟨1, _⟩ => ⟨S4096x1024, .bf16⟩
  | .local _ .vmem, ⟨2, _⟩ => ⟨S128x1024, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference9Ideal.lean ====
abbrev S128x4096 : Shape := ⟨2, ![128, 4096]⟩
abbrev S4096x1024 : Shape := ⟨2, ![4096, 1024]⟩
abbrev S128x1024 : Shape := ⟨2, ![128, 1024]⟩

abbrev nBuf : Space → Nat
  | .hbm => 5
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096x1024, .bf16⟩
  | .hbm, ⟨2, _⟩ => ⟨S4096x1024, .f32⟩
  | .hbm, ⟨3, _⟩ => ⟨S128x1024, .f32⟩
  | .hbm, ⟨4, _⟩ => ⟨S128x1024, .bf16⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Online.lean ====
/- The online softmax over the extended reals, for one query: a running maximum, a running denominator and a running
   weighted sum, taken over a growing range of keys. Scores are never `⊤`; a masked key's score is `⊥`. -/
module

public import Idealize.ShloMosaic.PureOps.Ideal
public import Mathlib.Data.EReal.Inv
public import Mathlib.Algebra.BigOperators.Intervals

@[expose] public section

namespace Cert.Online

open Idealize.ShloMosaic Finset

/-- A power of two is not negative. -/
theorem exp2_nonneg (x : EReal) : 0 ≤ Ideal.exp2 x := by
  induction x with
  | bot => simp
  | coe r => simp only [Ideal.exp2_coe]; exact_mod_cast Real.rpow_nonneg (by norm_num) r
  | top => simp

/-- A power of two with an exponent below `⊤` is not `⊤`. -/
theorem exp2_ne_top {x : EReal} (h : x ≠ ⊤) : Ideal.exp2 x ≠ ⊤ := by
  induction x with
  | bot => simp
  | coe r => simp only [Ideal.exp2_coe]; exact EReal.coe_ne_top _
  | top => exact absurd rfl h

/-- A difference of two scores, the second not below the first, is not `⊤`. -/
theorem sub_ne_top {x m : EReal} (h : x ≤ m) (hm : m ≠ ⊤) : x - m ≠ ⊤ := by
  induction x with
  | bot => rw [EReal.bot_sub]; exact bot_ne_top
  | top => exact absurd (top_le_iff.mp h) hm
  | coe r =>
    induction m with
    | bot => exact absurd (le_bot_iff.mp h) (EReal.coe_ne_bot r)
    | top => exact absurd rfl hm
    | coe s => rw [← EReal.coe_sub]; exact EReal.coe_ne_top _

/-- Moving a weight from the old maximum to the new one multiplies it by the power of two of their difference. -/
theorem exp2_shift {x m m' : EReal} (h : x ≤ m) (h' : m ≤ m') (ht : m' ≠ ⊤) :
    Ideal.exp2 (x - m') = Ideal.exp2 (m - m') * Ideal.exp2 (x - m) := by
  have hm : m ≠ ⊤ := fun e => ht (top_le_iff.mp (e ▸ h'))
  induction x with
  | bot => simp
  | top => exact absurd (top_le_iff.mp h) hm
  | coe r =>
    induction m with
    | bot => exact absurd (le_bot_iff.mp h) (EReal.coe_ne_bot r)
    | top => exact absurd rfl hm
    | coe s =>
      induction m' with
      | bot => exact absurd (le_bot_iff.mp h') (EReal.coe_ne_bot s)
      | top => exact absurd rfl ht
      | coe t =>
        simp only [← EReal.coe_sub, Ideal.exp2_coe, ← EReal.coe_mul]
        congr 1
        show (2 : ℝ) ^ (r - t) = (2 : ℝ) ^ (s - t) * (2 : ℝ) ^ (r - s)
        rw [← Real.rpow_add (by norm_num)]
        congr 1
        ring

/-- A finite factor that is not negative goes into a sum of extended reals. -/
theorem mul_sum_of_nonneg {c : EReal} (h0 : 0 ≤ c) (ht : c ≠ ⊤) (s : Finset ℕ) (f : ℕ → EReal) :
    c * ∑ k ∈ s, f k = ∑ k ∈ s, c * f k := by
  induction s using Finset.induction_on with
  | empty => simp
  | insert a s ha ih => rw [sum_insert ha, sum_insert ha, EReal.left_distrib_of_nonneg_of_ne_top h0 ht, ih]

/-- The state after the first `n` keys: `m` is their largest score, `l` the sum of their weights, `a` the weighted sum of
    their values. -/
def State (σ V : ℕ → EReal) (n : ℕ) (m l a : EReal) : Prop :=
  m = (range n).sup σ ∧ l = ∑ k ∈ range n, Ideal.exp2 (σ k - m) ∧ a = ∑ k ∈ range n, Ideal.exp2 (σ k - m) * V k

/-- Before any key. -/
theorem State.zero (σ V : ℕ → EReal) : State σ V 0 ⊥ 0 0 := by simp [State]

/-- The largest of finitely many scores below `⊤` is below `⊤`. -/
theorem sup_ne_top {σ : ℕ → EReal} (hσ : ∀ k, σ k ≠ ⊤) (s : Finset ℕ) : s.sup σ ≠ ⊤ := by
  have : s.sup σ < ⊤ := (Finset.sup_lt_iff (by exact bot_lt_top)).mpr fun k _ => lt_top_iff_ne_top.mpr (hσ k)
  exact this.ne

/-- The largest score of the first `n + w` keys. -/
theorem sup_range_add (σ : ℕ → EReal) (n w : ℕ) :
    (range (n + w)).sup σ = max ((range n).sup σ) ((range w).sup fun c => σ (n + c)) := by
  refine le_antisymm (Finset.sup_le fun k hk => ?_) (max_le (Finset.sup_mono (range_mono (Nat.le_add_right n w)))
    (Finset.sup_le fun c hc => Finset.le_sup (f := σ) (mem_range.mpr (by have := mem_range.mp hc; omega))))
  by_cases h : k < n
  · exact le_max_of_le_left (Finset.le_sup (f := σ) (mem_range.mpr h))
  · have hk' := mem_range.mp hk
    refine le_max_of_le_right ?_
    have := Finset.le_sup (f := fun c => σ (n + c)) (s := range w) (b := k - n) (mem_range.mpr (by omega))
    simpa [show n + (k - n) = k by omega] using this

/-- One step over the next `w` keys. -/
theorem State.step {σ V : ℕ → EReal} (hσ : ∀ k, σ k ≠ ⊤) {n : ℕ} {m l a : EReal} (h : State σ V n m l a) (w : ℕ) {m' l' a' : EReal}
    (hm : m' = max m ((range w).sup fun c => σ (n + c)))
    (hl : l' = Ideal.exp2 (m - m') * l + ∑ c ∈ range w, Ideal.exp2 (σ (n + c) - m'))
    (ha : a' = Ideal.exp2 (m - m') * a + ∑ c ∈ range w, Ideal.exp2 (σ (n + c) - m') * V (n + c)) :
    State σ V (n + w) m' l' a' := by
  obtain ⟨h1, h2, h3⟩ := h
  have hm' : m' = (range (n + w)).sup σ := by rw [hm, h1, sup_range_add]
  have ht : m' ≠ ⊤ := hm' ▸ sup_ne_top hσ _
  have hle : m ≤ m' := hm ▸ le_max_left _ _
  have hx : ∀ k ∈ range n, Ideal.exp2 (σ k - m') = Ideal.exp2 (m - m') * Ideal.exp2 (σ k - m) := fun k hk =>
    exp2_shift (h1 ▸ Finset.le_sup hk) hle ht
  have hf := exp2_ne_top (sub_ne_top hle ht)
  refine ⟨hm', ?_, ?_⟩
  · rw [hl, h2, mul_sum_of_nonneg (exp2_nonneg _) hf, sum_range_add]
    congr 1
    exact sum_congr rfl fun k hk => (hx k hk).symm
  · rw [ha, h3, mul_sum_of_nonneg (exp2_nonneg _) hf, sum_range_add]
    congr 1
    exact sum_congr rfl fun k hk => by rw [hx k hk, mul_assoc]

/-- Masked keys change nothing. -/
theorem State.masked {σ V : ℕ → EReal} {n : ℕ} {m l a : EReal} (h : State σ V n m l a) (w : ℕ) (hb : ∀ k, n ≤ k → σ k = ⊥) :
    State σ V (n + w) m l a := by
  obtain ⟨h1, h2, h3⟩ := h
  refine ⟨?_, ?_, ?_⟩
  · rw [sup_range_add, ← h1, max_eq_left]
    exact Finset.sup_le fun c _ => by rw [hb _ (Nat.le_add_right n c)]; exact bot_le
  · rw [sum_range_add, ← h2, sum_eq_zero, add_zero]
    intro c _; rw [hb _ (Nat.le_add_right n c)]; simp
  · rw [sum_range_add, ← h3, sum_eq_zero, add_zero]
    intro c _; rw [hb _ (Nat.le_add_right n c)]; simp

/-- The natural logarithm of two. -/
noncomputable def ln2 : EReal := ((Real.log 2 : ℝ) : EReal)

/-- Scores in natural units give the same weights. -/
theorem exp_ln2 {x m : EReal} (hx : x ≠ ⊤) (hm : m ≠ ⊤) (hb : m ≠ ⊥) : Ideal.exp (x * ln2 - m * ln2) = Ideal.exp2 (x - m) := by
  have hl : 0 < Real.log 2 := Real.log_pos (by norm_num)
  induction m with
  | bot => exact absurd rfl hb
  | top => exact absurd rfl hm
  | coe s =>
    induction x with
    | bot => rw [ln2, EReal.bot_mul_coe_of_pos hl]; simp
    | top => exact absurd rfl hx
    | coe r =>
      simp only [ln2, ← EReal.coe_mul, ← EReal.coe_sub, Ideal.exp_coe, Ideal.exp2_coe]
      congr 1
      show Real.exp (r * Real.log 2 - s * Real.log 2) = (2 : ℝ) ^ (r - s)
      rw [Real.rpow_def_of_pos (by norm_num)]
      congr 1
      ring

/-- The largest score in natural units. -/
theorem sup_ln2 (σ : ℕ → EReal) (n : ℕ) : (range n).sup (fun k => σ k * ln2) = (range n).sup σ * ln2 := by
  have hl : 0 < Real.log 2 := Real.log_pos (by norm_num)
  refine (Finset.comp_sup_eq_sup_comp_of_is_total (fun x : EReal => x * ln2) (fun x y hxy => ?_) ?_).symm
  · exact mul_le_mul_of_nonneg_right hxy (by unfold ln2; exact_mod_cast hl.le)
  · exact EReal.bot_mul_coe_of_pos hl

/-- Scores under the causal mask of query `g`. -/
noncomputable def causal (s : ℕ → EReal) (g : ℕ) (k : ℕ) : EReal := if k ≤ g then s k else ⊥

/-- The softmax of the first `n` scores, taken in natural units, applied to the values. -/
noncomputable def soft (σ V : ℕ → EReal) (n : ℕ) : EReal :=
  ∑ k ∈ range n, Ideal.div (Ideal.exp (σ k * ln2 - (range n).sup fun k => σ k * ln2))
    (∑ k ∈ range n, Ideal.exp (σ k * ln2 - (range n).sup fun k => σ k * ln2)) * V k

theorem soft_congr {σ σ' V V' : ℕ → EReal} {n : ℕ} (h : ∀ k, k < n → σ k = σ' k) (hV : ∀ k, k < n → V k = V' k) : soft σ V n = soft σ' V' n := by
  unfold soft
  have e : ((range n).sup fun k => σ k * ln2) = (range n).sup fun k => σ' k * ln2 :=
    Finset.sup_congr rfl fun k hk => by rw [h k (Finset.mem_range.mp hk)]
  have s : ∀ M, ∑ k ∈ range n, Ideal.exp (σ k * ln2 - M) = ∑ k ∈ range n, Ideal.exp (σ' k * ln2 - M) := fun M =>
    Finset.sum_congr rfl fun k hk => by rw [h k (Finset.mem_range.mp hk)]
  rw [e, s]
  exact Finset.sum_congr rfl fun k hk => by rw [h k (Finset.mem_range.mp hk), hV k (Finset.mem_range.mp hk)]

/-- The quotient at the end is the softmax applied to the values. -/
theorem State.softmax {σ V : ℕ → EReal} (hσ : ∀ k, σ k ≠ ⊤) {n : ℕ} {m l a : EReal} (h : State σ V n m l a) (hn : 0 < n) (h0 : σ 0 ≠ ⊥) :
    Ideal.div a l = soft σ V n := by
  unfold soft
  obtain ⟨h1, h2, h3⟩ := h
  have ht : m ≠ ⊤ := h1 ▸ sup_ne_top hσ _
  have hle : ∀ k ∈ range n, σ k ≤ m := fun k hk => h1 ▸ Finset.le_sup hk
  have hb : m ≠ ⊥ := fun e => h0 (le_bot_iff.mp (e ▸ hle 0 (mem_range.mpr hn)))
  have hw : ∀ k, Ideal.exp (σ k * ln2 - (range n).sup fun k => σ k * ln2) = Ideal.exp2 (σ k - m) := fun k => by
    rw [sup_ln2, ← h1, exp_ln2 (hσ k) ht hb]
  simp only [hw, ← h2]
  have hpos : 0 < l := by
    have h00 : 0 < Ideal.exp2 (σ 0 - m) := by
      have ha := hσ 0
      revert ha h0
      generalize σ 0 = x
      intro h0 ha
      induction x with
      | bot => exact absurd rfl h0
      | top => exact absurd rfl ha
      | coe r =>
        induction m with
        | bot => exact absurd rfl hb
        | top => exact absurd rfl ht
        | coe s =>
          rw [← EReal.coe_sub, Ideal.exp2_coe]
          exact_mod_cast Real.rpow_pos_of_pos (by norm_num) _
    rw [h2]
    exact lt_of_lt_of_le h00 (Finset.single_le_sum (f := fun k => Ideal.exp2 (σ k - m)) (fun k _ => exp2_nonneg _) (mem_range.mpr hn))
  have hd : ∀ x, Ideal.div x l = l⁻¹ * x := fun x => by rw [Ideal.div, if_neg hpos.ne', mul_comm]
  have hi : l⁻¹ ≠ ⊤ := by
    clear hd hpos hw h2
    induction l with
    | bot => rw [EReal.inv_bot]; exact EReal.zero_ne_top
    | top => rw [EReal.inv_top]; exact EReal.zero_ne_top
    | coe r => rw [← EReal.coe_inv]; exact EReal.coe_ne_top _
  simp only [hd]
  rw [h3, mul_sum_of_nonneg (EReal.inv_nonneg_of_nonneg hpos.le) hi]
  exact sum_congr rfl fun k _ => by rw [mul_assoc]

end Cert.Online
-- ==== Proof.Spec.lean ====
/- Causal attention over the argument arrays: row `2048 b + p` of an array is position `p` of batch member `b`; head `h` has
   lanes `64 h ..` of the position-free queries and keys and of the values, and 32 rotary lanes. -/
module

public import proofs.«01_k».proof.Proof.Online
public import Idealize.ShloMosaic.Lib.Pointwise

@[expose] public section

noncomputable section

namespace Cert.Spec

open Idealize.ShloMosaic Cert.Online

/-- Element `(r, l)` of an array of 1024 columns. -/
def el (A : Vec Ideal (⟨2, ![32768, 1024]⟩ : Shape) .bf16) (r l : ℕ) : EReal :=
  A (ix2 (⟨r % 32768, Nat.mod_lt _ (by norm_num)⟩ : Fin 32768) (⟨l % 1024, Nat.mod_lt _ (by norm_num)⟩ : Fin 1024))

/-- Element `(r, l)` of an array of 128 columns. -/
def elk (A : Vec Ideal (⟨2, ![32768, 128]⟩ : Shape) .bf16) (r l : ℕ) : EReal :=
  A (ix2 (⟨r % 32768, Nat.mod_lt _ (by norm_num)⟩ : Fin 32768) (⟨l % 128, Nat.mod_lt _ (by norm_num)⟩ : Fin 128))

theorem el_of {A : Vec Ideal (⟨2, ![32768, 1024]⟩ : Shape) .bf16} {r l : ℕ} (hr : r < 32768) (hl : l < 1024) :
    A (ix2 (⟨r, hr⟩ : Fin 32768) (⟨l, hl⟩ : Fin 1024)) = el A r l := by
  unfold el; simp only [Nat.mod_eq_of_lt hr, Nat.mod_eq_of_lt hl]

theorem elk_of {A : Vec Ideal (⟨2, ![32768, 128]⟩ : Shape) .bf16} {r l : ℕ} (hr : r < 32768) (hl : l < 128) :
    A (ix2 (⟨r, hr⟩ : Fin 32768) (⟨l, hl⟩ : Fin 128)) = elk A r l := by
  unfold elk; simp only [Nat.mod_eq_of_lt hr, Nat.mod_eq_of_lt hl]

variable (a0 a1 a2 : Vec Ideal (⟨2, ![32768, 1024]⟩ : Shape) .bf16) (a3 : Vec Ideal (⟨2, ![32768, 128]⟩ : Shape) .bf16)
  (a4 : Vec Ideal (⟨2, ![32768, 1024]⟩ : Shape) .bf16)

/-- The score of query position `p` against key position `k`: head `h` of batch member `b`. -/
def score (b h p k : ℕ) : EReal :=
  (∑ l : Fin 64, el a0 (2048 * b + p) (64 * h + l) * el a2 (2048 * b + k) (64 * h + l))
    + ∑ l : Fin 32, el a1 (2048 * b + p) (128 * (h / 2) + 32 * (h % 2) + l) * elk a3 (2048 * b + k) (32 * (h % 2) + l)

/-- The attention's result at row `t` and column `l`. -/
def attn (t l : ℕ) : EReal :=
  soft (causal (score a0 a1 a2 a3 (t / 2048) (l / 64) (t % 2048)) (t % 2048)) (fun k => el a4 (2048 * (t / 2048) + k) l) 2048

/-- A value that is neither infinity. -/
def Real' (x : EReal) : Prop := x ≠ ⊤ ∧ x ≠ ⊥

theorem Real'.mul {x y : EReal} (hx : Real' x) (hy : Real' y) : Real' (x * y) := by
  lift x to ℝ using hx
  lift y to ℝ using hy
  exact ⟨EReal.coe_ne_top (x * y), EReal.coe_ne_bot (x * y)⟩

theorem Real'.add {x y : EReal} (hx : Real' x) (hy : Real' y) : Real' (x + y) := by
  lift x to ℝ using hx
  lift y to ℝ using hy
  exact ⟨EReal.coe_ne_top (x + y), EReal.coe_ne_bot (x + y)⟩

theorem Real'.sum {ι : Type} (s : Finset ι) {f : ι → EReal} (h : ∀ i, Real' (f i)) : Real' (∑ i ∈ s, f i) :=
  Finset.sum_induction f Real' (fun _ _ => Real'.add) ⟨EReal.zero_ne_top, EReal.zero_ne_bot⟩ fun i _ => h i

end Cert.Spec

end
-- ==== Proof.RefValue.lean ====
/- The reference's result at an index: causal attention over its argument arrays. -/
module

public import proofs.«01_k».proof.Proof.Spec
public import proofs.«01_k».proof.Proof.Gen.ReferenceIdeal.Run
public import Idealize.ShloMosaic.Lib.Tactic.CleanTypes
public import Idealize.ShloMosaic.Lib.WordCmp

@[expose] public section

set_option maxRecDepth 8192

noncomputable section

namespace Cert.ReferenceIdeal.Attn

open Idealize.ShloMosaic Idealize.ShloMosaic.TcCoe Cert.ReferenceIdeal Cert.ReferenceIdeal.Gen Cert.ReferenceIdeal.Value Cert.Online Cert.Spec Idealize.ShloMosaic.WordCmp

/-- The reference's scores: the two products, scaled, under the causal mask. -/
def refScores (a0 a1 a2 : FVec Ideal S32768x1024 .bf16) (a3 : FVec Ideal S32768x128 .bf16) : FVec Ideal S16x16x2048x2048 .f32 :=
  select (broadcastInDim S16x16x2048x2048 ![2, 3] bcast_S2048x2048_S16x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (Host.dotGeneral dot_S16x2048x16x64_S16x2048x16x64_S16x16x2048x2048_3_3_1_1_02_02 none (shapeCast S16x2048x16x64 (extf .f32 a0 bitsLt_bf16_f32) shapeCasts_S32768x1024_S16x2048x16x64) (shapeCast S16x2048x16x64 (extf .f32 a2 bitsLt_bf16_f32) shapeCasts_S32768x1024_S16x2048x16x64)) (Host.dotGeneral dot_S16x2048x16x32_S16x2048x16x32_S16x16x2048x2048_3_3_1_1_02_02 none (shapeCast S16x2048x16x32 (extractStridedSlice S16x2048x8x64 ![0, 0, 0, 0] (shapeCast S16x2048x8x128 (extf .f32 a1 bitsLt_bf16_f32) shapeCasts_S32768x1024_S16x2048x8x128) slices_S16x2048x8x128_S16x2048x8x64_0_0_0_0) shapeCasts_S16x2048x8x64_S16x2048x16x32) (shapeCast S16x2048x16x32 (broadcastInDim S16x2048x8x2x32 ![0, 1, 2, 3, 4] bcast_S16x2048x1x2x32_S16x2048x8x2x32_0_1_2_3_4 (shapeCast S16x2048x1x2x32 (extractStridedSlice S16x2048x64 ![0, 0, 0] (shapeCast S16x2048x128 (extf .f32 a3 bitsLt_bf16_f32) shapeCasts_S32768x128_S16x2048x128) slices_S16x2048x128_S16x2048x64_0_0_0) shapeCasts_S16x2048x64_S16x2048x1x2x32)) shapeCasts_S16x2048x8x2x32_S16x2048x16x32))) (broadcastInDim S16x16x2048x2048 ![] bcast_S_S16x16x2048x2048 (Host.log (constant S_ .f32 0x40000000#32)))) (broadcastInDim S16x16x2048x2048 ![] bcast_S_S16x16x2048x2048 (id (constant S_ .f32 0xFF800000#32)))

/-- Each query's largest score. -/
def refMax (s : FVec Ideal S16x16x2048x2048 .f32) : FVec Ideal S16x16x2048 .f32 :=
  Host.reduce FloatOps.maximumf s (constant S_ .f32 0xFF800000#32) reducesTo_S16x16x2048x2048_S16x16x2048_d3 h_S_

/-- The exponentials of scores over given maxima. -/
def refExpOf (s : FVec Ideal S16x16x2048x2048 .f32) (M : FVec Ideal S16x16x2048 .f32) : FVec Ideal S16x16x2048x2048 .f32 :=
  Host.exp (subf s (broadcastInDim S16x16x2048x2048 ![0, 1, 2, 3] bcast_S16x16x2048x1_S16x16x2048x2048_0_1_2_3 (broadcastInDim S16x16x2048x1 ![0, 1, 2] bcast_S16x16x2048_S16x16x2048x1_0_1_2 (maximumf (broadcastInDim S16x16x2048 ![] bcast_S_S16x16x2048 (constant S_ .f32 0xFF800000#32)) M))))

/-- The exponentials of scores over their largest. -/
def refExp (s : FVec Ideal S16x16x2048x2048 .f32) : FVec Ideal S16x16x2048x2048 .f32 := refExpOf s (refMax s)

/-- The weights. -/
def refWeight (e : FVec Ideal S16x16x2048x2048 .f32) : FVec Ideal S16x16x2048x2048 .f32 :=
  Host.divf e (broadcastInDim S16x16x2048x2048 ![0, 1, 2, 3] bcast_S16x16x2048x1_S16x16x2048x2048_0_1_2_3 (broadcastInDim S16x16x2048x1 ![0, 1, 2] bcast_S16x16x2048_S16x16x2048x1_0_1_2 (Host.reduceAdd e (constant S_ .f32 0x00000000#32) reducesTo_S16x16x2048x2048_S16x16x2048_d3 h_S_)))

/-- The weights applied to the values. -/
def refOut (w : FVec Ideal S16x16x2048x2048 .f32) (a4 : FVec Ideal S32768x1024 .bf16) : FVec Ideal S32768x1024 .bf16 :=
  truncf .bf16 (shapeCast S32768x1024 (transpose S16x2048x16x64 [0, 3, 1, 2] (Host.dotGeneral dot_S16x2048x16x64_S16x16x2048x2048_S16x16x64x2048_1_3_3_2_02_01 none (shapeCast S16x2048x16x64 (extf .f32 a4 bitsLt_bf16_f32) shapeCasts_S32768x1024_S16x2048x16x64) w) transposes_S16x16x64x2048_S16x2048x16x64_0_3_1_2) shapeCasts_S16x2048x16x64_S32768x1024) bitsLt_bf16_f32

variable (m : (ℓ : Loc nD τ sig) → Buf (Elt Ideal) ℓ) (c : Dev nD)

theorem res_eq : res_main_v43 (F := Ideal) m c
    = refOut (refWeight (refExp (refScores (m ((c.tc : Thread nD τ).loc main_arg0)) (m ((c.tc : Thread nD τ).loc main_arg1)) (m ((c.tc : Thread nD τ).loc main_arg2)) (m ((c.tc : Thread nD τ).loc main_arg3))))) (m ((c.tc : Thread nD τ).loc main_arg4)) := by
  unfold res_main_v43 refOut refWeight refExp refExpOf refMax refScores
  rfl

theorem refOut_apply (w : FVec Ideal S16x16x2048x2048 .f32) (a4 : FVec Ideal S32768x1024 .bf16) (t : Fin 32768) (l : Fin 1024) :
    refOut w a4 (ix2 t l) = ∑ x : Fin 2048, el a4 (2048 * (t / 2048) + x) l
      * w (ix4 (⟨t / 2048, by omega⟩ : Fin 16) (⟨l / 64, by omega⟩ : Fin 16) (⟨t % 2048, Nat.mod_lt _ (by norm_num)⟩ : Fin 2048) x) := by
  pointwise [refOut]
  refine Finset.sum_congr rfl fun x _ => ?_
  rw [← el_of (A := a4) (r := 2048 * (t / 2048) + x) (l := l) (by omega) l.isLt]
  simp only [Nat.mul_comm 2048]

theorem refWeight_apply (e : FVec Ideal S16x16x2048x2048 .f32) (b h : Fin 16) (p k : Fin 2048) :
    refWeight e (ix4 b h p k) = Ideal.div (e (ix4 b h p k)) (∑ x : Fin 2048, e (ix4 b h p x)) := by
  pointwise [refWeight]

/-- The largest along the last axis. -/
theorem host_max_last {n0 n1 n2 n3 : ℕ} {u : Shape} (x : FVec Ideal (⟨4, ![n0, n1, n2, n3]⟩ : Shape) .f32) (init : u.Idx → EReal)
    (h : (⟨4, ![n0, n1, n2, n3]⟩ : Shape).ReducesTo [3] (⟨3, ![n0, n1, n2]⟩ : Shape)) (hu : 0 < u.numel)
    (hi : ∀ j, init j = ⊥) (b : Fin n0) (g : Fin n1) (p : Fin n2) :
    Host.reduce (FloatOps.maximumf (F := Ideal) (φ := .f32)) x init h hu (ix3 b g p) = (Finset.univ : Finset (Fin n3)).sup fun k => x (ix4 b g p k) := by
  have e : Host.reduce (FloatOps.maximumf (F := Ideal) (φ := .f32)) x init h hu (ix3 b g p) = (Finset.univ.filter fun i => h.drop i = ix3 b g p).sup x := by
    refine (Host.reduce_eq_fold (max : EReal → EReal → EReal) x init h hu _).trans ?_
    rw [hi]; rfl
  rw [e]
  refine le_antisymm (Finset.sup_le fun i hi => ?_) (Finset.sup_le fun k _ => ?_)
  · obtain ⟨k, rfl⟩ := (Shape.ReducesTo.fiber_r4_a3 h _ i).mp (Finset.mem_filter.mp hi).2
    exact Finset.le_sup (f := fun k => x (ix4 b g p k)) (Finset.mem_univ k)
  · exact Finset.le_sup (f := x) (Finset.mem_filter.mpr ⟨Finset.mem_univ _, (Shape.ReducesTo.fiber_r4_a3 h _ _).mpr ⟨k, rfl⟩⟩)

theorem neg_inf : Ideal.ofBits .f32 0xFF800000#32 = ⊥ := by simp [Ideal.ofBits, Ideal.ieee]

theorem refMax_apply (s : FVec Ideal S16x16x2048x2048 .f32) (b h : Fin 16) (p : Fin 2048) :
    refMax s (ix3 b h p) = (Finset.univ : Finset (Fin 2048)).sup fun k => s (ix4 b h p k) := by
  unfold refMax
  exact host_max_last s _ _ _ (fun _ => neg_inf) b h p

theorem refExpOf_apply (s : FVec Ideal S16x16x2048x2048 .f32) (M : FVec Ideal S16x16x2048 .f32) (b h : Fin 16) (p k : Fin 2048) :
    refExpOf s M (ix4 b h p k) = Ideal.exp (s (ix4 b h p k) - M (ix3 b h p)) := by
  pointwise [refExpOf]
  rw [neg_inf, max_eq_right bot_le]

theorem refExp_apply (s : FVec Ideal S16x16x2048x2048 .f32) (b h : Fin 16) (p k : Fin 2048) :
    refExp s (ix4 b h p k) = Ideal.exp (s (ix4 b h p k) - (Finset.univ : Finset (Fin 2048)).sup fun x => s (ix4 b h p x)) := by
  unfold refExp
  rw [refExpOf_apply, refMax_apply]

theorem log_two : Ideal.log (Ideal.ofBits .f32 0x40000000#32) = ln2 := by
  have e : Ideal.ofBits .f32 0x40000000#32 = ((2 : ℝ) : EReal) := by
    simp [Ideal.ofBits, Ideal.ieee]
    rw [← EReal.coe_mul]
    norm_num
  rw [e, Ideal.log_coe, if_neg (by norm_num)]
  rfl

theorem bot_ln2 : (⊥ : EReal) * ln2 = ⊥ := EReal.bot_mul_coe_of_pos (Real.log_pos (by norm_num))

theorem refScores_apply (a0 a1 a2 : FVec Ideal S32768x1024 .bf16) (a3 : FVec Ideal S32768x128 .bf16) (b h : Fin 16) (p k : Fin 2048) :
    refScores a0 a1 a2 a3 (ix4 b h p k) = causal (score a0 a1 a2 a3 b h p) p k * ln2 := by
  pointwise [refScores]
  rw [cmpi_sle_ofNat (by omega) (by omega), select_decide, log_two]
  unfold causal
  split
  · unfold score
    refine congrArg (· * ln2) (congr (congrArg _ (Finset.sum_congr rfl fun l _ => ?_)) (Finset.sum_congr rfl fun l _ => ?_))
    · rw [← el_of (A := a0) (r := 2048 * b + p) (l := 64 * h + l) (by omega) (by omega), ← el_of (A := a2) (r := 2048 * b + k) (l := 64 * h + l) (by omega) (by omega)]
      simp only [Nat.mul_comm 2048, Nat.mul_comm 64]
    · rw [← el_of (A := a1) (r := 2048 * b + p) (l := 128 * (h / 2) + 32 * (h % 2) + l) (by omega) (by omega), ← elk_of (A := a3) (r := 2048 * b + k) (l := 32 * (h % 2) + l) (by omega) (by omega)]
      simp only [Nat.mul_comm 2048, Nat.mul_comm 128, Nat.mul_comm 32, Nat.add_assoc]
  · rw [bot_ln2]
    exact neg_inf

/-- The softmax over `Fin n`, the values on the left. -/
theorem soft_fin (σ V : ℕ → EReal) (n : ℕ) : soft σ V n = ∑ x : Fin n, V x
    * Ideal.div (Ideal.exp (σ x * ln2 - (Finset.univ : Finset (Fin n)).sup fun k => σ k * ln2))
      (∑ y : Fin n, Ideal.exp (σ y * ln2 - (Finset.univ : Finset (Fin n)).sup fun k => σ k * ln2)) := by
  have e : ((Finset.range n).sup fun k => σ k * ln2) = (Finset.univ : Finset (Fin n)).sup fun k => σ k * ln2 :=
    le_antisymm (Finset.sup_le fun k hk => Finset.le_sup (f := fun k : Fin n => σ k * ln2) (Finset.mem_univ ⟨k, Finset.mem_range.mp hk⟩))
      (Finset.sup_le fun k _ => Finset.le_sup (f := fun k => σ k * ln2) (Finset.mem_range.mpr k.isLt))
  unfold soft
  rw [e, Finset.sum_range, Finset.sum_range]
  exact Finset.sum_congr rfl fun k _ => mul_comm _ _

/-- The reference's result at an index. -/
theorem res_apply (t : Fin 32768) (l : Fin 1024) : (res_main_v43 (F := Ideal) m c : FVec Ideal S32768x1024 .bf16) (ix2 t l)
    = attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t l := by
  refine (congrFun (res_eq m c) (ix2 t l)).trans ((refOut_apply _ _ t l).trans ?_)
  unfold attn
  rw [soft_fin]
  refine Finset.sum_congr rfl fun x _ => congrArg _ ?_
  rw [refWeight_apply]
  simp only [refExp_apply, refScores_apply]

end Cert.ReferenceIdeal.Attn

end
-- ==== Proof.Model.lean ====
/- One launch point of the prompt attention, written once for every query tile, head and key tile: the heads' masked
   queries, the keys laid side by side, the three kinds of online-softmax step (a whole key tile, the first half of the
   diagonal tile, its second half on the lower query rows) and the quotient that is stored. The kernel body unrolls
   these steps; `Tiles.lean` shows that its stores are the tiles of this model. -/
module

public import proofs.«01_k».proof.Proof.Gen.KernelIdeal.Skeleton

@[expose] public section

noncomputable section

namespace Cert.KernelIdeal.Attn

open Idealize.ShloMosaic Cert.KernelIdeal Cert.KernelIdeal.Gen

/-- The 512 rows of a block from row `o` on. -/
def rows512 (X : Vec Ideal S2048x128 .bf16) (o : ℕ) : Vec Ideal S512x128 .bf16 :=
  fun y => X (fun a => match a with
    | ⟨0, _⟩ => ⟨(o + (y 0).val) % 2048, Nat.mod_lt _ (by norm_num)⟩
    | ⟨1, _⟩ => y 1)

/-- The 256 rows of a block from row `o` on. -/
def rows256 (X : Vec Ideal S2048x128 .bf16) (o : ℕ) : Vec Ideal S256x128 .bf16 :=
  fun y => X (fun a => match a with
    | ⟨0, _⟩ => ⟨(o + (y 0).val) % 2048, Nat.mod_lt _ (by norm_num)⟩
    | ⟨1, _⟩ => y 1)

/-- The lane number of every element of a tile. -/
def lane : IVec S512x128 32 := iota .tc S512x128 32 [1] iota_S512x128_d1_w32
/-- A tile of zeros. -/
def zeroTile : FVec Ideal S512x128 .bf16 := broadcast S512x128 (Scalar.ofBits .bf16 0x0000#16)

/-- The even head's query: lanes 0 to 63 of the position-free part and lanes 0 to 31 of the rotary part, zeros elsewhere. -/
def qEven (a b : Vec Ideal S512x128 .bf16) : FVec Ideal S512x256 .bf16 :=
  concatenate S512x256 1 [⟨S512x128, select (cmpi .slt lane (broadcast S512x128 64#32)) a zeroTile⟩,
    ⟨S512x128, select (cmpi .slt lane (broadcast S512x128 32#32)) b zeroTile⟩] concatenates_S512x128_S512x128_S512x256_d1

/-- The odd head's query: lanes 64 to 127 of the position-free part and lanes 32 to 63 of the rotary part. -/
def qOdd (a b : Vec Ideal S512x128 .bf16) : FVec Ideal S512x256 .bf16 :=
  concatenate S512x256 1 [⟨S512x128, select (cmpi .sge lane (broadcast S512x128 64#32)) a zeroTile⟩,
    ⟨S512x128, select (andi (cmpi .sge lane (broadcast S512x128 32#32)) (cmpi .slt lane (broadcast S512x128 64#32))) b zeroTile⟩]
    concatenates_S512x128_S512x128_S512x256_d1

/-- The query tile of head `h` of the pair. -/
def query (x0 x1 : Vec Ideal S2048x128 .bf16) (h : Bool) (i : ℕ) : FVec Ideal S512x256 .bf16 :=
  match h with
  | false => qEven (rows512 x0 (512 * i)) (rows512 x1 (512 * i))
  | true => qOdd (rows512 x0 (512 * i)) (rows512 x1 (512 * i))

/-- 256 keys: the position-free part beside the rotary part. -/
def keys256 (x2 x3 : Vec Ideal S2048x128 .bf16) (o : ℕ) : FVec Ideal S256x256 .bf16 :=
  concatenate S256x256 1 [⟨S256x128, rows256 x2 o⟩, ⟨S256x128, rows256 x3 o⟩] concatenates_S256x128_S256x128_S256x256_d1

/-- A whole key tile: its two halves, one under the other. -/
def keys512 (x2 x3 : Vec Ideal S2048x128 .bf16) (o : ℕ) : FVec Ideal S512x256 .bf16 :=
  concatenate S512x256 0 [⟨S256x256, keys256 x2 x3 o⟩, ⟨S256x256, keys256 x2 x3 (o + 256)⟩] concatenates_S256x256_S256x256_S512x256_d0

/-- The online softmax's state for 512 queries: the running maximum, the running denominator, the running weighted sum. -/
structure St where
  m : FVec Ideal S512x128 .f32
  l : FVec Ideal S512x128 .f32
  acc : FVec Ideal S512x128 .f32

/-- Before any key. -/
def St.init : St where
  m := broadcast S512x128 (Named.named κ "mask" 0xF149F2CA#32)
  l := broadcast S512x128 (Scalar.ofBits .f32 0x00000000#32)
  acc := broadcast S512x128 (Scalar.ofBits .f32 0x00000000#32)

/-! ### A whole key tile -/

/-- Scores of 512 queries against 512 keys. -/
def scores (q k : FVec Ideal S512x256 .bf16) : FVec Ideal S512x512 .f32 :=
  matmul dot_S512x256_S512x256_S512x512_1_1_0_0_n_n none q k (constant S512x512 .f32 0x00000000#32)

/-- The new maximum. -/
def mFull (m : FVec Ideal S512x128 .f32) (s : FVec Ideal S512x512 .f32) : FVec Ideal S512x128 .f32 :=
  maximumf m (broadcastTo S512x128 (shapeCast S512x1 (multiReduction .maximumf [1] S512 s 0xFF800000#32 reduces_S512x512_S512 (.inl rfl) rfl)
    shapeCasts_S512_S512x1) broadcasts_S512x1_S512x128)

/-- The weights of the tile's keys. -/
def pFull (m : FVec Ideal S512x128 .f32) (s : FVec Ideal S512x512 .f32) : FVec Ideal S512x512 .f32 :=
  exp2 (subf s (concatenate S512x512 1 [⟨S512x128, mFull m s⟩, ⟨S512x128, mFull m s⟩, ⟨S512x128, mFull m s⟩, ⟨S512x128, mFull m s⟩]
    concatenates_S512x128_S512x128_S512x128_S512x128_S512x512_d1))

/-- One step over a whole key tile. -/
def stepFull (st : St) (q k : FVec Ideal S512x256 .bf16) (v : FVec Ideal S512x128 .bf16) : St where
  m := mFull st.m (scores q k)
  l := addf (mulf (exp2 (subf st.m (mFull st.m (scores q k)))) st.l)
    (broadcastTo S512x128 (shapeCast S512x1 (multiReduction .add [1] S512 (pFull st.m (scores q k)) 0x00000000#32 reduces_S512x512_S512 (.inl rfl) rfl)
      shapeCasts_S512_S512x1) broadcasts_S512x1_S512x128)
  acc := addf (mulf (exp2 (subf st.m (mFull st.m (scores q k)))) st.acc)
    (matmul dot_S512x512_S512x128_S512x128_1_0_0_1_n_n none (truncf .bf16 (pFull st.m (scores q k)) bitsLt_bf16_f32) v (constant S512x128 .f32 0x00000000#32))

/-! ### The first half of the diagonal tile -/

/-- Scores of 512 queries against the tile's first 256 keys, masked above the diagonal. -/
def scoresDiag (q : FVec Ideal S512x256 .bf16) (k : FVec Ideal S256x256 .bf16) : FVec Ideal S512x256 .f32 :=
  select (cmpi .sle (iota .tc S512x256 32 [1] iota_S512x256_d1_w32) (iota .tc S512x256 32 [0] iota_S512x256_d0_w32))
    (matmul dot_S512x256_S256x256_S512x256_1_1_0_0_n_n none q k (constant S512x256 .f32 0x00000000#32))
    (broadcast S512x256 (Named.named κ "mask" 0xF149F2CA#32))

/-- The new maximum. -/
def mDiag (m : FVec Ideal S512x128 .f32) (s : FVec Ideal S512x256 .f32) : FVec Ideal S512x128 .f32 :=
  maximumf m (broadcastTo S512x128 (shapeCast S512x1 (multiReduction .maximumf [1] S512 s 0xFF800000#32 reduces_S512x256_S512 (.inl rfl) rfl)
    shapeCasts_S512_S512x1) broadcasts_S512x1_S512x128)

/-- The weights of the half tile's keys. -/
def pDiag (m : FVec Ideal S512x128 .f32) (s : FVec Ideal S512x256 .f32) : FVec Ideal S512x256 .f32 :=
  exp2 (subf s (concatenate S512x256 1 [⟨S512x128, mDiag m s⟩, ⟨S512x128, mDiag m s⟩] concatenates_S512x128_S512x128_S512x256_d1))

/-- One step over the diagonal tile's first half. -/
def stepDiag (st : St) (q : FVec Ideal S512x256 .bf16) (k : FVec Ideal S256x256 .bf16) (v : FVec Ideal S256x128 .bf16) : St where
  m := mDiag st.m (scoresDiag q k)
  l := addf (mulf (exp2 (subf st.m (mDiag st.m (scoresDiag q k)))) st.l)
    (broadcastTo S512x128 (shapeCast S512x1 (multiReduction .add [1] S512 (pDiag st.m (scoresDiag q k)) 0x00000000#32 reduces_S512x256_S512 (.inl rfl) rfl)
      shapeCasts_S512_S512x1) broadcasts_S512x1_S512x128)
  acc := addf (mulf (exp2 (subf st.m (mDiag st.m (scoresDiag q k)))) st.acc)
    (matmul dot_S512x256_S256x128_S512x128_1_0_0_1_n_n none (truncf .bf16 (pDiag st.m (scoresDiag q k)) bitsLt_bf16_f32) v (constant S512x128 .f32 0x00000000#32))

/-! ### Its second half, on the lower query rows -/

/-- Scores of the lower 256 queries against the tile's last 256 keys, masked above the diagonal. -/
def scoresLow (q : FVec Ideal S512x256 .bf16) (k : FVec Ideal S256x256 .bf16) : FVec Ideal S256x256 .f32 :=
  select (cmpi .sle (iota .tc S256x256 32 [1] iota_S256x256_d1_w32) (iota .tc S256x256 32 [0] iota_S256x256_d0_w32))
    (matmul dot_S256x256_S256x256_S256x256_1_1_0_0_n_n none (extractStridedSlice S256x256 ![256, 0] q slices_S512x256_o256_0_S256x256) k
      (constant S256x256 .f32 0x00000000#32))
    (broadcast S256x256 (Named.named κ "mask" 0xF149F2CA#32))

/-- The new maximum. -/
def mLow (m : FVec Ideal S256x128 .f32) (s : FVec Ideal S256x256 .f32) : FVec Ideal S256x128 .f32 :=
  maximumf m (broadcastTo S256x128 (shapeCast S256x1 (multiReduction .maximumf [1] S256 s 0xFF800000#32 reduces_S256x256_S256 (.inl rfl) rfl)
    shapeCasts_S256_S256x1) broadcasts_S256x1_S256x128)

/-- The weights of the half tile's keys. -/
def pLow (m : FVec Ideal S256x128 .f32) (s : FVec Ideal S256x256 .f32) : FVec Ideal S256x256 .f32 :=
  exp2 (subf s (concatenate S256x256 1 [⟨S256x128, mLow m s⟩, ⟨S256x128, mLow m s⟩] concatenates_S256x128_S256x128_S256x256_d1))

/-- The denominator after the step. -/
def lLow (m l : FVec Ideal S256x128 .f32) (s : FVec Ideal S256x256 .f32) : FVec Ideal S256x128 .f32 :=
  addf (mulf (exp2 (subf m (mLow m s))) l)
    (broadcastTo S256x128 (shapeCast S256x1 (multiReduction .add [1] S256 (pLow m s) 0x00000000#32 reduces_S256x256_S256 (.inl rfl) rfl)
      shapeCasts_S256_S256x1) broadcasts_S256x1_S256x128)

/-- The weighted sum after the step. -/
def accLow (m acc : FVec Ideal S256x128 .f32) (s : FVec Ideal S256x256 .f32) (v : FVec Ideal S256x128 .bf16) : FVec Ideal S256x128 .f32 :=
  addf (mulf (exp2 (subf m (mLow m s))) acc)
    (matmul dot_S256x256_S256x128_S256x128_1_0_0_1_n_n none (truncf .bf16 (pLow m s) bitsLt_bf16_f32) v (constant S256x128 .f32 0x00000000#32))

/-! ### Through the scratch buffers -/

/-- The place, in a slot, of an index of its lower half. -/
def intoLow (y : S1x1x256x128.Idx) : S1x1x512x128.Idx := fun a => match a with
  | ⟨0, _⟩ => y 0
  | ⟨1, _⟩ => y 1
  | ⟨2, _⟩ => ⟨(256 + (y 2).val) % 512, Nat.mod_lt _ (by norm_num)⟩
  | ⟨3, _⟩ => y 3

/-- The index, within the lower half, of a place in the slot. -/
def fromLow (y : S1x1x512x128.Idx) : S1x1x256x128.Idx := fun a => match a with
  | ⟨0, _⟩ => y 0
  | ⟨1, _⟩ => y 1
  | ⟨2, _⟩ => ⟨((y 2).val - 256) % 256, Nat.mod_lt _ (by norm_num)⟩
  | ⟨3, _⟩ => y 3

/-- The lower half of a slot's contents. -/
def half (w : S1x1x512x128.Idx → EReal) : S1x1x256x128.Idx → EReal := fun y => w (intoLow y)

/-- The lower half of a tile kept in a scratch slot. -/
def lowHalf (w : FVec Ideal S512x128 .f32) : FVec Ideal S256x128 .f32 :=
  shapeCast S256x128 (half (shapeCast S1x1x512x128 w shapeCasts_S512x128_S1x1x512x128)) shapeCasts_S1x1x256x128_S256x128

/-- A scratch slot whose lower half was written anew. -/
def overlay (lo : S1x1x256x128.Idx → EReal) (w : S1x1x512x128.Idx → EReal) : S1x1x512x128.Idx → EReal :=
  fun y => if 256 ≤ (y 2).val then lo (fromLow y) else w y

/-- A tile whose lower half was written anew, read back from its scratch slot. -/
def merged (lo : FVec Ideal S256x128 .f32) (w : FVec Ideal S512x128 .f32) : FVec Ideal S512x128 .f32 :=
  shapeCast S512x128 (overlay (shapeCast S1x1x256x128 lo shapeCasts_S256x128_S1x1x256x128) (shapeCast S1x1x512x128 w shapeCasts_S512x128_S1x1x512x128))
    shapeCasts_S1x1x512x128_S512x128

/-! ### The whole of a query tile -/

/-- The state after the whole key tiles `0 … j - 1`. -/
def before (x2 x3 x4 : Vec Ideal S2048x128 .bf16) (q : FVec Ideal S512x256 .bf16) : ℕ → St
  | 0 => St.init
  | j + 1 => stepFull (before x2 x3 x4 q j) q (keys512 x2 x3 (512 * j)) (rows512 x4 (512 * j))

/-- The state after the diagonal tile's first half. -/
def diag (x2 x3 x4 : Vec Ideal S2048x128 .bf16) (q : FVec Ideal S512x256 .bf16) (i : ℕ) : St :=
  stepDiag (before x2 x3 x4 q i) q (keys256 x2 x3 (512 * i)) (rows256 x4 (512 * i))

/-- The scores of the diagonal tile's second half. -/
def lowScores (x2 x3 : Vec Ideal S2048x128 .bf16) (q : FVec Ideal S512x256 .bf16) (i : ℕ) : FVec Ideal S256x256 .f32 :=
  scoresLow q (keys256 x2 x3 (512 * i + 256))

/-- The denominators at the end. -/
def lEnd (x2 x3 x4 : Vec Ideal S2048x128 .bf16) (q : FVec Ideal S512x256 .bf16) (i : ℕ) : FVec Ideal S512x128 .f32 :=
  merged (lLow (lowHalf (diag x2 x3 x4 q i).m) (lowHalf (diag x2 x3 x4 q i).l) (lowScores x2 x3 q i)) (diag x2 x3 x4 q i).l

/-- The weighted sums at the end. -/
def accEnd (x2 x3 x4 : Vec Ideal S2048x128 .bf16) (q : FVec Ideal S512x256 .bf16) (i : ℕ) : FVec Ideal S512x128 .f32 :=
  merged (accLow (lowHalf (diag x2 x3 x4 q i).m) (lowHalf (diag x2 x3 x4 q i).acc) (lowScores x2 x3 q i) (rows256 x4 (512 * i + 256)))
    (diag x2 x3 x4 q i).acc

/-- What is stored for query tile `i`: the even head's quotient in lanes 0 to 63, the odd head's in lanes 64 to 127. -/
def outTile (x0 x1 x2 x3 x4 : Vec Ideal S2048x128 .bf16) (i : ℕ) : FVec Ideal S512x128 .bf16 :=
  truncf .bf16 (select (cmpi .slt lane (broadcast S512x128 64#32))
    (divf (accEnd x2 x3 x4 (query x0 x1 false i) i) (lEnd x2 x3 x4 (query x0 x1 false i) i))
    (divf (accEnd x2 x3 x4 (query x0 x1 true i) i) (lEnd x2 x3 x4 (query x0 x1 true i) i))) bitsLt_bf16_f32

end Cert.KernelIdeal.Attn

end
-- ==== Proof.Readback.lean ====
/- What the kernel body reads back from its scratch buffers: the lower half of a slot, a slot read whole, and a slot
   whose lower half was written anew. Each is stated for every query tile `i` and head `h`. -/
module

public import proofs.«01_k».proof.Proof.Model
public import Idealize.ShloMosaic.Lib.Pipeline.ReadBack

@[expose] public section

noncomputable section

namespace Cert.KernelIdeal.Attn

open Idealize.ShloMosaic Cert.KernelIdeal Cert.KernelIdeal.Gen

/-- A load of 512 rows of an input block held whole. -/
theorem readAt_rows512 {k : Kind} {sp : Space} (m : Memref sig k sp S2048x128 .bf16) (hm : m.IsWhole) (x : Vec Ideal S2048x128 .bf16)
    (o : ℕ) (inb : ∀ a, (![o, 0] : Fin 2 → ℕ) a + ![512, 128] a ≤ S2048x128.size a) :
    View.readAt (Elt Ideal) m.view (Rect.unit (s := S2048x128) ![o, 0] ![512, 128] inb).toLoadRect (hm.unread x) = rows512 x o := by
  rw [show View.readAt (Elt Ideal) m.view (Rect.unit (s := S2048x128) ![o, 0] ![512, 128] inb).toLoadRect (hm.unread x)
    = View.ld (m.view.read (Elt Ideal) (hm.unread x)) (Rect.unit (s := S2048x128) ![o, 0] ![512, 128] inb) from rfl, hm.read_unread]
  funext y
  have h := inb 0
  simp at h
  refine congrArg x (funext fun a => ?_)
  match a with
  | ⟨0, _⟩ => exact Fin.ext (by
      have hy : (y 0).val < 512 := (y 0).isLt
      show o + 1 * (y 0).val = (o + (y 0).val) % 2048
      rw [Nat.mod_eq_of_lt (by omega)]; omega)
  | ⟨1, _⟩ => exact Fin.ext (by show 0 + 1 * (y 1).val = (y 1).val; omega)

/-- A load of 256 rows of an input block held whole. -/
theorem readAt_rows256 {k : Kind} {sp : Space} (m : Memref sig k sp S2048x128 .bf16) (hm : m.IsWhole) (x : Vec Ideal S2048x128 .bf16)
    (o : ℕ) (inb : ∀ a, (![o, 0] : Fin 2 → ℕ) a + ![256, 128] a ≤ S2048x128.size a) :
    View.readAt (Elt Ideal) m.view (Rect.unit (s := S2048x128) ![o, 0] ![256, 128] inb).toLoadRect (hm.unread x) = rows256 x o := by
  rw [show View.readAt (Elt Ideal) m.view (Rect.unit (s := S2048x128) ![o, 0] ![256, 128] inb).toLoadRect (hm.unread x)
    = View.ld (m.view.read (Elt Ideal) (hm.unread x)) (Rect.unit (s := S2048x128) ![o, 0] ![256, 128] inb) from rfl, hm.read_unread]
  funext y
  have h := inb 0
  simp at h
  refine congrArg x (funext fun a => ?_)
  match a with
  | ⟨0, _⟩ => exact Fin.ext (by
      have hy : (y 0).val < 256 := (y 0).isLt
      show o + 1 * (y 0).val = (o + (y 0).val) % 2048
      rw [Nat.mod_eq_of_lt (by omega)]; omega)
  | ⟨1, _⟩ => exact Fin.ext (by show 0 + 1 * (y 1).val = (y 1).val; omega)

/-- A load of the lower half of the slot written last reads that write's lower half. -/
theorem readCov_half {k : Kind} {sp : Space} (v : View sig k sp S4x2x512x128 .f32) (i h : ℕ)
    (inb : ∀ a, (![i, h, 0, 0] : Fin 4 → ℕ) a + ![1, 1, 512, 128] a ≤ S4x2x512x128.size a)
    (inb' : ∀ a, (![i, h, 256, 0] : Fin 4 → ℕ) a + ![1, 1, 256, 128] a ≤ S4x2x512x128.size a)
    (w : S1x1x512x128.Idx → EReal) (L : List (View.Piece (Elt Ideal) S4x2x512x128 .f32)) :
    v.readCov (⟨Rect.unit (s := S4x2x512x128) ![i, h, 0, 0] ![1, 1, 512, 128] inb, w⟩ :: L) (Rect.unit (s := S4x2x512x128) ![i, h, 256, 0] ![1, 1, 256, 128] inb').toLoadRect = half w := by
  rw [View.readCov_eq_canon']
  funext y
  have hy : (y 2).val < 256 := (y 2).isLt
  have he : (Rect.unit (s := S4x2x512x128) ![i, h, 256, 0] ![1, 1, 256, 128] inb').toLoadRect.idx y
      = (Rect.unit (s := S4x2x512x128) ![i, h, 0, 0] ![1, 1, 512, 128] inb).emb (intoLow y) := by
    funext a
    match a with
    | ⟨0, _⟩ => rfl
    | ⟨1, _⟩ => rfl
    | ⟨2, _⟩ => exact Fin.ext (by
        show 256 + 1 * (y 2).val = 0 + 1 * ((256 + (y 2).val) % 512)
        rw [Nat.mod_eq_of_lt (by omega)]; omega)
    | ⟨3, _⟩ => rfl
  rw [he]
  exact View.canon_cons_emb (Val := Elt Ideal) (e := .f32) (Rect.unit (s := S4x2x512x128) ![i, h, 0, 0] ![1, 1, 512, 128] inb) w L _

/-- A load of a whole slot after a write of its lower half: that write over what the earlier writes left. -/
theorem readCov_overlay {k : Kind} {sp : Space} (v : View sig k sp S4x2x512x128 .f32) (i h : ℕ)
    (inb : ∀ a, (![i, h, 0, 0] : Fin 4 → ℕ) a + ![1, 1, 512, 128] a ≤ S4x2x512x128.size a)
    (inb' : ∀ a, (![i, h, 256, 0] : Fin 4 → ℕ) a + ![1, 1, 256, 128] a ≤ S4x2x512x128.size a)
    (w : S1x1x256x128.Idx → EReal) (L : List (View.Piece (Elt Ideal) S4x2x512x128 .f32)) :
    v.readCov (⟨Rect.unit (s := S4x2x512x128) ![i, h, 256, 0] ![1, 1, 256, 128] inb', w⟩ :: L) (Rect.unit (s := S4x2x512x128) ![i, h, 0, 0] ![1, 1, 512, 128] inb).toLoadRect
      = overlay w (v.readCov L (Rect.unit (s := S4x2x512x128) ![i, h, 0, 0] ![1, 1, 512, 128] inb).toLoadRect) := by
  rw [View.readCov_eq_canon', View.readCov_eq_canon']
  funext y
  have hy : (y 2).val < 512 := (y 2).isLt
  unfold overlay
  by_cases hc : 256 ≤ (y 2).val
  · rw [if_pos hc]
    have he : (Rect.unit (s := S4x2x512x128) ![i, h, 0, 0] ![1, 1, 512, 128] inb).toLoadRect.idx y
        = (Rect.unit (s := S4x2x512x128) ![i, h, 256, 0] ![1, 1, 256, 128] inb').emb (fromLow y) := by
      funext a
      match a with
      | ⟨0, _⟩ => rfl
      | ⟨1, _⟩ => rfl
      | ⟨2, _⟩ => exact Fin.ext (by
          show 0 + 1 * (y 2).val = 256 + 1 * (((y 2).val - 256) % 256)
          rw [Nat.mod_eq_of_lt (by omega)]; omega)
      | ⟨3, _⟩ => rfl
    rw [he]
    exact View.canon_cons_emb (Val := Elt Ideal) (e := .f32) (Rect.unit (s := S4x2x512x128) ![i, h, 256, 0] ![1, 1, 256, 128] inb') w L _
  · rw [if_neg hc]
    refine View.canon_cons_of_not_mem (Val := Elt Ideal) (e := .f32) _ L ?_
    rw [Rect.mem_set_unit]
    intro hall
    have h2 : 256 ≤ 0 + 1 * (y 2).val := (hall 2).1
    omega

end Cert.KernelIdeal.Attn

end
-- ==== Proof.Tiles.lean ====
/- Each stored tile of the kernel body's run is the model's tile. -/
module

public import proofs.«01_k».proof.Proof.Readback
public import proofs.«01_k».proof.Proof.Gen.KernelIdeal.Frame.RunA
import all proofs.«01_k».proof.Proof.Gen.KernelIdeal.Frame.RunA

@[expose] public section

set_option maxRecDepth 16384

noncomputable section

namespace Cert.KernelIdeal.Attn

open Idealize.ShloMosaic Idealize.ShloMosaic.TcCoe Cert.KernelIdeal Cert.KernelIdeal.Gen

/-- The body's stores, newest first: the four query tiles. -/
theorem stores (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S4x2x512x128 .f32) (harg8 : arg8.IsWhole) (arg9 : Memref sig .tc .vmem S4x2x512x128 .f32) (harg9 : arg9.IsWhole) (arg10 : Memref sig .tc .vmem S4x2x512x128 .f32) (harg10 : arg10.IsWhole)
    (x0 x1 x2 x3 x4 : Vec Ideal S2048x128 .bf16) :
    (kernelRun0_A (F := Ideal) c i arg2 harg2 arg3 harg3 arg4 harg4 arg5 harg5 arg6 harg6 arg7 harg7 arg8 harg8 arg9 harg9 arg10 harg10 x0 x1 x2 x3 x4).1
      = [⟨Rect.unit ![1536, 0] S512x128.size inb_S2048x128_S512x128_1536_0, outTile x0 x1 x2 x3 x4 3⟩,
         ⟨Rect.unit ![1024, 0] S512x128.size inb_S2048x128_S512x128_1024_0, outTile x0 x1 x2 x3 x4 2⟩,
         ⟨Rect.unit ![512, 0] S512x128.size inb_S2048x128_S512x128_512_0, outTile x0 x1 x2 x3 x4 1⟩,
         ⟨Rect.unit ![0, 0] S512x128.size inb_S2048x128_S512x128_0_0, outTile x0 x1 x2 x3 x4 0⟩] := by
  unfold kernelRun0_A
  dsimp only
  refine congr (congrArg List.cons ?_) (congr (congrArg List.cons ?_) (congr (congrArg List.cons ?_) (congr (congrArg List.cons ?_) rfl)))
  all_goals
    refine congrArg (Sigma.mk _) ?_
    simp (disch := decide) only [readCov_half, readCov_overlay, View.readCov_cons_toLoadRect, View.readCov_skip, readAt_rows512, readAt_rows256, kernelRun0_A.sl.HS0_2, kernelRun0_A.sl.HS0_4, kernelRun0_A.sl.HS0_6, kernelRun0_A.sl.HS0_8, kernelRun0_A.sl.HS1_10, kernelRun0_A.sl.HS1_12, kernelRun0_A.sl.HS1_14, kernelRun0_A.sl.HS1_16, kernelRun0_A.sl.HS1_2, kernelRun0_A.sl.HS1_4, kernelRun0_A.sl.HS1_6, kernelRun0_A.sl.HS1_8, kernelRun0_A.sl.HS2_10, kernelRun0_A.sl.HS2_12, kernelRun0_A.sl.HS2_14, kernelRun0_A.sl.HS2_16, kernelRun0_A.sl.HS2_2, kernelRun0_A.sl.HS2_4, kernelRun0_A.sl.HS2_6, kernelRun0_A.sl.HS2_8, kernelRun0_A.sl.cst_152, kernelRun0_A.sl.cst_226, kernelRun0_A.sl.cst_88, kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_11, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_12, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_13, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_14, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_15, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_16, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v0, kernelRun0_A.sl.v1, kernelRun0_A.sl.v2, kernelRun0_A.sl.v286, kernelRun0_A.sl.v295, kernelRun0_A.sl.v297, kernelRun0_A.sl.v299, kernelRun0_A.sl.v3, kernelRun0_A.sl.v301, kernelRun0_A.sl.v303, kernelRun0_A.sl.v305, kernelRun0_A.sl.v367, kernelRun0_A.sl.v369, kernelRun0_A.sl.v372, kernelRun0_A.sl.v374, kernelRun0_A.sl.v4, kernelRun0_A.sl.v528, kernelRun0_A.sl.v530, kernelRun0_A.sl.v532, kernelRun0_A.sl.v534, kernelRun0_A.sl.v536, kernelRun0_A.sl.v538, kernelRun0_A.sl.v600, kernelRun0_A.sl.v602, kernelRun0_A.sl.v605, kernelRun0_A.sl.v607, kernelRun0_A.sl.v723, kernelRun0_A.sl.v725, kernelRun0_A.sl.v727, kernelRun0_A.sl.v729, kernelRun0_A.sl.v731, kernelRun0_A.sl.v733, kernelRun0_A.sl.v795, kernelRun0_A.sl.v797, kernelRun0_A.sl.v800, kernelRun0_A.sl.v802, kernelRun0_A.sl.v878, kernelRun0_A.sl.v880, kernelRun0_A.sl.v882, kernelRun0_A.sl.v884, kernelRun0_A.sl.v886, kernelRun0_A.sl.v888, kernelRun0_A.sl.v950, kernelRun0_A.sl.v952, kernelRun0_A.sl.v955, kernelRun0_A.sl.v957]
  all_goals rfl

end Cert.KernelIdeal.Attn
end
-- ==== Proof.Steps.lean ====
/- Each kind of step, read at one query row: the tile operations take one online-softmax state to the next. -/
module

public import proofs.«01_k».proof.Proof.Model
public import proofs.«01_k».proof.Proof.Online
public import Idealize.ShloMosaic.Lib.Pointwise

@[expose] public section

set_option maxRecDepth 16384

noncomputable section

namespace Cert.KernelIdeal.Attn

open Idealize.ShloMosaic Cert.KernelIdeal Cert.KernelIdeal.Gen Cert.Online

/-- The pattern a maximum starts from is the least extended real. -/
theorem ofBits_neg_inf : Ideal.ofBits .f32 0xFF800000#32 = ⊥ := by simp [Ideal.ofBits, Ideal.ieee]

/-- The named mask value is the least extended real. -/
theorem mask_eq_bot : Named.named (F := Ideal) (φ := .f32) κ "mask" 0xF149F2CA#32 = (⊥ : EReal) := by
  rfl

/-- The maximum of a row, as a supremum over key numbers. -/
theorem fold_max_eq_sup (w : ℕ) (f : ℕ → EReal) (s : Fin w → EReal) (hs : ∀ c, s c = f c) :
    Finset.fold max (Ideal.ofBits .f32 0xFF800000#32) s Finset.univ = (Finset.range w).sup f := by
  rw [ofBits_neg_inf]
  show Finset.univ.sup s = _
  refine le_antisymm (Finset.sup_le fun c _ => ?_) (Finset.sup_le fun k hk => ?_)
  · rw [hs]; exact Finset.le_sup (f := f) (Finset.mem_range.mpr c.isLt)
  · have := Finset.le_sup (f := s) (Finset.mem_univ (⟨k, Finset.mem_range.mp hk⟩ : Fin w))
    rwa [hs] at this

/-- One step over `w` keys whose scores, weights and values a tile holds. -/
theorem tile_step {σ V : ℕ → EReal} (hσ : ∀ k, σ k ≠ ⊤) {n : ℕ} {m l a : EReal} (h : State σ V n m l a) {w : ℕ} (s v p : Fin w → EReal)
    (hs : ∀ c, s c = σ (n + c)) (hv : ∀ c, v c = V (n + c)) {m' : EReal}
    (hm : m' = max m (Finset.fold max (Ideal.ofBits .f32 0xFF800000#32) s Finset.univ)) (hp : ∀ c, p c = Ideal.exp2 (s c - m')) :
    State σ V (n + w) m' (Ideal.exp2 (m - m') * l + ∑ c, p c) (Ideal.exp2 (m - m') * a + ∑ c, p c * v c) := by
  refine h.step hσ w ?_ ?_ ?_
  · rw [hm, fold_max_eq_sup w (fun c => σ (n + c)) s hs]
  · rw [Finset.sum_range]
    congr 1
    exact Finset.sum_congr rfl fun c _ => by rw [hp, hs]
  · rw [Finset.sum_range]
    congr 1
    exact Finset.sum_congr rfl fun c _ => by rw [hp, hs, hv]

/-- The state of query row `r`, in every lane `d`, after the first `n` keys of scores `σ` and values `V d`. -/
def Good (σ : ℕ → EReal) (V : Fin 128 → ℕ → EReal) (n : ℕ) (st : St) (r : Fin 512) : Prop :=
  ∀ d : Fin 128, State σ (V d) n (st.m (ix2 r d)) (st.l (ix2 r d)) (st.acc (ix2 r d))

/-- Before any key. -/
theorem good_init (σ : ℕ → EReal) (V : Fin 128 → ℕ → EReal) (r : Fin 512) : Good σ V 0 St.init r := fun d => by
  have h1 : St.init.m (ix2 r d) = ⊥ := mask_eq_bot
  have h2 : St.init.l (ix2 r d) = 0 := by pointwise [St.init]
  have h3 : St.init.acc (ix2 r d) = 0 := by pointwise [St.init]
  rw [h1, h2, h3]
  exact State.zero _ _

/-- A whole key tile. -/
theorem good_stepFull {σ : ℕ → EReal} (hσ : ∀ k, σ k ≠ ⊤) {V : Fin 128 → ℕ → EReal} {n : ℕ} {st : St} {r : Fin 512} (h : Good σ V n st r)
    (q k : FVec Ideal S512x256 .bf16) (v : FVec Ideal S512x128 .bf16) (hs : ∀ c : Fin 512, scores q k (ix2 r c) = σ (n + c))
    (hv : ∀ (c : Fin 512) (d : Fin 128), v (ix2 c d) = V d (n + c)) : Good σ V (n + 512) (stepFull st q k v) r := by
  have hm : ∀ d : Fin 128, mFull st.m (scores q k) (ix2 r d)
      = max (st.m (ix2 r d)) (Finset.fold max (Ideal.ofBits .f32 0xFF800000#32) (fun c => scores q k (ix2 r c)) Finset.univ) := fun d => by
    pointwise [mFull]
  have hc : ∀ d d' : Fin 128, mFull st.m (scores q k) (ix2 r d') = mFull st.m (scores q k) (ix2 r d) := fun d d' => by
    rw [hm, hm, (h d).1, (h d').1]
  intro d
  have hp : ∀ c : Fin 512, pFull st.m (scores q k) (ix2 r c) = Ideal.exp2 (scores q k (ix2 r c) - mFull st.m (scores q k) (ix2 r d)) := fun c => by
    pointwise [pFull, hc d]
    simp only [dite_eq_ite, ite_self]; rfl
  have hst := tile_step hσ (h d) (fun c => scores q k (ix2 r c)) (fun c => v (ix2 c d)) (fun c => pFull st.m (scores q k) (ix2 r c)) hs
    (fun c => hv c d) (hm d) hp
  have e1 : (stepFull st q k v).l (ix2 r d) = Ideal.exp2 (st.m (ix2 r d) - mFull st.m (scores q k) (ix2 r d)) * st.l (ix2 r d)
      + ∑ c, pFull st.m (scores q k) (ix2 r c) := by
    pointwise [stepFull]; rfl
  have e2 : (stepFull st q k v).acc (ix2 r d) = Ideal.exp2 (st.m (ix2 r d) - mFull st.m (scores q k) (ix2 r d)) * st.acc (ix2 r d)
      + ∑ c, pFull st.m (scores q k) (ix2 r c) * v (ix2 c d) := by
    pointwise [stepFull]; rfl
  rw [e1, e2]
  exact hst

/-- The first half of the diagonal tile. -/
theorem good_stepDiag {σ : ℕ → EReal} (hσ : ∀ k, σ k ≠ ⊤) {V : Fin 128 → ℕ → EReal} {n : ℕ} {st : St} {r : Fin 512} (h : Good σ V n st r)
    (q : FVec Ideal S512x256 .bf16) (k : FVec Ideal S256x256 .bf16) (v : FVec Ideal S256x128 .bf16)
    (hs : ∀ c : Fin 256, scoresDiag q k (ix2 r c) = σ (n + c))
    (hv : ∀ (c : Fin 256) (d : Fin 128), v (ix2 c d) = V d (n + c)) : Good σ V (n + 256) (stepDiag st q k v) r := by
  have hm : ∀ d : Fin 128, mDiag st.m (scoresDiag q k) (ix2 r d)
      = max (st.m (ix2 r d)) (Finset.fold max (Ideal.ofBits .f32 0xFF800000#32) (fun c => scoresDiag q k (ix2 r c)) Finset.univ) := fun d => by
    pointwise [mDiag]
  have hc : ∀ d d' : Fin 128, mDiag st.m (scoresDiag q k) (ix2 r d') = mDiag st.m (scoresDiag q k) (ix2 r d) := fun d d' => by
    rw [hm, hm, (h d).1, (h d').1]
  intro d
  have hp : ∀ c : Fin 256, pDiag st.m (scoresDiag q k) (ix2 r c)
      = Ideal.exp2 (scoresDiag q k (ix2 r c) - mDiag st.m (scoresDiag q k) (ix2 r d)) := fun c => by
    pointwise [pDiag, hc d]
    simp only [dite_eq_ite, ite_self]; rfl
  have hst := tile_step hσ (h d) (fun c => scoresDiag q k (ix2 r c)) (fun c => v (ix2 c d)) (fun c => pDiag st.m (scoresDiag q k) (ix2 r c)) hs
    (fun c => hv c d) (hm d) hp
  have e1 : (stepDiag st q k v).l (ix2 r d) = Ideal.exp2 (st.m (ix2 r d) - mDiag st.m (scoresDiag q k) (ix2 r d)) * st.l (ix2 r d)
      + ∑ c, pDiag st.m (scoresDiag q k) (ix2 r c) := by
    pointwise [stepDiag]; rfl
  have e2 : (stepDiag st q k v).acc (ix2 r d) = Ideal.exp2 (st.m (ix2 r d) - mDiag st.m (scoresDiag q k) (ix2 r d)) * st.acc (ix2 r d)
      + ∑ c, pDiag st.m (scoresDiag q k) (ix2 r c) * v (ix2 c d) := by
    pointwise [stepDiag]; rfl
  rw [e1, e2]
  exact hst

/-- The second half of the diagonal tile, at row `r` of the lower half. -/
theorem state_stepLow {σ : ℕ → EReal} (hσ : ∀ k, σ k ≠ ⊤) {V : Fin 128 → ℕ → EReal} {n : ℕ} {m l acc : FVec Ideal S256x128 .f32} {r : Fin 256}
    (h : ∀ d : Fin 128, State σ (V d) n (m (ix2 r d)) (l (ix2 r d)) (acc (ix2 r d)))
    (s : FVec Ideal S256x256 .f32) (v : FVec Ideal S256x128 .bf16) (hs : ∀ c : Fin 256, s (ix2 r c) = σ (n + c))
    (hv : ∀ (c : Fin 256) (d : Fin 128), v (ix2 c d) = V d (n + c)) (d : Fin 128) :
    State σ (V d) (n + 256) (mLow m s (ix2 r d)) (lLow m l s (ix2 r d)) (accLow m acc s v (ix2 r d)) := by
  have hm : ∀ d : Fin 128, mLow m s (ix2 r d)
      = max (m (ix2 r d)) (Finset.fold max (Ideal.ofBits .f32 0xFF800000#32) (fun c => s (ix2 r c)) Finset.univ) := fun d => by
    pointwise [mLow]
  have hc : ∀ d' : Fin 128, mLow m s (ix2 r d') = mLow m s (ix2 r d) := fun d' => by
    rw [hm, hm, (h d).1, (h d').1]
  have hp : ∀ c : Fin 256, pLow m s (ix2 r c) = Ideal.exp2 (s (ix2 r c) - mLow m s (ix2 r d)) := fun c => by
    pointwise [pLow, hc]
    simp only [dite_eq_ite, ite_self]; rfl
  have hst := tile_step hσ (h d) (fun c => s (ix2 r c)) (fun c => v (ix2 c d)) (fun c => pLow m s (ix2 r c)) hs (fun c => hv c d) (hm d) hp
  have e1 : lLow m l s (ix2 r d) = Ideal.exp2 (m (ix2 r d) - mLow m s (ix2 r d)) * l (ix2 r d) + ∑ c, pLow m s (ix2 r c) := by
    pointwise [lLow]; rfl
  have e2 : accLow m acc s v (ix2 r d) = Ideal.exp2 (m (ix2 r d) - mLow m s (ix2 r d)) * acc (ix2 r d) + ∑ c, pLow m s (ix2 r c) * v (ix2 c d) := by
    pointwise [accLow]; rfl
  rw [e1, e2]
  exact hst

end Cert.KernelIdeal.Attn

end
-- ==== Proof.Rows.lean ====
/- The scores of a query row, head by head, and what a query tile stores: the causal softmax of the row's scores applied to
   the values. -/
module

public import proofs.«01_k».proof.Proof.Steps
public import Idealize.ShloMosaic.Lib.WordCmp

@[expose] public section

set_option maxRecDepth 16384

noncomputable section

namespace Cert.KernelIdeal.Attn

open Idealize.ShloMosaic Cert.KernelIdeal Cert.KernelIdeal.Gen Cert.Online Idealize.ShloMosaic.WordCmp

/-- Element `l` of row `k` of a block. -/
def row (X : Vec Ideal S2048x128 .bf16) (k l : ℕ) : EReal :=
  X (ix2 (⟨k % 2048, Nat.mod_lt _ (by norm_num)⟩ : Fin 2048) (⟨l % 128, Nat.mod_lt _ (by norm_num)⟩ : Fin 128))

theorem rows512_apply (X : Vec Ideal S2048x128 .bf16) (o : ℕ) (r : Fin 512) (l : Fin 128) : rows512 X o (ix2 r l) = row X (o + r) l := by
  unfold rows512 row
  refine congrArg X (funext fun a => ?_)
  match a with
  | ⟨0, _⟩ => rfl
  | ⟨1, _⟩ => exact Fin.ext (Nat.mod_eq_of_lt l.isLt).symm

theorem rows256_apply (X : Vec Ideal S2048x128 .bf16) (o : ℕ) (r : Fin 256) (l : Fin 128) : rows256 X o (ix2 r l) = row X (o + r) l := by
  unfold rows256 row
  refine congrArg X (funext fun a => ?_)
  match a with
  | ⟨0, _⟩ => rfl
  | ⟨1, _⟩ => exact Fin.ext (Nat.mod_eq_of_lt l.isLt).symm

/-- The score of a masked query row against key `k`, over all 256 lanes. -/
def rawScore (q : FVec Ideal S512x256 .bf16) (x2 x3 : Vec Ideal S2048x128 .bf16) (r : Fin 512) (k : ℕ) : EReal :=
  (∑ l : Fin 128, q (ix2 r (⟨l, by omega⟩ : Fin 256)) * row x2 k l) + ∑ l : Fin 128, q (ix2 r (⟨128 + l, by omega⟩ : Fin 256)) * row x3 k l

theorem scores_apply (q : FVec Ideal S512x256 .bf16) (x2 x3 : Vec Ideal S2048x128 .bf16) (o : ℕ) (r c : Fin 512) :
    scores q (keys512 x2 x3 o) (ix2 r c) = rawScore q x2 x3 r (o + c) := by
  unfold rawScore
  pointwise [scores, keys512, keys256, rows256_apply]
  by_cases h : (c : ℕ) < 256
  · simp only [h, dif_pos]
  · simp only [h, dif_neg, not_false_eq_true, show o + 256 + ((c : ℕ) - 256) = o + c by omega]

theorem scoresDiag_apply (q : FVec Ideal S512x256 .bf16) (x2 x3 : Vec Ideal S2048x128 .bf16) (o : ℕ) (r : Fin 512) (c : Fin 256) :
    scoresDiag q (keys256 x2 x3 o) (ix2 r c) = if (c : ℕ) ≤ r then rawScore q x2 x3 r (o + c) else ⊥ := by
  unfold rawScore
  pointwise [scoresDiag, keys256, rows256_apply]
  rw [cmpi_sle_ofNat (by omega) (by omega), select_decide, mask_eq_bot]

theorem scoresLow_apply (q : FVec Ideal S512x256 .bf16) (x2 x3 : Vec Ideal S2048x128 .bf16) (o : ℕ) (r c : Fin 256) :
    scoresLow q (keys256 x2 x3 o) (ix2 r c) = if (c : ℕ) ≤ r then rawScore q x2 x3 ⟨256 + r, by omega⟩ (o + c) else ⊥ := by
  unfold rawScore
  pointwise [scoresLow, keys256, rows256_apply]
  rw [cmpi_sle_ofNat (by omega) (by omega), select_decide, mask_eq_bot]

/-- The score of query `t` against key `k` for head `h` of the pair: 64 position-free lanes and 32 rotary lanes. -/
def headScore (x0 x1 x2 x3 : Vec Ideal S2048x128 .bf16) (h t k : ℕ) : EReal :=
  (∑ l : Fin 64, row x0 t (64 * h + l) * row x2 k (64 * h + l)) + ∑ l : Fin 32, row x1 t (32 * h + l) * row x3 k (32 * h + l)

/-- A sum whose terms vanish outside `w` lanes from `o` on. -/
theorem sum_lanes (o w : ℕ) (hw : o + w ≤ 128) (f g : ℕ → EReal) (hg : ∀ l, o ≤ l → l < o + w → g l = f l)
    (h0 : ∀ l, l < 128 → ¬(o ≤ l ∧ l < o + w) → g l = 0) : ∑ l : Fin 128, g l = ∑ l : Fin w, f (o + l) := by
  rw [← Finset.sum_range (f := g), ← Finset.sum_range (f := fun l => f (o + l)), show 128 = (o + w) + (128 - (o + w)) by omega,
    Finset.sum_range_add, Finset.sum_range_add,
    Finset.sum_eq_zero (s := Finset.range o) (fun l hl => h0 l (by have := Finset.mem_range.mp hl; omega) (by have := Finset.mem_range.mp hl; omega)),
    Finset.sum_eq_zero (s := Finset.range (128 - (o + w)))
      (fun l hl => h0 _ (by have := Finset.mem_range.mp hl; omega) (by omega)), zero_add, add_zero]
  exact Finset.sum_congr rfl fun l hl => hg _ (by omega) (by have := Finset.mem_range.mp hl; omega)

theorem rawScore_even (x0 x1 x2 x3 : Vec Ideal S2048x128 .bf16) (i : ℕ) (r : Fin 512) (k : ℕ) :
    rawScore (query x0 x1 false i) x2 x3 r k = headScore x0 x1 x2 x3 0 (512 * i + r) k := by
  unfold rawScore headScore
  pointwise [query, qEven, lane, zeroTile, rows512_apply]
  have e1 : ∀ l : Fin 128, IntOp.cmpi .slt (BitVec.ofNat 32 l) 64#32 = BitVec.ofBool (decide ((l : ℕ) < 64)) := fun l =>
    cmpi_slt_ofNat (by omega) (by norm_num)
  have e2 : ∀ l : Fin 128, IntOp.cmpi .slt (BitVec.ofNat 32 l) 32#32 = BitVec.ofBool (decide ((l : ℕ) < 32)) := fun l =>
    cmpi_slt_ofNat (by omega) (by norm_num)
  simp only [e1, e2, select_decide]
  refine congr (congrArg _ ?_) ?_
  · refine (sum_lanes 0 64 (by norm_num) (fun l => row x0 (512 * i + r) l * row x2 k l)
      (fun l => if l < 64 then row x0 (512 * i + r) l * row x2 k l else 0) (fun l h1 h2 => if_pos (by omega)) (fun l h1 h2 => if_neg (by omega))).trans ?_
    simp only [Nat.zero_add]
  · refine (sum_lanes 0 32 (by norm_num) (fun l => row x1 (512 * i + r) l * row x3 k l)
      (fun l => if l < 32 then row x1 (512 * i + r) l * row x3 k l else 0) (fun l h1 h2 => if_pos (by omega)) (fun l h1 h2 => if_neg (by omega))).trans ?_
    simp only [Nat.zero_add]

theorem rawScore_odd (x0 x1 x2 x3 : Vec Ideal S2048x128 .bf16) (i : ℕ) (r : Fin 512) (k : ℕ) :
    rawScore (query x0 x1 true i) x2 x3 r k = headScore x0 x1 x2 x3 1 (512 * i + r) k := by
  unfold rawScore headScore
  pointwise [query, qOdd, lane, zeroTile, rows512_apply]
  have e1 : ∀ l : Fin 128, IntOp.cmpi .sge (BitVec.ofNat 32 l) 64#32 = BitVec.ofBool (decide (64 ≤ (l : ℕ))) := fun l =>
    cmpi_sge_ofNat (by omega) (by norm_num)
  have e2 : ∀ l : Fin 128, IntOp.andi (IntOp.cmpi .sge (BitVec.ofNat 32 l) 32#32) (IntOp.cmpi .slt (BitVec.ofNat 32 l) 64#32)
      = BitVec.ofBool (decide (32 ≤ (l : ℕ) ∧ (l : ℕ) < 64)) := fun l => by
    rw [cmpi_sge_ofNat (by omega) (by norm_num), cmpi_slt_ofNat (by omega) (by norm_num)]
    by_cases h1 : 32 ≤ (l : ℕ) <;> by_cases h2 : (l : ℕ) < 64 <;> simp [h1, h2] <;> rfl
  simp only [e1, e2, select_decide]
  refine congr (congrArg _ ?_) ?_
  · exact sum_lanes 64 64 (by norm_num) (fun l => row x0 (512 * i + r) l * row x2 k l)
      (fun l => if 64 ≤ l then row x0 (512 * i + r) l * row x2 k l else 0) (fun l h1 h2 => if_pos (by omega)) (fun l h1 h2 => if_neg (by omega))
  · exact sum_lanes 32 32 (by norm_num) (fun l => row x1 (512 * i + r) l * row x3 k l)
      (fun l => if 32 ≤ l ∧ l < 64 then row x1 (512 * i + r) l * row x3 k l else 0) (fun l h1 h2 => if_pos (by omega)) (fun l h1 h2 => if_neg (by omega))

/-- Through the whole key tiles before the diagonal. -/
theorem good_before (x2 x3 x4 : Vec Ideal S2048x128 .bf16) (q : FVec Ideal S512x256 .bf16) (r : Fin 512) {σ : ℕ → EReal} (hσ : ∀ k, σ k ≠ ⊤)
    (i : ℕ) (hr : ∀ k, k < 512 * i → σ k = rawScore q x2 x3 r k) :
    Good σ (fun d k => row x4 k d) (512 * i) (before x2 x3 x4 q i) r := by
  induction i with
  | zero => exact good_init _ _ _
  | succ j ih =>
    refine good_stepFull hσ (ih fun k hk => hr k (by omega)) q _ _ (fun c => ?_) (fun c d => ?_)
    · rw [scores_apply, hr _ (by omega)]
    · rw [rows512_apply]

/-- At the end of a query tile, every row has taken in all 2048 keys under its causal mask. -/
theorem end_state (x2 x3 x4 : Vec Ideal S2048x128 .bf16) (q : FVec Ideal S512x256 .bf16) (r : Fin 512) (i : ℕ) (hi : i < 4)
    (hq : ∀ k, rawScore q x2 x3 r k ≠ ⊤) (d : Fin 128) :
    ∃ m, State (causal (rawScore q x2 x3 r) (512 * i + r)) (fun k => row x4 k d) 2048 m (lEnd x2 x3 x4 q i (ix2 r d)) (accEnd x2 x3 x4 q i (ix2 r d)) := by
  have hσ : ∀ k, causal (rawScore q x2 x3 r) (512 * i + r) k ≠ ⊤ := fun k => by
    unfold causal; split
    · exact hq k
    · exact bot_ne_top
  have hd : Good (causal (rawScore q x2 x3 r) (512 * i + r)) (fun d k => row x4 k d) (512 * i + 256) (diag x2 x3 x4 q i) r := by
    refine good_stepDiag hσ (good_before x2 x3 x4 q r hσ i fun k hk => if_pos (by omega)) q _ _ (fun c => ?_) (fun c d => ?_)
    · rw [scoresDiag_apply]; unfold causal
      exact if_congr (by omega) rfl rfl
    · rw [rows256_apply]
  have hmerge : ∀ lo w, merged lo w (ix2 r d) = if 256 ≤ (r : ℕ) then lo (ix2 (⟨((r : ℕ) - 256) % 256, Nat.mod_lt _ (by norm_num)⟩ : Fin 256) d) else w (ix2 r d) :=
    fun lo w => by pointwise [merged, overlay, fromLow]
  unfold lEnd accEnd
  rw [hmerge, hmerge]
  by_cases hr : 256 ≤ (r : ℕ)
  · rw [if_pos hr, if_pos hr]
    have hr' : (r : ℕ) - 256 < 256 := by omega
    have hlow : ∀ (w : FVec Ideal S512x128 .f32) (d : Fin 128), lowHalf w (ix2 (⟨((r : ℕ) - 256) % 256, Nat.mod_lt _ (by norm_num)⟩ : Fin 256) d) = w (ix2 r d) := fun w d => by
      pointwise [lowHalf, half, intoLow]
      congr 2
      exact Fin.ext (by show (256 + ((r : ℕ) - 256) % 256) % 512 = r; omega)
    have hst := state_stepLow hσ (V := fun d k => row x4 k d) (n := 512 * i + 256) (m := lowHalf (diag x2 x3 x4 q i).m)
      (l := lowHalf (diag x2 x3 x4 q i).l) (acc := lowHalf (diag x2 x3 x4 q i).acc) (r := ⟨((r : ℕ) - 256) % 256, Nat.mod_lt _ (by norm_num)⟩)
      (fun d => by rw [hlow, hlow, hlow]; exact hd d) (lowScores x2 x3 q i) (rows256 x4 (512 * i + 256)) (fun c => by
        unfold lowScores
        rw [scoresLow_apply]; unfold causal
        have e : (⟨256 + ((r : ℕ) - 256) % 256, by omega⟩ : Fin 512) = r := Fin.ext (by show 256 + ((r : ℕ) - 256) % 256 = r; omega)
        simp only [e]
        exact if_congr (by show (c : ℕ) ≤ ((r : ℕ) - 256) % 256 ↔ _; omega) rfl rfl) (fun c d => by rw [rows256_apply]) d
    have hfin := hst.masked (2048 - (512 * i + 256 + 256)) (fun k hk => if_neg (by omega))
    rw [show 512 * i + 256 + 256 + (2048 - (512 * i + 256 + 256)) = 2048 by omega] at hfin
    exact ⟨_, hfin⟩
  · rw [if_neg hr, if_neg hr]
    have hfin := (hd d).masked (2048 - (512 * i + 256)) (fun k hk => if_neg (by omega))
    rw [show 512 * i + 256 + (2048 - (512 * i + 256)) = 2048 by omega] at hfin
    exact ⟨_, hfin⟩

/-- What a query tile stores. -/
theorem outTile_apply (x0 x1 x2 x3 x4 : Vec Ideal S2048x128 .bf16) (i : ℕ) (hi : i < 4) (r : Fin 512) (c : Fin 128)
    (ht : ∀ h t k, headScore x0 x1 x2 x3 h t k ≠ ⊤) (hb : ∀ h t k, headScore x0 x1 x2 x3 h t k ≠ ⊥) :
    outTile x0 x1 x2 x3 x4 i (ix2 r c)
      = soft (causal (headScore x0 x1 x2 x3 ((c : ℕ) / 64) (512 * i + r)) (512 * i + r)) (fun k => row x4 k c) 2048 := by
  pointwise [outTile, lane]
  rw [show IntOp.cmpi .slt (BitVec.ofNat 32 c) 64#32 = BitVec.ofBool (decide ((c : ℕ) < 64)) from cmpi_slt_ofNat (by omega) (by norm_num), select_decide]
  have hs : ∀ h : ℕ, ∀ k, causal (headScore x0 x1 x2 x3 h (512 * i + r)) (512 * i + r) k ≠ ⊤ := fun h k => by
    unfold causal; split
    · exact ht _ _ _
    · exact bot_ne_top
  have h0 : ∀ h : ℕ, causal (headScore x0 x1 x2 x3 h (512 * i + r)) (512 * i + r) 0 ≠ ⊥ := fun h => by
    unfold causal; rw [if_pos (Nat.zero_le _)]; exact hb _ _ _
  split
  · rename_i h
    obtain ⟨m, hm⟩ := end_state x2 x3 x4 (query x0 x1 false i) r i hi (fun k => by rw [rawScore_even]; exact ht _ _ _) c
    have e : rawScore (query x0 x1 false i) x2 x3 r = headScore x0 x1 x2 x3 ((c : ℕ) / 64) (512 * i + r) := funext fun k => by
      rw [rawScore_even, Nat.div_eq_of_lt h]
    rw [e] at hm
    exact hm.softmax (hs _) (by norm_num) (h0 _)
  · rename_i h
    obtain ⟨m, hm⟩ := end_state x2 x3 x4 (query x0 x1 true i) r i hi (fun k => by rw [rawScore_odd]; exact ht _ _ _) c
    have e : rawScore (query x0 x1 true i) x2 x3 r = headScore x0 x1 x2 x3 ((c : ℕ) / 64) (512 * i + r) := funext fun k => by
      rw [rawScore_odd, show (c : ℕ) / 64 = 1 by omega]
    rw [e] at hm
    exact hm.softmax (hs _) (by norm_num) (h0 _)

end Cert.KernelIdeal.Attn

end
-- ==== Proof.Block.lean ====
/- What the body leaves in the result's block: the query tile each row falls in. -/
module

public import proofs.«01_k».proof.Proof.Tiles
public import proofs.«01_k».proof.Proof.Rows
public import proofs.«01_k».proof.Proof.Gen.KernelIdeal.Frame

@[expose] public section

set_option maxRecDepth 16384

noncomputable section

namespace Cert.KernelIdeal.Attn

open Idealize.ShloMosaic Idealize.ShloMosaic.TcCoe Cert.KernelIdeal Cert.KernelIdeal.Gen Cert.Online

/-- The result's block. -/
def outBlock (x0 x1 x2 x3 x4 : Vec Ideal S2048x128 .bf16) : Vec Ideal S2048x128 .bf16 := fun y =>
  outTile x0 x1 x2 x3 x4 ((y 0).val / 512) (ix2 (⟨(y 0).val % 512, Nat.mod_lt _ (by norm_num)⟩ : Fin 512) (y 1 : Fin 128))

/-- A query tile is the rows of the block it is stored to. -/
theorem outTile_eq (x0 x1 x2 x3 x4 : Vec Ideal S2048x128 .bf16) (i : ℕ) (x : S512x128.Idx) (y : S2048x128.Idx)
    (h0 : (y 0).val = 512 * i + (x 0).val) (h1 : (y 1).val = (x 1).val) : outTile x0 x1 x2 x3 x4 i x = outBlock x0 x1 x2 x3 x4 y := by
  have hx : (x 0).val < 512 := (x 0).isLt
  unfold outBlock
  rw [show (y 0).val / 512 = i by omega]
  refine congrArg _ (funext fun a => ?_)
  match a with
  | ⟨0, _⟩ => exact Fin.ext (by show (x 0).val = (y 0).val % 512; omega)
  | ⟨1, _⟩ => exact Fin.ext h1.symm

/-- The body leaves the block of query tiles. -/
theorem out_eq (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S4x2x512x128 .f32) (harg8 : arg8.IsWhole) (arg9 : Memref sig .tc .vmem S4x2x512x128 .f32) (harg9 : arg9.IsWhole) (arg10 : Memref sig .tc .vmem S4x2x512x128 .f32) (harg10 : arg10.IsWhole)
    (x0 x1 x2 x3 x4 : Vec Ideal S2048x128 .bf16) :
    out0_A_5 (F := Ideal) c i arg2 harg2 arg3 harg3 arg4 harg4 arg5 harg5 arg6 harg6 arg7 harg7 arg8 harg8 arg9 harg9 arg10 harg10 x0 x1 x2 x3 x4
      = outBlock x0 x1 x2 x3 x4 := by
  have hc := cover0_A_5 (F := Ideal) c i arg2 harg2 arg3 harg3 arg4 harg4 arg5 harg5 arg6 harg6 arg7 harg7 arg8 harg8 arg9 harg9 arg10 harg10 x0 x1 x2 x3 x4
  unfold out0_A_5
  rw [View.read_writes_junk_eq_canon]
  rw [stores] at hc ⊢
  refine funext fun y => View.canon_apply_of_pieces _ _ (fun p hp => ?_) y (hc y)
  simp only [List.mem_cons, List.not_mem_nil, or_false] at hp
  rcases hp with rfl | rfl | rfl | rfl <;> intro x <;> refine outTile_eq _ _ _ _ _ _ _ _ ?_ ?_
  all_goals (rw [Rect.emb_apply]; dsimp [Rect.unit]; omega)

end Cert.KernelIdeal.Attn

end
-- ==== Proof.Array.lean ====
/- The kernel's result array: causal attention over its argument arrays. -/
module

public import proofs.«01_k».proof.Proof.Block
public import proofs.«01_k».proof.Proof.Spec
public import proofs.«01_k».proof.Proof.Gen.KernelIdeal.Value
public import Idealize.ShloMosaic.Lib.Pipeline.ValueKit.Geometry

@[expose] public section

set_option maxRecDepth 8192

noncomputable section

namespace Cert.KernelIdeal.Attn

open Idealize.ShloMosaic Idealize.ShloMosaic.TcCoe Cert.KernelIdeal Cert.KernelIdeal.Gen Cert.Online Cert.Spec

/-- Where each window's block lies: batch member by head pair; the rotary key has one block per batch member. -/
theorem index_facts : ∀ t : Fin cfg0.N,
    (grid0.coords t 0).val < 16 ∧ (grid0.coords t 1).val < 8
    ∧ (win0_0.index t (0 : Fin 2) = (grid0.coords t 0).val ∧ win0_0.index t (1 : Fin 2) = (grid0.coords t 1).val)
    ∧ (win0_1.index t (0 : Fin 2) = (grid0.coords t 0).val ∧ win0_1.index t (1 : Fin 2) = (grid0.coords t 1).val)
    ∧ (win0_2.index t (0 : Fin 2) = (grid0.coords t 0).val ∧ win0_2.index t (1 : Fin 2) = (grid0.coords t 1).val)
    ∧ (win0_3.index t (0 : Fin 2) = (grid0.coords t 0).val ∧ win0_3.index t (1 : Fin 2) = 0)
    ∧ (win0_4.index t (0 : Fin 2) = (grid0.coords t 0).val ∧ win0_4.index t (1 : Fin 2) = (grid0.coords t 1).val)
    ∧ (win0_5.index t (0 : Fin 2) = (grid0.coords t 0).val ∧ win0_5.index t (1 : Fin 2) = (grid0.coords t 1).val) :=
  (by decide +kernel : ∀ t : Fin grid0.N, _)

variable (m : (ℓ : Loc nD τ sig) → Buf (Elt Ideal) ℓ) (c : Dev nD)

theorem row_iblk0 (t : Fin cfg0.N) (k l : ℕ) : row (iblk m c 0 t) k l
    = el (m ((c : Thread nD τ).loc main_arg0)) (2048 * (grid0.coords t 0).val + k % 2048) (128 * (grid0.coords t 1).val + l % 128) := by
  obtain ⟨hb, hj, e, _⟩ := index_facts t
  show V m c main_arg0 (((cfg0.win 0).blk t).view.emb _) = _
  refine congrArg (m ((c : Thread nD τ).loc main_arg0)) (funext fun a => Fin.ext ?_)
  match a with
  | ⟨0, _⟩ => show win0_0.index t (0 : Fin 2) * 2048 + 1 * (k % 2048) = (2048 * (grid0.coords t 0).val + k % 2048) % 32768; omega
  | ⟨1, _⟩ => show win0_0.index t (1 : Fin 2) * 128 + 1 * (l % 128) = (128 * (grid0.coords t 1).val + l % 128) % 1024; omega

theorem row_iblk1 (t : Fin cfg0.N) (k l : ℕ) : row (iblk m c 1 t) k l
    = el (m ((c : Thread nD τ).loc main_arg1)) (2048 * (grid0.coords t 0).val + k % 2048) (128 * (grid0.coords t 1).val + l % 128) := by
  obtain ⟨hb, hj, _, e, _⟩ := index_facts t
  show V m c main_arg1 (((cfg0.win 1).blk t).view.emb _) = _
  refine congrArg (m ((c : Thread nD τ).loc main_arg1)) (funext fun a => Fin.ext ?_)
  match a with
  | ⟨0, _⟩ => show win0_1.index t (0 : Fin 2) * 2048 + 1 * (k % 2048) = (2048 * (grid0.coords t 0).val + k % 2048) % 32768; omega
  | ⟨1, _⟩ => show win0_1.index t (1 : Fin 2) * 128 + 1 * (l % 128) = (128 * (grid0.coords t 1).val + l % 128) % 1024; omega

theorem row_iblk2 (t : Fin cfg0.N) (k l : ℕ) : row (iblk m c 2 t) k l
    = el (m ((c : Thread nD τ).loc main_arg2)) (2048 * (grid0.coords t 0).val + k % 2048) (128 * (grid0.coords t 1).val + l % 128) := by
  obtain ⟨hb, hj, _, _, e, _⟩ := index_facts t
  show V m c main_arg2 (((cfg0.win 2).blk t).view.emb _) = _
  refine congrArg (m ((c : Thread nD τ).loc main_arg2)) (funext fun a => Fin.ext ?_)
  match a with
  | ⟨0, _⟩ => show win0_2.index t (0 : Fin 2) * 2048 + 1 * (k % 2048) = (2048 * (grid0.coords t 0).val + k % 2048) % 32768; omega
  | ⟨1, _⟩ => show win0_2.index t (1 : Fin 2) * 128 + 1 * (l % 128) = (128 * (grid0.coords t 1).val + l % 128) % 1024; omega

theorem row_iblk3 (t : Fin cfg0.N) (k l : ℕ) : row (iblk m c 3 t) k l
    = elk (m ((c : Thread nD τ).loc main_arg3)) (2048 * (grid0.coords t 0).val + k % 2048) (l % 128) := by
  obtain ⟨hb, hj, _, _, _, e, _⟩ := index_facts t
  show V m c main_arg3 (((cfg0.win 3).blk t).view.emb _) = _
  refine congrArg (m ((c : Thread nD τ).loc main_arg3)) (funext fun a => Fin.ext ?_)
  match a with
  | ⟨0, _⟩ => show win0_3.index t (0 : Fin 2) * 2048 + 1 * (k % 2048) = (2048 * (grid0.coords t 0).val + k % 2048) % 32768; omega
  | ⟨1, _⟩ => show win0_3.index t (1 : Fin 2) * 128 + 1 * (l % 128) = l % 128 % 128; omega

theorem row_iblk4 (t : Fin cfg0.N) (k l : ℕ) : row (iblk m c 4 t) k l
    = el (m ((c : Thread nD τ).loc main_arg4)) (2048 * (grid0.coords t 0).val + k % 2048) (128 * (grid0.coords t 1).val + l % 128) := by
  obtain ⟨hb, hj, _, _, _, _, e, _⟩ := index_facts t
  show V m c main_arg4 (((cfg0.win 4).blk t).view.emb _) = _
  refine congrArg (m ((c : Thread nD τ).loc main_arg4)) (funext fun a => Fin.ext ?_)
  match a with
  | ⟨0, _⟩ => show win0_4.index t (0 : Fin 2) * 2048 + 1 * (k % 2048) = (2048 * (grid0.coords t 0).val + k % 2048) % 32768; omega
  | ⟨1, _⟩ => show win0_4.index t (1 : Fin 2) * 128 + 1 * (l % 128) = (128 * (grid0.coords t 1).val + l % 128) % 1024; omega

/-- A head's scores within the blocks are the head's scores over the arrays. -/
theorem headScore_iblk (t : Fin cfg0.N) (h p k : ℕ) (hh : h < 2) (hp : p < 2048) (hk : k < 2048) :
    headScore (iblk m c 0 t) (iblk m c 1 t) (iblk m c 2 t) (iblk m c 3 t) h p k
      = score (m ((c : Thread nD τ).loc main_arg0)) (m ((c : Thread nD τ).loc main_arg1)) (m ((c : Thread nD τ).loc main_arg2)) (m ((c : Thread nD τ).loc main_arg3))
        (grid0.coords t 0).val (2 * (grid0.coords t 1).val + h) p k := by
  unfold headScore score
  simp only [row_iblk0, row_iblk1, row_iblk2, row_iblk3, Nat.mod_eq_of_lt hp, Nat.mod_eq_of_lt hk]
  refine congr (congrArg _ (Finset.sum_congr rfl fun l _ => ?_)) (Finset.sum_congr rfl fun l _ => ?_)
  · rw [show 128 * (grid0.coords t 1).val + (64 * h + (l : ℕ)) % 128 = 64 * (2 * (grid0.coords t 1).val + h) + l by omega]
  · rw [show 128 * (grid0.coords t 1).val + (32 * h + (l : ℕ)) % 128
        = 128 * ((2 * (grid0.coords t 1).val + h) / 2) + 32 * ((2 * (grid0.coords t 1).val + h) % 2) + l by omega,
      show (32 * h + (l : ℕ)) % 128 = 32 * ((2 * (grid0.coords t 1).val + h) % 2) + l by omega]

/-- All elements of the arrays the scores read are finite. -/
def Finite : Prop :=
  (∀ r l, Real' (el (m ((c : Thread nD τ).loc main_arg0)) r l)) ∧ (∀ r l, Real' (el (m ((c : Thread nD τ).loc main_arg1)) r l))
    ∧ (∀ r l, Real' (el (m ((c : Thread nD τ).loc main_arg2)) r l)) ∧ ∀ r l, Real' (elk (m ((c : Thread nD τ).loc main_arg3)) r l)

theorem headScore_real (hf : Finite m c) (t : Fin cfg0.N) (h p k : ℕ) :
    Real' (headScore (iblk m c 0 t) (iblk m c 1 t) (iblk m c 2 t) (iblk m c 3 t) h p k) := by
  unfold headScore
  simp only [row_iblk0, row_iblk1, row_iblk2, row_iblk3]
  exact (Real'.sum _ fun l => (hf.1 _ _).mul (hf.2.2.1 _ _)).add (Real'.sum _ fun l => (hf.2.1 _ _).mul (hf.2.2.2 _ _))

/-- The result as a function of the argument arrays. -/
def result : Vec Ideal S32768x1024 .bf16 := fun y =>
  attn (m ((c : Thread nD τ).loc main_arg0)) (m ((c : Thread nD τ).loc main_arg1)) (m ((c : Thread nD τ).loc main_arg2)) (m ((c : Thread nD τ).loc main_arg3))
    (m ((c : Thread nD τ).loc main_arg4)) (y 0).val (y 1).val

/-- What grid point `t` leaves is its block of the result. -/
theorem block_apply (hf : Finite m c) (t : Fin cfg0.N) (y : S2048x128.Idx) (z : S32768x1024.Idx)
    (h0 : (z 0).val = (grid0.coords t 0).val * 2048 + (y 0).val) (h1 : (z 1).val = (grid0.coords t 1).val * 128 + (y 1).val) :
    outBlock (iblk m c 0 t) (iblk m c 1 t) (iblk m c 2 t) (iblk m c 3 t) (iblk m c 4 t) y = result m c z := by
  have hy0 : (y 0).val < 2048 := (y 0).isLt
  have hy1 : (y 1).val < 128 := (y 1).isLt
  have hz0 : (z 0).val < 32768 := (z 0).isLt
  unfold outBlock
  refine (outTile_apply _ _ _ _ _ ((y 0).val / 512) (by omega) ⟨(y 0).val % 512, Nat.mod_lt _ (by norm_num)⟩ ⟨(y 1).val, hy1⟩
    (fun h p k => (headScore_real m c hf t h p k).1) (fun h p k => (headScore_real m c hf t h p k).2)).trans ?_
  unfold result attn
  have e0 : 512 * ((y 0).val / 512) + (y 0).val % 512 = (y 0).val := by omega
  have e1 : (z 0).val / 2048 = (grid0.coords t 0).val := by omega
  have e2 : (z 0).val % 2048 = (y 0).val := by omega
  have e3 : (z 1).val / 64 = 2 * (grid0.coords t 1).val + (y 1).val / 64 := by omega
  show soft (causal (headScore _ _ _ _ ((y 1).val / 64) (512 * ((y 0).val / 512) + (y 0).val % 512)) (512 * ((y 0).val / 512) + (y 0).val % 512))
    (fun k => row _ k (y 1).val) 2048 = _
  rw [e0, e1, e2, e3]
  refine soft_congr (fun k hk => ?_) (fun k hk => ?_)
  · unfold causal
    rw [headScore_iblk m c t _ _ _ (by omega) hy0 hk]
  · rw [row_iblk4, Nat.mod_eq_of_lt hk, Nat.mod_eq_of_lt hy1, h1, Nat.mul_comm (grid0.coords t 1).val]

/-- The result array after the run. -/
theorem final (hf : Finite m c) : (dats m 0 c).arrAt 5 cfg0.N = result m c := by
  refine (dats m 0 c).arrAt_eq_of_covers 5 _ (by decide +kernel) fun t _ y => ?_
  obtain ⟨hb, hj, _, _, _, _, _, e5⟩ := index_facts t
  blk_simp
  rw [after0_5]
  unfold outsAt0
  rw [out_eq]
  refine block_apply m c hf t y _ ?_ ?_
  · show win0_5.index t (0 : Fin 2) * 2048 + 1 * (y 0).val = _; omega
  · show win0_5.index t (1 : Fin 2) * 128 + 1 * (y 1).val = _; omega

end Cert.KernelIdeal.Attn

end
-- ==== Proof.Finite.lean ====
/- What the precondition says: the elements the scores read are finite. -/
module

public import proofs.«01_k».proof.Proof.Array
public import proofs.«01_k».proof.Pre_finite_keys
public import Idealize.ShloMosaic.Lib.ReduceAll

@[expose] public section

set_option maxRecDepth 8192

noncomputable section

namespace Cert.Pre_finite_keys

open Idealize.ShloMosaic Cert.Spec

/-- The side conditions of the precondition's operations. -/
theorem facts : Facts where
  bitsLt_bf16_f32 := by decide
  bcast_S_S32768x1024 := by decide
  reducesTo_S32768x1024_S_d0_1 := by decide
  h_S_ := by decide
  bcast_S_S32768x128 := by decide
  reducesTo_S32768x128_S_d0_1 := by decide

theorem inf_eq : Ideal.ofBits .f32 0x7F800000#32 = ⊤ := by simp [Ideal.ofBits, Ideal.ieee]

/-- A magnitude below infinity is finite. -/
theorem real_of_abs {x : EReal} (h : Ideal.cmp .olt (max x (-x)) (Ideal.ofBits .f32 0x7F800000#32) = 1#1) : Real' x := by
  rw [inf_eq] at h
  constructor
  · rintro rfl
    simp [Ideal.cmp] at h
  · rintro rfl
    simp [Ideal.cmp] at h

theorem real_of_all (s : Shape) [Facts] (x : FVec Ideal s .f32) (hb : S_.BroadcastsInDim s (![] : Fin 0 → Fin s.rank)) {axes : List (Fin s.rank)} (hr : s.ReducesTo axes S_)
    (j : S_.Idx) (h : Host.reduce IntOp.andi (cmpf .olt (Host.absf x) (broadcastInDim s ![] hb (constant S_ .f32 0x7F800000#32))) (constantI S_ 1 1#1) hr Facts.h_S_ j = 1#1)
    (i : s.Idx) : Real' (x i) :=
  haveI : Subsingleton S_.Idx := ⟨fun a b => funext fun k => k.elim0⟩
  real_of_abs (Host.reduce_andi_all _ _ hr Facts.h_S_ j h i)

/-- Of arrays that the precondition admits, every element of the queries and keys is finite. -/
theorem real_of_fn [Facts] {a0 a1 a2 : FVec Ideal S32768x1024 .bf16} {a3 : FVec Ideal S32768x128 .bf16} {a4 : FVec Ideal S32768x1024 .bf16}
    (h : fn a0 a1 a2 a3 a4 = fun _ => 1#1) : (∀ i, Real' (a0 i)) ∧ (∀ i, Real' (a1 i)) ∧ (∀ i, Real' (a2 i)) ∧ ∀ i, Real' (a3 i) := by
  have h := congrFun h ix0
  dsimp only [fn, fn_part1] at h
  obtain ⟨h01, h23⟩ := IntOp.andi_eq_one.1 h
  obtain ⟨h0, h1⟩ := IntOp.andi_eq_one.1 h01
  obtain ⟨h2, h3⟩ := IntOp.andi_eq_one.1 h23
  exact ⟨real_of_all S32768x1024 _ _ _ _ h0, real_of_all S32768x1024 _ _ _ _ h1, real_of_all S32768x1024 _ _ _ _ h2, real_of_all S32768x128 _ _ _ _ h3⟩

end Cert.Pre_finite_keys

end
-- ==== Proof.Attention.lean ====
/- The claims about the attention: the frames, the named constant and the value. -/
module

public import proofs.«01_k».proof.Defs
public import proofs.«01_k».proof.Proof.Gen.Kernel.Frame
public import proofs.«01_k».proof.Proof.Gen.KernelIdeal.Frame
public import proofs.«01_k».proof.Proof.RefValue
public import proofs.«01_k».proof.Proof.Finite
public import Idealize.ShloMosaic.Lib.Quiescent

@[expose] public section

set_option maxRecDepth 8192

noncomputable section

namespace Cert.Proof.Attention

open Idealize.ShloMosaic Idealize.SL.Sem

/-- The kernel runs to its end and keeps its arguments. -/
theorem kernel_frame : Cert.quiescent_Kernel (hKernel := Cert.Kernel.Gen.facts) := fun m ρ _ => Cert.Kernel.Gen.frame m ρ

/-- So does the kernel over the extended reals. -/
theorem ideal_frame : Cert.quiescent_KernelIdeal (hKernelIdeal := Cert.KernelIdeal.Gen.facts) := fun m ρ _ => Cert.KernelIdeal.Gen.frame m ρ

/-- And so does the reference. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is minus infinity over the extended reals. -/
theorem mask : Cert.preserves_Kernel_KernelIdeal :=
  IdealRules.named_const.statement Cert.KernelIdeal.κ "mask" .f32 0xF149F2CA#32 ⊥ rfl

/-- The precondition makes every element that a score reads finite. -/
theorem finite_of_pre {m : (ℓ : Loc Cert.KernelIdeal.nD Cert.KernelIdeal.τ Cert.KernelIdeal.sig) → Buf (Elt Ideal) ℓ}
    (h : Cert.Pre_KernelIdeal_finite_keys (hPre_finite_keys := Cert.Pre_finite_keys.facts) m) (c : Dev Cert.KernelIdeal.nD) : Cert.KernelIdeal.Attn.Finite m c :=
  haveI := Cert.Pre_finite_keys.facts
  have ⟨h0, h1, h2, h3⟩ := Cert.Pre_finite_keys.real_of_fn (h c)
  ⟨fun _ _ => h0 _, fun _ _ => h1 _, fun _ _ => h2 _, fun _ _ => h3 _⟩

/-- Of equal arguments the reference's result array is the kernel's. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v43 (F := Ideal) m' c = Cert.KernelIdeal.Attn.result m c := by
  refine funext fun y => ?_
  obtain ⟨t, l, rfl⟩ : ∃ (t : Fin 32768) (l : Fin 1024), y = ix2 t l := ⟨y 0, y 1, eq_ix2 y⟩
  refine (Cert.ReferenceIdeal.Attn.res_apply m' c t l).trans ?_
  rw [h0, h1, h2, h3, h4]
  rfl

/-- From finite queries and keys, the kernel and the reference end with the same array. -/
theorem value : Cert.algebraic_KernelIdeal_ReferenceIdeal_pre_finite_keys (hKernelIdeal := Cert.KernelIdeal.Gen.facts)
    (hReferenceIdeal := Cert.ReferenceIdeal.Gen.facts) (hPre_finite_keys := Cert.Pre_finite_keys.facts) := by
  intro m ρ m' ρ' hpre hagree
  refine ⟨fun c => Cert.KernelIdeal.Attn.result m c, ?_, ?_⟩
  · refine (θ_run Cert.KernelIdeal.defs _ _).mono (fun _ h c => ⟨(h c).1.trans ?_, (h c).2⟩) (Cert.KernelIdeal.Value.run_blocks (F := Ideal) m ρ)
    exact Cert.KernelIdeal.Attn.final m c (finite_of_pre hpre c)
  · refine (θ_run Cert.ReferenceIdeal.defs _ _).mono (fun _ h c => ⟨(h c).1.trans ?_, (h c).2⟩) (Cert.ReferenceIdeal.Value.run (F := Ideal) m' ρ')
    obtain ⟨h0, h1, h2, h3, h4⟩ := hagree c
    exact reference_result m m' c h0 h1 h2 h3 h4

end Cert.Proof.Attention

end
-- ==== Proof.ProjSpec.lean ====
/- The prompt's input projection as plain sums over its argument arrays: the products with the weights, the two root-mean-square
   norms, the rotary turn, and the gates. -/
module

public import Idealize.ShloMosaic.Lib.Pointwise

@[expose] public section

noncomputable section

namespace Cert.ProjSpec

open Idealize.ShloMosaic

/-- Element `(r, c)` of an array of two axes. -/
def at2 {n0 n1 : ℕ} [NeZero n0] [NeZero n1] (A : FVec Ideal (⟨2, ![n0, n1]⟩ : Shape) .f32) (r c : ℕ) : EReal :=
  A (ix2 (Fin.ofNat n0 r) (Fin.ofNat n1 c))

/-- Element `(r, h, c)` of an array of three axes. -/
def at3 {n0 n1 n2 : ℕ} [NeZero n0] [NeZero n1] [NeZero n2] (A : FVec Ideal (⟨3, ![n0, n1, n2]⟩ : Shape) .f32) (r h c : ℕ) : EReal :=
  A (ix3 (Fin.ofNat n0 r) (Fin.ofNat n1 h) (Fin.ofNat n2 c))

theorem at2_of {n0 n1 : ℕ} [NeZero n0] [NeZero n1] (A : FVec Ideal (⟨2, ![n0, n1]⟩ : Shape) .f32) (r : Fin n0) (c : Fin n1) {r' c' : ℕ}
    (hr : r.val = r') (hc : c.val = c') : A (ix2 r c) = at2 A r' c' := by
  subst hr hc
  unfold at2
  exact congrArg A (congr (congrArg ix2 (Fin.ext (Nat.mod_eq_of_lt r.isLt).symm)) (Fin.ext (Nat.mod_eq_of_lt c.isLt).symm))

theorem at3_of {n0 n1 n2 : ℕ} [NeZero n0] [NeZero n1] [NeZero n2] (A : FVec Ideal (⟨3, ![n0, n1, n2]⟩ : Shape) .f32) (r : Fin n0) (h : Fin n1)
    (c : Fin n2) {r' h' c' : ℕ} (hr : r.val = r') (hh : h.val = h') (hc : c.val = c') : A (ix3 r h c) = at3 A r' h' c' := by
  subst hr hh hc
  unfold at3
  exact congrArg A (congr (congr (congrArg ix3 (Fin.ext (Nat.mod_eq_of_lt r.isLt).symm)) (Fin.ext (Nat.mod_eq_of_lt h.isLt).symm))
    (Fin.ext (Nat.mod_eq_of_lt c.isLt).symm))

/-- The argument arrays: the tokens' rows, the input weights, each norm's gain with the weights behind it, the tables of angles. -/
structure In where
  x : FVec Ideal (⟨2, ![32768, 1024]⟩ : Shape) .f32
  w : FVec Ideal (⟨2, ![1024, 3744]⟩ : Shape) .f32
  qg : FVec Ideal (⟨2, ![1, 384]⟩ : Shape) .f32
  uq : FVec Ideal (⟨2, ![384, 1536]⟩ : Shape) .f32
  kvg : FVec Ideal (⟨2, ![1, 256]⟩ : Shape) .f32
  uk : FVec Ideal (⟨3, ![256, 16, 64]⟩ : Shape) .f32
  uv : FVec Ideal (⟨3, ![256, 16, 64]⟩ : Shape) .f32
  cs : FVec Ideal (⟨2, ![2048, 128]⟩ : Shape) .f32
  sn : FVec Ideal (⟨2, ![2048, 128]⟩ : Shape) .f32

/-- A vector over its root mean square: `n` is the count of its entries, `g` the gain. -/
def rms {d : ℕ} (n : EReal) (f g : Fin d → EReal) (j : Fin d) : EReal :=
  f j * Ideal.rsqrt (Ideal.div (∑ i, f i * f i) n + Ideal.ofBits .f32 0x358637BD#32) * g j

/-- The queries' scale: the attention's, times the logarithm of `e` to base two. -/
def scale : EReal := Ideal.ofBits .f32 0x3E16C740#32

variable (I : In)

/-- Column `c` of token `t`'s row times the input weights. -/
def hid (t c : ℕ) : EReal := ∑ k : Fin 1024, at2 I.x t k * at2 I.w k c

/-- The query latent, normalised. -/
def cq (t : ℕ) : Fin 384 → EReal := rms (Ideal.ofBits .f32 0x43C00000#32) (fun i => hid I t i) (fun i => at2 I.qg 0 i)

/-- The key and value latent, normalised. -/
def ckv (t : ℕ) : Fin 256 → EReal := rms (Ideal.ofBits .f32 0x43800000#32) (fun i => hid I t (384 + i)) (fun i => at2 I.kvg 0 i)

/-- The queries before scale and turn: head `h` has columns `96 h ..`. -/
def q (t c : ℕ) : EReal := ∑ j : Fin 384, cq I t j * at2 I.uq j c

/-- The turn of 32 entries `f` by the angles of lane `l` at token `t`'s position, `l % 32` being the entry. -/
def turn (f : ℕ → EReal) (t l : ℕ) : EReal :=
  f (l % 32) * at2 I.cs (t % 2048) l + f ((l % 32 + 16) % 32) * at2 I.sn (t % 2048) l

/-- The queries' part without position. -/
def qn (t l : ℕ) : EReal := q I t (96 * (l / 64) + l % 64) * scale

/-- The queries' rotary part: lane `l % 128` below 64 of head pair `l / 128`, then zeros. -/
def qr (t l : ℕ) : EReal :=
  if l % 128 < 64 then turn I (fun o => q I t (96 * (2 * (l / 128) + l % 128 / 32) + 64 + o)) t (l % 128) * scale else 0

/-- The keys' part without position. -/
def kn (t l : ℕ) : EReal := ∑ j : Fin 256, ckv I t j * at3 I.uk j (l / 64) (l % 64)

/-- The values. -/
def vl (t l : ℕ) : EReal := ∑ j : Fin 256, ckv I t j * at3 I.uv j (l / 64) (l % 64)

/-- The rotary key, once for even and once for odd heads, then zeros. -/
def krd (t l : ℕ) : EReal := if l < 64 then turn I (fun o => hid I t (640 + o)) t l else 0

/-- The convolution's input: a linear part gated by the logistic of another. -/
def u (t l : ℕ) : EReal := hid I t (672 + l) * Ideal.logistic (hid I t (1184 + l))

/-- The first gate. -/
def ga (t l : ℕ) : EReal := Ideal.logistic (hid I t (1696 + l))

/-- The second gate. -/
def gb (t l : ℕ) : EReal := Ideal.logistic (hid I t (2720 + l))

/-- The array of `n` columns whose row `t` has `f t`. -/
def rows {n : ℕ} (f : ℕ → ℕ → EReal) : (⟨2, ![32768, n]⟩ : Shape).Idx → EReal := fun y => f (y 0).val (y 1).val

/-- The last 30 rows of the convolution's input in each sequence: what the next step's convolution reads. -/
def left : (⟨3, ![16, 30, 512]⟩ : Shape).Idx → EReal := fun y => u I (2048 * (y 0).val + (2018 + (y 1).val)) (y 2).val

end Cert.ProjSpec

end
-- ==== Proof.ProjBlock.lean ====
/- What a grid point stores, at an index, as sums over its blocks. -/
module

public import proofs.«01_k».proof.Proof.ProjSpec
public import proofs.«01_k».proof.Proof.Gen.Kernel2Ideal.Frame
public import Idealize.ShloMosaic.Lib.WordCmp

@[expose] public section

set_option maxRecDepth 16384

noncomputable section

namespace Cert.Kernel2Ideal.Proj

open Idealize.ShloMosaic Cert.Kernel2Ideal Cert.Kernel2Ideal.Gen Cert.ProjSpec Idealize.ShloMosaic.WordCmp

theorem origin : (![0, 0] : Fin 2 → ℕ) = fun _ => 0 := by decide

variable (x0 : Vec Ideal S512x1024 .f32) (x1 : Vec Ideal S1024x3840 .bf16) (x2 : Vec Ideal S1x384 .f32) (x3 : Vec Ideal S1x256 .f32)
  (x4 : Vec Ideal S384x2048 .bf16) (x5 : Vec Ideal S256x2048 .bf16) (x6 x7 : Vec Ideal S512x128 .f32)

/-- Row `r` of the tokens' block times column `b` of the input weights. -/
def bh (r : Fin 512) (b : Fin 3840) : EReal := ∑ k : Fin 1024, x0 (ix2 r k) * x1 (ix2 k b)

/-- The query latent of row `r`, normalised. -/
def bq (r : Fin 512) : Fin 384 → EReal :=
  rms (Ideal.ofBits .f32 0x43C00000#32) (fun i => bh x0 x1 r ⟨i, by omega⟩) (fun i => x2 (ix2 0 i))

/-- The key and value latent of row `r`, normalised. -/
def bkv (r : Fin 512) : Fin 256 → EReal :=
  rms (Ideal.ofBits .f32 0x43800000#32) (fun i => bh x0 x1 r ⟨384 + i, by omega⟩) (fun i => x3 (ix2 0 i))

theorem pay30_apply (r : Fin 512) (k : Fin 1024) : k0_pay30 x0 x1 x2 x3 x4 x5 x6 x7 (ix2 r k) = x0 (ix2 r k) := by
  pointwise [k0_pay30, k0_pay4]

theorem out15_apply (r : Fin 512) (l : Fin 512) : out0_15 x0 x1 x2 x3 x4 x5 x6 x7 (ix2 r l)
    = bh x0 x1 r ⟨640 + l, by omega⟩ * Ideal.logistic (bh x0 x1 r ⟨1152 + l, by omega⟩) := by
  unfold bh out0_15
  rw [View.canon_unit_zero origin]
  pointwise [k0_pay1, pay30_apply]

theorem out16_apply (r : Fin 512) (l : Fin 1024) : out0_16 x0 x1 x2 x3 x4 x5 x6 x7 (ix2 r l)
    = Ideal.logistic (bh x0 x1 r ⟨1664 + l, by omega⟩) := by
  unfold bh out0_16
  rw [View.canon_unit_zero origin]
  pointwise [k0_pay2, pay30_apply]

theorem out17_apply (r : Fin 512) (l : Fin 1024) : out0_17 x0 x1 x2 x3 x4 x5 x6 x7 (ix2 r l)
    = Ideal.logistic (bh x0 x1 r ⟨2688 + l, by omega⟩) := by
  unfold bh out0_17
  rw [View.canon_unit_zero origin]
  pointwise [k0_pay3, pay30_apply]

theorem pay20_apply (r : Fin 512) (l : Fin 256) :
    k0_pay20 (k0_pay30 x0 x1 x2 x3 x4 x5 x6 x7) (View.ld x1 r0_5) (View.ld x3 r0_6) (ix2 r l) = bkv x0 x1 x3 r l := by
  unfold bkv rms bh
  pointwise [k0_pay20, pay30_apply]

theorem out13_apply (r : Fin 512) (l : Fin 256) : out0_13 x0 x1 x2 x3 x4 x5 x6 x7 (ix2 r l) = bkv x0 x1 x3 r l := by
  unfold out0_13
  rw [View.canon_unit_zero origin]
  exact pay20_apply x0 x1 x2 x3 x4 x5 x6 x7 r l

theorem pay33_apply (r : Fin 512) (l : Fin 256) : k0_pay33 x0 x1 x2 x3 x4 x5 x6 x7 (ix2 r l) = bkv x0 x1 x3 r l :=
  pay20_apply x0 x1 x2 x3 x4 x5 x6 x7 r l

theorem out10_apply (r : Fin 512) (l : Fin 1024) : out0_10 x0 x1 x2 x3 x4 x5 x6 x7 (ix2 r l)
    = ∑ j : Fin 256, bkv x0 x1 x3 r j * x5 (ix2 j ⟨l, by omega⟩) := by
  unfold out0_10
  rw [View.canon_unit_zero origin]
  pointwise [k0_pay26, k0_pay25, pay33_apply]

theorem out11_apply (r : Fin 512) (l : Fin 1024) : out0_11 x0 x1 x2 x3 x4 x5 x6 x7 (ix2 r l)
    = ∑ j : Fin 256, bkv x0 x1 x3 r j * x5 (ix2 j ⟨1024 + l, by omega⟩) := by
  unfold out0_11
  rw [View.canon_unit_zero origin]
  pointwise [k0_pay27, k0_pay25, pay33_apply]

theorem pay7_apply (r : Fin 512) (l : Fin 2048) : k0_pay7 (View.ld x0 r0_0) (View.ld x1 r0_2) (View.ld x2 r0_3) (View.ld x4 r0_4) (ix2 r l)
    = ∑ j : Fin 384, bq x0 x1 x2 r j * x4 (ix2 j l) := by
  unfold bq rms bh
  pointwise [k0_pay7, k0_pay4]

theorem out8_apply (r : Fin 512) (l : Fin 1024) : out0_8 x0 x1 x2 x3 x4 x5 x6 x7 (ix2 r l)
    = (∑ j : Fin 384, bq x0 x1 x2 r j * x4 (ix2 j ⟨l, by omega⟩)) * scale := by
  unfold out0_8 scale
  rw [View.canon_unit_zero origin]
  pointwise [k0_pay8, pay7_apply]

theorem pay31_apply (r : Fin 512) (l : Fin 1024) : k0_pay31 x0 x1 x2 x3 x4 x5 x6 x7 (ix2 r l)
    = ∑ j : Fin 384, bq x0 x1 x2 r j * x4 (ix2 j ⟨1024 + l, by omega⟩) := by
  pointwise [k0_pay31, k0_pay9, pay7_apply]

theorem pay34_apply (r : Fin 512) (l : Fin 128) : k0_pay34 x0 x1 x2 x3 x4 x5 x6 x7 (ix2 r l) = bh x0 x1 r ⟨3712 + l, by omega⟩ := by
  unfold bh
  pointwise [k0_pay34, k0_pay21, pay30_apply]

theorem pay35_apply (r : Fin 512) (l : Fin 128) :
    k0_pay35 x0 x1 x2 x3 x4 x5 x6 x7 (ix2 r l) = bh x0 x1 r ⟨3712 + l, by omega⟩ * x6 (ix2 r l) := by
  unfold bh
  pointwise [k0_pay35, k0_pay22, k0_pay21, pay30_apply]

/-- Whether lane `l` is in the first half of its head's 32: the remainder's sign mended, compared with half a head. -/
def half (l : ℕ) (n : BitVec 32) : BitVec 1 :=
  IntOp.cmpi .slt
    (Scalar.select
      (IntOp.andi (IntOp.xori (IntOp.cmpi .slt (IntOp.remsi .vector (BitVec.ofNat 32 l) n) 0#32) (Scalar.cmpi .slt n 0#32))
        (IntOp.cmpi .ne (IntOp.remsi .vector (BitVec.ofNat 32 l) n) 0#32))
      (IntOp.addi (IntOp.remsi .vector (BitVec.ofNat 32 l) n) n) (IntOp.remsi .vector (BitVec.ofNat 32 l) n))
    16#32

theorem half_eq : ∀ l : Fin 128, half l (Scalar.select (Scalar.cmpi .eq 32#32 0#32) 1#32 32#32) = if l.val % 32 < 16 then 1#1 else 0#1 := by
  decide +kernel

/-- Entry `l` of a rotary group of 128 lanes, half a head further on or back. -/
def partner (f : ℕ → EReal) (l : ℕ) : EReal := if l % 32 < 16 then f (l + 16) else f (l - 16)

theorem krot_apply (r : Fin 512) (l : Fin 128) :
    k0_pay23 (View.ld x7 r0_1) (k0_pay34 x0 x1 x2 x3 x4 x5 x6 x7) (k0_pay35 x0 x1 x2 x3 x4 x5 x6 x7) (k0_pay32 x0 x1 x2 x3 x4 x5 x6 x7) 32#32
      (Scalar.cmpi .eq 32#32 0#32) 1#32 (ix2 r l)
    = bh x0 x1 r ⟨3712 + l, by omega⟩ * x6 (ix2 r l) + partner (fun i => bh x0 x1 r (Fin.ofNat 3840 (3712 + i))) l * x7 (ix2 r l) := by
  unfold partner
  pointwise [k0_pay23, pay34_apply, pay35_apply, k0_pay32]
  refine congrArg₂ (fun a b : EReal => a + b) rfl (congrArg₂ (fun a b : EReal => a * b) ?_ rfl)
  show Scalar.select (half l _) _ _ = _
  rw [half_eq]
  by_cases h : l.val % 32 < 16
  · rw [if_pos h, if_pos h]
    refine congrArg (bh x0 x1 r) (Fin.ext ?_)
    show 3712 + (l.val + 128 - 112) % 128 = (3712 + (l.val + 16)) % 3840
    omega
  · rw [if_neg h, if_neg h]
    refine congrArg (bh x0 x1 r) (Fin.ext ?_)
    show 3712 + (l.val + 128 - 16) % 128 = (3712 + (l.val - 16)) % 3840
    omega

theorem out12_apply (r : Fin 512) (l : Fin 128) : out0_12 x0 x1 x2 x3 x4 x5 x6 x7 (ix2 r l)
    = bh x0 x1 r ⟨3712 + l, by omega⟩ * x6 (ix2 r l) + partner (fun i => bh x0 x1 r (Fin.ofNat 3840 (3712 + i))) l * x7 (ix2 r l) := by
  unfold out0_12
  rw [View.canon_unit_zero origin]
  exact krot_apply x0 x1 x2 x3 x4 x5 x6 x7 r l

theorem out14_apply (r : Fin 512) (l : Fin 32) : out0_14 x0 x1 x2 x3 x4 x5 x6 x7 (ix2 r l)
    = bh x0 x1 r ⟨3712 + l, by omega⟩ * x6 (ix2 r ⟨l, by omega⟩)
      + partner (fun i => bh x0 x1 r (Fin.ofNat 3840 (3712 + i))) l * x7 (ix2 r ⟨l, by omega⟩) := by
  unfold out0_14
  rw [View.canon_unit_zero origin]
  pointwise [k0_pay24]
  exact krot_apply x0 x1 x2 x3 x4 x5 x6 x7 r ⟨l, by omega⟩

/-- The queries' rotary columns, as the kernel's product gives them. -/
def bqa (r : Fin 512) (i : ℕ) : EReal := ∑ j : Fin 384, bq x0 x1 x2 r j * x4 (ix2 j (Fin.ofNat 2048 (1024 + i)))

theorem pay31_bqa (r : Fin 512) (l : Fin 1024) : k0_pay31 x0 x1 x2 x3 x4 x5 x6 x7 (ix2 r l) = bqa x0 x1 x2 x4 r l := by
  rw [pay31_apply]
  unfold bqa
  refine Finset.sum_congr rfl fun j _ => ?_
  refine congrArg (fun k => _ * x4 (ix2 j k)) (Fin.ext ?_)
  show 1024 + l.val = (1024 + l.val) % 2048
  omega

/-- One group's turned columns. -/
theorem group_apply (v : FVec Ideal S512x1024 .f32) (f : ℕ → EReal) (r : Fin 512) (hv : ∀ l : Fin 1024, v (ix2 r l) = f l) (o : ℕ) (ho : o + 128 ≤ 1024)
    (l : Fin 128) :
    Scalar.select (half l (Scalar.select (Scalar.cmpi .eq 32#32 0#32) 1#32 32#32)) (v (ix2 r ⟨o + (l.val + 128 - 112) % 128, by omega⟩))
      (v (ix2 r ⟨o + (l.val + 128 - 16) % 128, by omega⟩)) = partner (fun i => f (o + i)) l := by
  rw [half_eq, hv, hv]
  unfold partner
  by_cases h : l.val % 32 < 16
  · rw [if_pos h, if_pos h]
    refine congrArg f ?_
    show o + (l.val + 128 - 112) % 128 = o + (l.val + 16)
    omega
  · rw [if_neg h, if_neg h]
    refine congrArg f ?_
    show o + (l.val + 128 - 16) % 128 = o + (l.val - 16)
    omega

/-- The kernel's mask of the lanes in the first half of their head. -/
abbrev maskK : IVec S512x128 1 := k0_pay10 (k0_pay29 x0 x1 x2 x3 x4 x5 x6 x7) (Scalar.select (Scalar.cmpi .eq 32#32 0#32) 1#32 32#32)

theorem maskK_apply (r : Fin 512) (l : Fin 128) : maskK x0 x1 x2 x3 x4 x5 x6 x7 (ix2 r l) = half l (Scalar.select (Scalar.cmpi .eq 32#32 0#32) 1#32 32#32) := by
  pointwise [k0_pay10, k0_pay29]
  rfl

variable (v : FVec Ideal S512x1024 .f32) (f : ℕ → EReal) (r : Fin 512) (hv : ∀ l : Fin 1024, v (ix2 r l) = f l) (l : Fin 128)

include hv

theorem pay11_apply : k0_pay11 v (k0_pay29 x0 x1 x2 x3 x4 x5 x6 x7) (Scalar.select (Scalar.cmpi .eq 32#32 0#32) 1#32 32#32) (ix2 r l)
    = partner (fun i => f (0 + i)) l := by
  have h := group_apply v f r hv 0 (by norm_num) l
  simp only [Nat.zero_add] at h
  pointwise [k0_pay11, maskK_apply]
  exact h

theorem pay12_apply : k0_pay12 v (k0_pay29 x0 x1 x2 x3 x4 x5 x6 x7) (Scalar.select (Scalar.cmpi .eq 32#32 0#32) 1#32 32#32) (ix2 r l)
    = partner (fun i => f (128 + i)) l := by
  pointwise [k0_pay12, maskK_apply]
  exact group_apply v f r hv 128 (by norm_num) l

theorem pay13_apply : k0_pay13 v (k0_pay29 x0 x1 x2 x3 x4 x5 x6 x7) (Scalar.select (Scalar.cmpi .eq 32#32 0#32) 1#32 32#32) (ix2 r l)
    = partner (fun i => f (256 + i)) l := by
  pointwise [k0_pay13, maskK_apply]
  exact group_apply v f r hv 256 (by norm_num) l

theorem pay14_apply : k0_pay14 v (k0_pay29 x0 x1 x2 x3 x4 x5 x6 x7) (Scalar.select (Scalar.cmpi .eq 32#32 0#32) 1#32 32#32) (ix2 r l)
    = partner (fun i => f (384 + i)) l := by
  pointwise [k0_pay14, maskK_apply]
  exact group_apply v f r hv 384 (by norm_num) l

theorem pay15_apply : k0_pay15 v (k0_pay29 x0 x1 x2 x3 x4 x5 x6 x7) (Scalar.select (Scalar.cmpi .eq 32#32 0#32) 1#32 32#32) (ix2 r l)
    = partner (fun i => f (512 + i)) l := by
  pointwise [k0_pay15, maskK_apply]
  exact group_apply v f r hv 512 (by norm_num) l

theorem pay16_apply : k0_pay16 v (k0_pay29 x0 x1 x2 x3 x4 x5 x6 x7) (Scalar.select (Scalar.cmpi .eq 32#32 0#32) 1#32 32#32) (ix2 r l)
    = partner (fun i => f (640 + i)) l := by
  pointwise [k0_pay16, maskK_apply]
  exact group_apply v f r hv 640 (by norm_num) l

theorem group6_apply : select (maskK x0 x1 x2 x3 x4 x5 x6 x7) (k0_pay18 v) (dynamicRotate 1 16#32 none (k0_pay17 v) rotates_S512x128_d1) (ix2 r l)
    = partner (fun i => f (768 + i)) l := by
  pointwise [k0_pay18, k0_pay17, maskK_apply]
  exact group_apply v f r hv 768 (by norm_num) l

theorem group7_apply : select (maskK x0 x1 x2 x3 x4 x5 x6 x7)
      (dynamicRotate 1 112#32 none (extractStridedSlice S512x128 ![0, 896] v slices_S512x1024_o0_896_S512x128) rotates_S512x128_d1)
      (dynamicRotate 1 16#32 none (extractStridedSlice S512x128 ![0, 896] v slices_S512x1024_o0_896_S512x128) rotates_S512x128_d1) (ix2 r l)
    = partner (fun i => f (896 + i)) l := by
  pointwise [maskK_apply]
  exact group_apply v f r hv 896 (by norm_num) l

omit hv

/-- Eight groups of 128 lanes side by side. -/
def side (p0 p1 p2 p3 p4 p5 p6 p7 : FVec Ideal S512x128 .f32) : FVec Ideal S512x1024 .f32 :=
  concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩] concatenates_S512x128_S512x128_S512x128_S512x128_S512x128_S512x128_S512x128_S512x128_S512x1024_d1

/-- The groups laid side by side, read at lane `L`. -/
theorem groups_apply (p0 p1 p2 p3 p4 p5 p6 p7 : FVec Ideal S512x128 .f32) (r : Fin 512) (L : ℕ) (hL : L < 1024) (g : ℕ) (hg : L / 128 = g) :
    (if h : L < 128 then p0 (ix2 r (⟨L, by omega⟩ : Fin 128))
      else if h : L - 128 < 128 then p1 (ix2 r (⟨L - 128, by omega⟩ : Fin 128))
      else if h : L - 128 - 128 < 128 then p2 (ix2 r (⟨L - 128 - 128, by omega⟩ : Fin 128))
      else if h : L - 128 - 128 - 128 < 128 then p3 (ix2 r (⟨L - 128 - 128 - 128, by omega⟩ : Fin 128))
      else if h : L - 128 - 128 - 128 - 128 < 128 then p4 (ix2 r (⟨L - 128 - 128 - 128 - 128, by omega⟩ : Fin 128))
      else if h : L - 128 - 128 - 128 - 128 - 128 < 128 then p5 (ix2 r (⟨L - 128 - 128 - 128 - 128 - 128, by omega⟩ : Fin 128))
      else if h : L - 128 - 128 - 128 - 128 - 128 - 128 < 128 then p6 (ix2 r (⟨L - 128 - 128 - 128 - 128 - 128 - 128, by omega⟩ : Fin 128))
      else p7 (ix2 r (⟨L - 128 - 128 - 128 - 128 - 128 - 128 - 128, by omega⟩ : Fin 128)))
      = (![p0, p1, p2, p3, p4, p5, p6, p7] ⟨g, by omega⟩) (ix2 r (⟨L % 128, Nat.mod_lt _ (by norm_num)⟩ : Fin 128)) := by
  have hg8 : g < 8 := by omega
  by_cases h0 : L < 128
  · rw [dif_pos h0]
    obtain rfl : g = 0 := by omega
    exact congrArg (fun a => p0 (ix2 r a)) (Fin.ext (show L = L % 128 by omega))
  rw [dif_neg h0]
  by_cases h1 : L - 128 < 128
  · rw [dif_pos h1]
    obtain rfl : g = 1 := by omega
    exact congrArg (fun a => p1 (ix2 r a)) (Fin.ext (show L - 128 = L % 128 by omega))
  rw [dif_neg h1]
  by_cases h2 : L - 128 - 128 < 128
  · rw [dif_pos h2]
    obtain rfl : g = 2 := by omega
    exact congrArg (fun a => p2 (ix2 r a)) (Fin.ext (show L - 128 - 128 = L % 128 by omega))
  rw [dif_neg h2]
  by_cases h3 : L - 128 - 128 - 128 < 128
  · rw [dif_pos h3]
    obtain rfl : g = 3 := by omega
    exact congrArg (fun a => p3 (ix2 r a)) (Fin.ext (show L - 128 - 128 - 128 = L % 128 by omega))
  rw [dif_neg h3]
  by_cases h4 : L - 128 - 128 - 128 - 128 < 128
  · rw [dif_pos h4]
    obtain rfl : g = 4 := by omega
    exact congrArg (fun a => p4 (ix2 r a)) (Fin.ext (show L - 128 - 128 - 128 - 128 = L % 128 by omega))
  rw [dif_neg h4]
  by_cases h5 : L - 128 - 128 - 128 - 128 - 128 < 128
  · rw [dif_pos h5]
    obtain rfl : g = 5 := by omega
    exact congrArg (fun a => p5 (ix2 r a)) (Fin.ext (show L - 128 - 128 - 128 - 128 - 128 = L % 128 by omega))
  rw [dif_neg h5]
  by_cases h6 : L - 128 - 128 - 128 - 128 - 128 - 128 < 128
  · rw [dif_pos h6]
    obtain rfl : g = 6 := by omega
    exact congrArg (fun a => p6 (ix2 r a)) (Fin.ext (show L - 128 - 128 - 128 - 128 - 128 - 128 = L % 128 by omega))
  rw [dif_neg h6]
  obtain rfl : g = 7 := by omega
  exact congrArg (fun a => p7 (ix2 r a)) (Fin.ext (show L - 128 - 128 - 128 - 128 - 128 - 128 - 128 = L % 128 by omega))

theorem side_apply (p0 p1 p2 p3 p4 p5 p6 p7 : FVec Ideal S512x128 .f32) (r : Fin 512) (g : Fin 8) (l : Fin 128) :
    side p0 p1 p2 p3 p4 p5 p6 p7 (ix2 r ⟨128 * g + l, by omega⟩) = (![p0, p1, p2, p3, p4, p5, p6, p7] g) (ix2 r l) := by
  pointwise [side]
  refine (groups_apply p0 p1 p2 p3 p4 p5 p6 p7 r (128 * g + l) (by omega) g (by omega)).trans ?_
  refine congrArg (fun a => (![p0, p1, p2, p3, p4, p5, p6, p7] g) (ix2 r a)) (Fin.ext (show (128 * g.val + l.val) % 128 = l.val by omega))

theorem pay19_eq (c s v : FVec Ideal S512x1024 .f32) (mk : IVec S512x128 1) (p0 p1 p2 p3 p4 p5 p6 p7 : FVec Ideal S512x128 .f32) :
    k0_pay19 c s v mk p0 p1 p2 p3 p4 p5 p6 p7 16#32 = truncf .bf16 (mulf (addf (mulf v c) (mulf (side p0 p1 p2 p3 p4 p5
      (select mk p7 (dynamicRotate 1 16#32 none p6 rotates_S512x128_d1))
      (select mk (dynamicRotate 1 112#32 none (extractStridedSlice S512x128 ![0, 896] v slices_S512x1024_o0_896_S512x128) rotates_S512x128_d1)
        (dynamicRotate 1 16#32 none (extractStridedSlice S512x128 ![0, 896] v slices_S512x1024_o0_896_S512x128) rotates_S512x128_d1))) s))
      (broadcast S512x1024 (Scalar.ofBits .f32 0x3E16C740#32))) bitsLt_bf16_f32 := rfl

theorem tail_apply (v c q s : FVec Ideal S512x1024 .f32) (r : Fin 512) (L : Fin 1024) :
    truncf .bf16 (mulf (addf (mulf v c) (mulf q s)) (broadcast S512x1024 (Scalar.ofBits .f32 0x3E16C740#32))) bitsLt_bf16_f32 (ix2 r L)
      = (v (ix2 r L) * c (ix2 r L) + q (ix2 r L) * s (ix2 r L)) * scale := by
  unfold scale
  pointwise

theorem out9_apply (r : Fin 512) (g : Fin 8) (l : Fin 128) : out0_9 x0 x1 x2 x3 x4 x5 x6 x7 (ix2 r ⟨128 * g + l, by omega⟩)
    = (bqa x0 x1 x2 x4 r (128 * g + l) * x6 (ix2 r l) + partner (fun i => bqa x0 x1 x2 x4 r (128 * g + i)) l * x7 (ix2 r l)) * scale := by
  unfold out0_9
  rw [View.canon_unit_zero origin]
  have hv := fun l : Fin 1024 => pay31_bqa x0 x1 x2 x3 x4 x5 x6 x7 r l
  rw [pay19_eq, tail_apply, side_apply, show k0_pay5 (View.ld x6 r0_1) = side x6 x6 x6 x6 x6 x6 x6 x6 by
      rw [View.ld_unit_zero origin]; rfl, side_apply, show k0_pay6 (View.ld x7 r0_1) = side x7 x7 x7 x7 x7 x7 x7 x7 by
      rw [View.ld_unit_zero origin]; rfl, side_apply, hv]
  refine congrArg (fun a : EReal => a * scale) (congrArg₂ (fun a b : EReal => a + b) (congrArg₂ (fun a b : EReal => a * b) rfl ?_)
    (congrArg₂ (fun a b : EReal => a * b) ?_ ?_))
  · match g with
    | ⟨0, _⟩ | ⟨1, _⟩ | ⟨2, _⟩ | ⟨3, _⟩ | ⟨4, _⟩ | ⟨5, _⟩ | ⟨6, _⟩ | ⟨7, _⟩ => rfl
  · match g with
    | ⟨0, _⟩ => exact pay11_apply x0 x1 x2 x3 x4 x5 x6 x7 _ _ r hv l
    | ⟨1, _⟩ => exact pay12_apply x0 x1 x2 x3 x4 x5 x6 x7 _ _ r hv l
    | ⟨2, _⟩ => exact pay13_apply x0 x1 x2 x3 x4 x5 x6 x7 _ _ r hv l
    | ⟨3, _⟩ => exact pay14_apply x0 x1 x2 x3 x4 x5 x6 x7 _ _ r hv l
    | ⟨4, _⟩ => exact pay15_apply x0 x1 x2 x3 x4 x5 x6 x7 _ _ r hv l
    | ⟨5, _⟩ => exact pay16_apply x0 x1 x2 x3 x4 x5 x6 x7 _ _ r hv l
    | ⟨6, _⟩ => exact group6_apply x0 x1 x2 x3 x4 x5 x6 x7 _ _ r hv l
    | ⟨7, _⟩ => exact group7_apply x0 x1 x2 x3 x4 x5 x6 x7 _ _ r hv l
  · match g with
    | ⟨0, _⟩ | ⟨1, _⟩ | ⟨2, _⟩ | ⟨3, _⟩ | ⟨4, _⟩ | ⟨5, _⟩ | ⟨6, _⟩ | ⟨7, _⟩ => rfl

end Cert.Kernel2Ideal.Proj

end
-- ==== Proof.ProjWeights.lean ====
/- The weights that the kernel's host lines prepare, at an index: columns of the argument arrays, moved. -/
module

public import proofs.«01_k».proof.Proof.Gen.Kernel2Ideal.Frame
public import Idealize.ShloMosaic.Lib.Pipeline.Value
public import proofs.«01_k».proof.Proof.ProjSpec
public import Idealize.ShloMosaic.Lib.Pipeline.ValueKit.Geometry
public import Idealize.ShloMosaic.Lib.Tactic.CleanTypes

@[expose] public section

set_option maxRecDepth 8192

noncomputable section

namespace Cert.Kernel2Ideal.Proj

open Idealize.ShloMosaic Idealize.ShloMosaic.TcCoe Cert.Kernel2Ideal Cert.Kernel2Ideal.Gen Cert.ProjSpec

variable (m : (ℓ : Loc nD τ sig) → Buf (Elt Ideal) ℓ) (c : Dev nD)

/-- The kernel's argument arrays. -/
def args : In :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8)⟩

theorem zero_word : Ideal.ofBits .f32 0x00000000#32 = 0 := by simp [Ideal.ofBits, Ideal.ieee]

/-- Column `b` of row `k` of the prepared input weights. -/
def wcol (w : FVec Ideal (⟨2, ![1024, 3744]⟩ : Shape) .f32) (k b : ℕ) : EReal :=
  if b < 640 then at2 w k b else if b < 3712 then at2 w k (b + 32) else if b < 3776 then at2 w k (640 + (b - 3712) % 32) else 0

/-- The pieces of the prepared input weights, laid side by side. -/
theorem pieces_apply (w : FVec Ideal (⟨2, ![1024, 3744]⟩ : Shape) .f32) (k : Fin 1024) (b : ℕ) (hb : b < 3840) :
    (if h : b < 384 then w (ix2 k (⟨b, by omega⟩ : Fin 3744))
      else if h : b - 384 < 256 then w (ix2 k (⟨384 + (b - 384), by omega⟩ : Fin 3744))
      else if h : b - 384 - 256 < 1024 then w (ix2 k (⟨672 + (b - 384 - 256), by omega⟩ : Fin 3744))
      else if h : b - 384 - 256 - 1024 < 1024 then w (ix2 k (⟨1696 + (b - 384 - 256 - 1024), by omega⟩ : Fin 3744))
      else if h : b - 384 - 256 - 1024 - 1024 < 1024 then w (ix2 k (⟨2720 + (b - 384 - 256 - 1024 - 1024), by omega⟩ : Fin 3744))
      else if h : b - 384 - 256 - 1024 - 1024 - 1024 < 32 then w (ix2 k (⟨640 + (b - 384 - 256 - 1024 - 1024 - 1024), by omega⟩ : Fin 3744))
      else if h : b - 384 - 256 - 1024 - 1024 - 1024 - 32 < 32 then
        w (ix2 k (⟨640 + (b - 384 - 256 - 1024 - 1024 - 1024 - 32), by omega⟩ : Fin 3744))
      else 0) = wcol w k b := by
  unfold wcol
  by_cases h0 : b < 384
  · rw [dif_pos h0, if_pos (by omega)]
    exact at2_of _ _ _ rfl rfl
  rw [dif_neg h0]
  by_cases h1 : b - 384 < 256
  · rw [dif_pos h1, if_pos (by omega)]
    exact at2_of _ _ _ rfl (by dsimp only; omega)
  rw [dif_neg h1, if_neg (by omega)]
  by_cases h2 : b - 384 - 256 < 1024
  · rw [dif_pos h2, if_pos (by omega)]
    exact at2_of _ _ _ rfl (by dsimp only; omega)
  rw [dif_neg h2]
  by_cases h3 : b - 384 - 256 - 1024 < 1024
  · rw [dif_pos h3, if_pos (by omega)]
    exact at2_of _ _ _ rfl (by dsimp only; omega)
  rw [dif_neg h3]
  by_cases h4 : b - 384 - 256 - 1024 - 1024 < 1024
  · rw [dif_pos h4, if_pos (by omega)]
    exact at2_of _ _ _ rfl (by dsimp only; omega)
  rw [dif_neg h4, if_neg (by omega)]
  by_cases h5 : b - 384 - 256 - 1024 - 1024 - 1024 < 32
  · rw [dif_pos h5, if_pos (by omega)]
    exact at2_of _ _ _ rfl (by dsimp only; omega)
  rw [dif_neg h5]
  by_cases h6 : b - 384 - 256 - 1024 - 1024 - 1024 - 32 < 32
  · rw [dif_pos h6, if_pos (by omega)]
    exact at2_of _ _ _ rfl (by dsimp only; omega)
  rw [dif_neg h6, if_neg (by omega)]

theorem win_apply (k : Fin 1024) (b : Fin 3840) : (V m c main_v8 : FVec Ideal S1024x3840 .bf16) (ix2 k b) = wcol (args m c).w k b := by
  have e : (V m c main_v8 : FVec Ideal S1024x3840 .bf16) = truncf .bf16 (concatenate S1024x3840 1 [⟨S1024x384, extractStridedSlice S1024x384 ![0, 0] (args m c).w slices_S1024x3744_S1024x384_0_0⟩,
      ⟨S1024x256, extractStridedSlice S1024x256 ![0, 384] (args m c).w slices_S1024x3744_S1024x256_0_384⟩,
      ⟨S1024x1024, extractStridedSlice S1024x1024 ![0, 672] (args m c).w slices_S1024x3744_S1024x1024_0_672⟩,
      ⟨S1024x1024, extractStridedSlice S1024x1024 ![0, 1696] (args m c).w slices_S1024x3744_S1024x1024_0_1696⟩,
      ⟨S1024x1024, extractStridedSlice S1024x1024 ![0, 2720] (args m c).w slices_S1024x3744_S1024x1024_0_2720⟩,
      ⟨S1024x32, extractStridedSlice S1024x32 ![0, 640] (args m c).w slices_S1024x3744_S1024x32_0_640⟩,
      ⟨S1024x32, extractStridedSlice S1024x32 ![0, 640] (args m c).w slices_S1024x3744_S1024x32_0_640⟩,
      ⟨S1024x64, broadcastInDim S1024x64 ![] bcast_S_S1024x64 (constant S_ .f32 0x00000000#32)⟩] concatenates_S1024x384_S1024x256_S1024x1024_S1024x1024_S1024x1024_S1024x32_S1024x32_S1024x64_S1024x3840_d1) bitsLt_bf16_f32 := by
    unfold args
    unfold_abbrev_sides
    after_results
    rfl
  rw [e]
  clear e
  pointwise
  exact pieces_apply _ k b.val b.isLt

/-- Column `b` of row `k` of the prepared query weights: the heads' parts without position, then pairs of heads' rotary parts with zeros. -/
def qcol (w : FVec Ideal (⟨2, ![384, 1536]⟩ : Shape) .f32) (k b : ℕ) : EReal :=
  if b < 1024 then at2 w k (96 * (b / 64) + b % 64)
  else if b % 128 < 64 then at2 w k (96 * (2 * ((b - 1024) / 128) + b % 128 / 32) + 64 + b % 32) else 0

/-- The pieces of the prepared query weights, laid side by side. -/
theorem pairs_apply (w : FVec Ideal (⟨2, ![384, 1536]⟩ : Shape) .f32) (k : Fin 384) (b : ℕ) (hb : b < 2048) :
    (if h : b < 1024 then w (ix2 k (⟨b / 64 * 96 + b % 64, by omega⟩ : Fin 1536))
      else if h : (b - 1024) % 128 < 64 then
        if h : (b - 1024) % 128 % 32 < 16 then
          w (ix2 k (⟨((b - 1024) / 128 * 2 + (b - 1024) % 128 / 32) * 96 + (64 + (b - 1024) % 128 % 32), by omega⟩ : Fin 1536))
        else w (ix2 k (⟨((b - 1024) / 128 * 2 + (b - 1024) % 128 / 32) * 96 + (80 + ((b - 1024) % 128 % 32 - 16)), by omega⟩ : Fin 1536))
      else 0) = qcol w k b := by
  unfold qcol
  by_cases h0 : b < 1024
  · rw [dif_pos h0, if_pos h0]
    exact at2_of _ _ _ rfl (by dsimp only; omega)
  rw [dif_neg h0, if_neg h0]
  by_cases h1 : (b - 1024) % 128 < 64
  · rw [dif_pos h1, if_pos (by omega)]
    by_cases h2 : (b - 1024) % 128 % 32 < 16
    · rw [dif_pos h2]
      exact at2_of _ _ _ rfl (by dsimp only; omega)
    · rw [dif_neg h2]
      exact at2_of _ _ _ rfl (by dsimp only; omega)
  rw [dif_neg h1, if_neg (by omega)]

set_option maxHeartbeats 1000000 in
theorem wuq_apply (k : Fin 384) (b : Fin 2048) : (V m c main_v20 : FVec Ideal S384x2048 .bf16) (ix2 k b) = qcol (args m c).uq k b := by
  have e : (V m c main_v20 : FVec Ideal S384x2048 .bf16) = truncf .bf16 (concatenate S384x2048 1
      [⟨S384x1024, shapeCast S384x1024 (extractStridedSlice S384x16x64 ![0, 0, 0] (shapeCast S384x16x96 (args m c).uq shapeCasts_S384x1536_S384x16x96) slices_S384x16x96_S384x16x64_0_0_0) shapeCasts_S384x16x64_S384x1024⟩,
      ⟨S384x1024, shapeCast S384x1024 (concatenate S384x8x128 2
        [⟨S384x8x64, shapeCast S384x8x64 (concatenate S384x16x32 2
          [⟨S384x16x16, extractStridedSlice S384x16x16 ![0, 0, 64] (shapeCast S384x16x96 (args m c).uq shapeCasts_S384x1536_S384x16x96) slices_S384x16x96_S384x16x16_0_0_64⟩,
          ⟨S384x16x16, extractStridedSlice S384x16x16 ![0, 0, 80] (shapeCast S384x16x96 (args m c).uq shapeCasts_S384x1536_S384x16x96) slices_S384x16x96_S384x16x16_0_0_80⟩]
          concatenates_S384x16x16_S384x16x16_S384x16x32_d2) shapeCasts_S384x16x32_S384x8x64⟩,
        ⟨S384x8x64, broadcastInDim S384x8x64 ![] bcast_S_S384x8x64 (constant S_ .f32 0x00000000#32)⟩]
        concatenates_S384x8x64_S384x8x64_S384x8x128_d2) shapeCasts_S384x8x128_S384x1024⟩]
      concatenates_S384x1024_S384x1024_S384x2048_d1) bitsLt_bf16_f32 := by
    unfold args
    unfold_abbrev_sides
    after_results
    rfl
  rw [e]
  clear e
  pointwise
  exact pairs_apply _ k b.val b.isLt

/-- Column `b` of row `k` of the prepared key and value weights. -/
def kvcol (wk wv : FVec Ideal (⟨3, ![256, 16, 64]⟩ : Shape) .f32) (k b : ℕ) : EReal :=
  if b < 1024 then at3 wk k (b / 64) (b % 64) else at3 wv k ((b - 1024) / 64) ((b - 1024) % 64)

theorem wukv_apply (k : Fin 256) (b : Fin 2048) :
    (V m c main_v24 : FVec Ideal S256x2048 .bf16) (ix2 k b) = kvcol (args m c).uk (args m c).uv k b := by
  have e : (V m c main_v24 : FVec Ideal S256x2048 .bf16) = truncf .bf16 (concatenate S256x2048 1
      [⟨S256x1024, shapeCast S256x1024 (args m c).uk shapeCasts_S256x16x64_S256x1024⟩,
      ⟨S256x1024, shapeCast S256x1024 (args m c).uv shapeCasts_S256x16x64_S256x1024⟩]
      concatenates_S256x1024_S256x1024_S256x2048_d1) bitsLt_bf16_f32 := by
    unfold args
    unfold_abbrev_sides
    after_results
    rfl
  rw [e]
  clear e
  pointwise
  unfold kvcol
  obtain ⟨b, hb⟩ := b
  dsimp only
  by_cases h0 : b < 1024
  · rw [dif_pos h0, if_pos h0]
    exact at3_of _ _ _ _ rfl rfl rfl
  rw [dif_neg h0, if_neg h0]
  exact at3_of _ _ _ _ rfl rfl rfl

end Cert.Kernel2Ideal.Proj

end
-- ==== Proof.ProjArray.lean ====
/- The kernel's result arrays: the projections of its argument arrays. -/
module

public import proofs.«01_k».proof.Proof.ProjBlock
public import proofs.«01_k».proof.Proof.ProjWeights

@[expose] public section

set_option maxRecDepth 8192

noncomputable section

namespace Cert.Kernel2Ideal.Proj

open Idealize.ShloMosaic Idealize.ShloMosaic.TcCoe Cert.Kernel2Ideal Cert.Kernel2Ideal.Gen Cert.ProjSpec

/-- Where each input window's block lies: 512 rows of the tokens and of the tables; the weights and gains whole. -/
theorem index_facts : ∀ t : Fin cfg0.N,
    t.val < 64 ∧ (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val % 4 ∧ win0_6.index t (1 : Fin 2) = 0)
    ∧ (win0_7.index t (0 : Fin 2) = t.val % 4 ∧ win0_7.index t (1 : Fin 2) = 0) :=
  (by decide +kernel : ∀ t : Fin grid0.N, _)

/-- Where each result window's block lies: 512 rows. -/
theorem index_out : ∀ t : Fin cfg0.N,
    (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

variable (m : (ℓ : Loc nD τ sig) → Buf (Elt Ideal) ℓ) (c : Dev nD) (t : Fin cfg0.N)

theorem iblk0 (r : Fin 512) (k : Fin 1024) : (iblk m c 0 t : Vec Ideal S512x1024 .f32) (ix2 r k) = at2 (args m c).x (512 * t.val + r) k := by
  obtain ⟨ht, e, _⟩ := index_facts t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 512 + 1 * r.val = (512 * t.val + r.val) % 32768; omega
  | ⟨1, _⟩ => show win0_0.index t (1 : Fin 2) * 1024 + 1 * k.val = k.val % 1024; omega

theorem iblk1 (k : Fin 1024) (b : Fin 3840) : (iblk m c 1 t : Vec Ideal S1024x3840 .bf16) (ix2 k b) = wcol (args m c).w k b := by
  obtain ⟨ht, _, e, _⟩ := index_facts t
  rw [← win_apply]
  show V m c main_v8 (((cfg0.win 1).blk t).view.emb _) = _
  refine congrArg (V m c main_v8) (funext fun a => Fin.ext ?_)
  match a with
  | ⟨0, _⟩ => show win0_1.index t (0 : Fin 2) * 1024 + 1 * k.val = k.val; omega
  | ⟨1, _⟩ => show win0_1.index t (1 : Fin 2) * 3840 + 1 * b.val = b.val; omega

theorem iblk2 (i : Fin 384) : (iblk m c 2 t : Vec Ideal S1x384 .f32) (ix2 0 i) = at2 (args m c).qg 0 i := by
  obtain ⟨ht, _, _, e, _⟩ := index_facts t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 1 + 1 * 0 = 0 % 1; omega
  | ⟨1, _⟩ => show win0_2.index t (1 : Fin 2) * 384 + 1 * i.val = i.val % 384; omega

theorem iblk3 (i : Fin 256) : (iblk m c 3 t : Vec Ideal S1x256 .f32) (ix2 0 i) = at2 (args m c).kvg 0 i := by
  obtain ⟨ht, _, _, _, e, _⟩ := index_facts t
  show V m c main_arg4 (((cfg0.win 3).blk t).view.emb _) = _
  rw [V_main_arg4]
  refine congrArg (m ((c : Thread nD τ).loc main_arg4)) (funext fun a => Fin.ext ?_)
  match a with
  | ⟨0, _⟩ => show win0_3.index t (0 : Fin 2) * 1 + 1 * 0 = 0 % 1; omega
  | ⟨1, _⟩ => show win0_3.index t (1 : Fin 2) * 256 + 1 * i.val = i.val % 256; omega

theorem iblk4 (k : Fin 384) (b : Fin 2048) : (iblk m c 4 t : Vec Ideal S384x2048 .bf16) (ix2 k b) = qcol (args m c).uq k b := by
  obtain ⟨ht, _, _, _, _, e, _⟩ := index_facts t
  rw [← wuq_apply]
  show V m c main_v20 (((cfg0.win 4).blk t).view.emb _) = _
  refine congrArg (V m c main_v20) (funext fun a => Fin.ext ?_)
  match a with
  | ⟨0, _⟩ => show win0_4.index t (0 : Fin 2) * 384 + 1 * k.val = k.val; omega
  | ⟨1, _⟩ => show win0_4.index t (1 : Fin 2) * 2048 + 1 * b.val = b.val; omega

theorem iblk5 (k : Fin 256) (b : Fin 2048) : (iblk m c 5 t : Vec Ideal S256x2048 .bf16) (ix2 k b) = kvcol (args m c).uk (args m c).uv k b := by
  obtain ⟨ht, _, _, _, _, _, e, _⟩ := index_facts t
  rw [← wukv_apply]
  show V m c main_v24 (((cfg0.win 5).blk t).view.emb _) = _
  refine congrArg (V m c main_v24) (funext fun a => Fin.ext ?_)
  match a with
  | ⟨0, _⟩ => show win0_5.index t (0 : Fin 2) * 256 + 1 * k.val = k.val; omega
  | ⟨1, _⟩ => show win0_5.index t (1 : Fin 2) * 2048 + 1 * b.val = b.val; omega

theorem iblk6 (r : Fin 512) (l : Fin 128) : (iblk m c 6 t : Vec Ideal S512x128 .f32) (ix2 r l) = at2 (args m c).cs ((512 * t.val + r) % 2048) l := by
  obtain ⟨ht, _, _, _, _, _, _, e, _⟩ := index_facts t
  show V m c main_arg7 (((cfg0.win 6).blk t).view.emb _) = _
  rw [V_main_arg7]
  refine congrArg (m ((c : Thread nD τ).loc main_arg7)) (funext fun a => Fin.ext ?_)
  match a with
  | ⟨0, _⟩ => show win0_6.index t (0 : Fin 2) * 512 + 1 * r.val = (512 * t.val + r.val) % 2048 % 2048; omega
  | ⟨1, _⟩ => show win0_6.index t (1 : Fin 2) * 128 + 1 * l.val = l.val % 128; omega

theorem iblk7 (r : Fin 512) (l : Fin 128) : (iblk m c 7 t : Vec Ideal S512x128 .f32) (ix2 r l) = at2 (args m c).sn ((512 * t.val + r) % 2048) l := by
  obtain ⟨ht, _, _, _, _, _, _, _, e⟩ := index_facts t
  show V m c main_arg8 (((cfg0.win 7).blk t).view.emb _) = _
  rw [V_main_arg8]
  refine congrArg (m ((c : Thread nD τ).loc main_arg8)) (funext fun a => Fin.ext ?_)
  match a with
  | ⟨0, _⟩ => show win0_7.index t (0 : Fin 2) * 512 + 1 * r.val = (512 * t.val + r.val) % 2048 % 2048; omega
  | ⟨1, _⟩ => show win0_7.index t (1 : Fin 2) * 128 + 1 * l.val = l.val % 128; omega

/-- A product with the prepared input weights: a column of the argument's, or zero. -/
theorem bh_eq (r : Fin 512) (b : Fin 3840) : bh (iblk m c 0 t) (iblk m c 1 t) r b
    = if b.val < 640 then hid (args m c) (512 * t.val + r) b else if b.val < 3712 then hid (args m c) (512 * t.val + r) (b + 32)
      else if b.val < 3776 then hid (args m c) (512 * t.val + r) (640 + (b - 3712) % 32) else 0 := by
  unfold bh hid
  simp only [iblk0, iblk1, wcol]
  split
  · rfl
  split
  · rfl
  split
  · rfl
  · simp only [mul_zero, Finset.sum_const_zero]

theorem bq_eq (r : Fin 512) (j : Fin 384) : bq (iblk m c 0 t) (iblk m c 1 t) (iblk m c 2 t) r j = cq (args m c) (512 * t.val + r) j := by
  unfold bq cq
  refine congrFun (congr (congrArg _ (funext fun i => ?_)) (funext fun i => ?_)) j
  · rw [bh_eq, if_pos (show i.val < 640 by omega)]
  · exact iblk2 m c t i

theorem bkv_eq (r : Fin 512) (j : Fin 256) : bkv (iblk m c 0 t) (iblk m c 1 t) (iblk m c 3 t) r j = ckv (args m c) (512 * t.val + r) j := by
  unfold bkv ckv
  refine congrFun (congr (congrArg _ (funext fun i => ?_)) (funext fun i => ?_)) j
  · rw [bh_eq, if_pos (show 384 + i.val < 640 by omega)]
  · exact iblk3 m c t i

/-- The kernel's rotary columns: a head pair's 64 columns of the queries, then zeros. -/
theorem bqa_eq (r : Fin 512) (g i : ℕ) (hg : g < 8) (hi : i < 128) : bqa (iblk m c 0 t) (iblk m c 1 t) (iblk m c 2 t) (iblk m c 4 t) r (128 * g + i)
    = if i < 64 then q (args m c) (512 * t.val + r) (96 * (2 * g + i / 32) + 64 + i % 32) else 0 := by
  unfold bqa q
  have hb : (1024 + (128 * g + i)) % 2048 = 1024 + (128 * g + i) := by omega
  simp only [iblk4, bq_eq, qcol, Fin.val_ofNat, hb]
  simp only [if_neg (show ¬1024 + (128 * g + i) < 1024 by omega)]
  by_cases h : i < 64
  · rw [if_pos h]
    refine Finset.sum_congr rfl fun j _ => ?_
    rw [if_pos (show (1024 + (128 * g + i)) % 128 < 64 by omega),
      show 96 * (2 * ((1024 + (128 * g + i) - 1024) / 128) + (1024 + (128 * g + i)) % 128 / 32) + 64 + (1024 + (128 * g + i)) % 32
        = 96 * (2 * g + i / 32) + 64 + i % 32 by omega]
  · rw [if_neg h]
    refine Finset.sum_eq_zero fun j _ => ?_
    rw [if_neg (show ¬(1024 + (128 * g + i)) % 128 < 64 by omega), mul_zero]

/-- Half a head further on or back, in the kernel's groups of 128 lanes, is the other half of a head's 32 entries. -/
theorem partner_eq (f : ℕ → EReal) (h : ℕ → ℕ → EReal) (l : ℕ) (hl : l < 128) (hf : ∀ i, i < 128 → f i = if i < 64 then h (i / 32) (i % 32) else 0) :
    partner f l = if l < 64 then h (l / 32) ((l % 32 + 16) % 32) else 0 := by
  unfold partner
  by_cases h64 : l < 64
  · rw [if_pos h64]
    split
    · rw [hf _ (by omega), if_pos (by omega), show (l + 16) / 32 = l / 32 by omega, show (l + 16) % 32 = (l % 32 + 16) % 32 by omega]
    · rw [hf _ (by omega), if_pos (by omega), show (l - 16) / 32 = l / 32 by omega, show (l - 16) % 32 = (l % 32 + 16) % 32 by omega]
  · rw [if_neg h64]
    split
    · rw [hf _ (by omega), if_neg (by omega)]
    · rw [hf _ (by omega), if_neg (by omega)]

theorem krd_apply (r : Fin 512) (l : Fin 128) :
    bh (iblk m c 0 t) (iblk m c 1 t) r ⟨3712 + l, by omega⟩ * (iblk m c 6 t : Vec Ideal S512x128 .f32) (ix2 r l)
      + partner (fun i => bh (iblk m c 0 t) (iblk m c 1 t) r (Fin.ofNat 3840 (3712 + i))) l * (iblk m c 7 t : Vec Ideal S512x128 .f32) (ix2 r l)
      = krd (args m c) (512 * t.val + r) l := by
  have hl : l.val < 128 := l.isLt
  have hf : ∀ i, i < 128 → bh (iblk m c 0 t) (iblk m c 1 t) r (Fin.ofNat 3840 (3712 + i))
      = if i < 64 then hid (args m c) (512 * t.val + r) (640 + i % 32) else 0 := fun i hi => by
    have hb : (Fin.ofNat 3840 (3712 + i)).val = 3712 + i := show (3712 + i) % 3840 = _ by omega
    rw [bh_eq, hb, if_neg (by omega), if_neg (by omega), show 3712 + i - 3712 = i by omega]
    exact if_congr (by omega) rfl rfl
  rw [partner_eq _ (fun _ o => hid (args m c) (512 * t.val + r) (640 + o)) l hl hf, iblk6, iblk7,
    show (⟨3712 + l.val, by omega⟩ : Fin 3840) = Fin.ofNat 3840 (3712 + l.val) from Fin.ext (show 3712 + l.val = (3712 + l.val) % 3840 by omega),
    hf _ hl]
  unfold krd turn
  split
  · rfl
  · rw [zero_mul, zero_mul, add_zero]

theorem qr_apply (r : Fin 512) (g : Fin 8) (l : Fin 128) :
    (bqa (iblk m c 0 t) (iblk m c 1 t) (iblk m c 2 t) (iblk m c 4 t) r (128 * g + l) * (iblk m c 6 t : Vec Ideal S512x128 .f32) (ix2 r l)
      + partner (fun i => bqa (iblk m c 0 t) (iblk m c 1 t) (iblk m c 2 t) (iblk m c 4 t) r (128 * g + i)) l
        * (iblk m c 7 t : Vec Ideal S512x128 .f32) (ix2 r l)) * scale
      = qr (args m c) (512 * t.val + r) (128 * g + l) := by
  have hl : l.val < 128 := l.isLt
  rw [partner_eq _ (fun e o => q (args m c) (512 * t.val + r) (96 * (2 * g + e) + 64 + o)) l hl
    (fun i hi => bqa_eq m c t r g i g.isLt hi), iblk6, iblk7, bqa_eq m c t r g l g.isLt hl]
  unfold qr turn
  rw [show (128 * g.val + l.val) % 128 = l.val by omega, show (128 * g.val + l.val) / 128 = g.val by omega]
  split
  · rfl
  · rw [zero_mul, zero_mul, add_zero, zero_mul]

/-- Result array 0 after the run. -/
theorem final8 : (dats m 0 c).arrAt 8 cfg0.N = (rows (qn (args m c)) : Vec Ideal S32768x1024 .bf16) := by
  refine (dats m 0 c).arrAt_eq_of_covers 8 _ (by decide +kernel) fun t _ y => ?_
  obtain ⟨e, _⟩ := index_out t
  obtain ⟨ht, -⟩ := index_facts t
  have h : ∀ (r : Fin 512) (l : Fin 1024), out0_8 (iblk m c 0 t) (iblk m c 1 t) (iblk m c 2 t) (iblk m c 3 t) (iblk m c 4 t) (iblk m c 5 t) (iblk m c 6 t) (iblk m c 7 t) (ix2 r l)
      = (qn (args m c)) (512 * t.val + r) l := fun r l => by
    rw [out8_apply]
    unfold qn q
    simp only [bq_eq, iblk4, qcol, if_pos l.isLt]
  blk_simp
  rw [after0_8]
  obtain ⟨r, l, rfl⟩ : ∃ (r : Fin 512) (l : Fin 1024), y = ix2 r l := ⟨y 0, y 1, eq_ix2 y⟩
  rw [h]
  refine congr (congrArg _ ?_) ?_
  · show 512 * t.val + r.val = win0_8.index t (0 : Fin 2) * 512 + 1 * r.val; omega
  · show l.val = win0_8.index t (1 : Fin 2) * 1024 + 1 * l.val; omega

/-- Result array 1 after the run. -/
theorem final9 : (dats m 0 c).arrAt 9 cfg0.N = (rows (qr (args m c)) : Vec Ideal S32768x1024 .bf16) := by
  refine (dats m 0 c).arrAt_eq_of_covers 9 _ (by decide +kernel) fun t _ y => ?_
  obtain ⟨_, e, _⟩ := index_out t
  obtain ⟨ht, -⟩ := index_facts t
  have h : ∀ (r : Fin 512) (l : Fin 1024), out0_9 (iblk m c 0 t) (iblk m c 1 t) (iblk m c 2 t) (iblk m c 3 t) (iblk m c 4 t) (iblk m c 5 t) (iblk m c 6 t) (iblk m c 7 t) (ix2 r l)
      = (qr (args m c)) (512 * t.val + r) l := fun r l => by
    have e : l = ⟨128 * (⟨l.val / 128, by omega⟩ : Fin 8).val + (⟨l.val % 128, Nat.mod_lt _ (by norm_num)⟩ : Fin 128).val,
        show 128 * (l.val / 128) + l.val % 128 < 1024 by omega⟩ := Fin.ext (show l.val = 128 * (l.val / 128) + l.val % 128 by omega)
    rw [e, out9_apply, qr_apply]
  blk_simp
  rw [after0_9]
  obtain ⟨r, l, rfl⟩ : ∃ (r : Fin 512) (l : Fin 1024), y = ix2 r l := ⟨y 0, y 1, eq_ix2 y⟩
  rw [h]
  refine congr (congrArg _ ?_) ?_
  · show 512 * t.val + r.val = win0_9.index t (0 : Fin 2) * 512 + 1 * r.val; omega
  · show l.val = win0_9.index t (1 : Fin 2) * 1024 + 1 * l.val; omega

/-- Result array 2 after the run. -/
theorem final10 : (dats m 0 c).arrAt 10 cfg0.N = (rows (kn (args m c)) : Vec Ideal S32768x1024 .bf16) := by
  refine (dats m 0 c).arrAt_eq_of_covers 10 _ (by decide +kernel) fun t _ y => ?_
  obtain ⟨_, _, e, _⟩ := index_out t
  obtain ⟨ht, -⟩ := index_facts t
  have h : ∀ (r : Fin 512) (l : Fin 1024), out0_10 (iblk m c 0 t) (iblk m c 1 t) (iblk m c 2 t) (iblk m c 3 t) (iblk m c 4 t) (iblk m c 5 t) (iblk m c 6 t) (iblk m c 7 t) (ix2 r l)
      = (kn (args m c)) (512 * t.val + r) l := fun r l => by
    rw [out10_apply]
    unfold kn
    simp only [bkv_eq, iblk5, kvcol, if_pos l.isLt]
  blk_simp
  rw [after0_10]
  obtain ⟨r, l, rfl⟩ : ∃ (r : Fin 512) (l : Fin 1024), y = ix2 r l := ⟨y 0, y 1, eq_ix2 y⟩
  rw [h]
  refine congr (congrArg _ ?_) ?_
  · show 512 * t.val + r.val = win0_10.index t (0 : Fin 2) * 512 + 1 * r.val; omega
  · show l.val = win0_10.index t (1 : Fin 2) * 1024 + 1 * l.val; omega

/-- Result array 3 after the run. -/
theorem final11 : (dats m 0 c).arrAt 11 cfg0.N = (rows (vl (args m c)) : Vec Ideal S32768x1024 .bf16) := by
  refine (dats m 0 c).arrAt_eq_of_covers 11 _ (by decide +kernel) fun t _ y => ?_
  obtain ⟨_, _, _, e, _⟩ := index_out t
  obtain ⟨ht, -⟩ := index_facts t
  have h : ∀ (r : Fin 512) (l : Fin 1024), out0_11 (iblk m c 0 t) (iblk m c 1 t) (iblk m c 2 t) (iblk m c 3 t) (iblk m c 4 t) (iblk m c 5 t) (iblk m c 6 t) (iblk m c 7 t) (ix2 r l)
      = (vl (args m c)) (512 * t.val + r) l := fun r l => by
    rw [out11_apply]
    unfold vl
    simp only [bkv_eq, iblk5, kvcol, if_neg (show ¬1024 + l.val < 1024 by omega), Nat.add_sub_cancel_left]
  blk_simp
  rw [after0_11]
  obtain ⟨r, l, rfl⟩ : ∃ (r : Fin 512) (l : Fin 1024), y = ix2 r l := ⟨y 0, y 1, eq_ix2 y⟩
  rw [h]
  refine congr (congrArg _ ?_) ?_
  · show 512 * t.val + r.val = win0_11.index t (0 : Fin 2) * 512 + 1 * r.val; omega
  · show l.val = win0_11.index t (1 : Fin 2) * 1024 + 1 * l.val; omega

/-- Result array 4 after the run. -/
theorem final12 : (dats m 0 c).arrAt 12 cfg0.N = (rows (krd (args m c)) : Vec Ideal S32768x128 .bf16) := by
  refine (dats m 0 c).arrAt_eq_of_covers 12 _ (by decide +kernel) fun t _ y => ?_
  obtain ⟨_, _, _, _, e, _⟩ := index_out t
  obtain ⟨ht, -⟩ := index_facts t
  have h : ∀ (r : Fin 512) (l : Fin 128), out0_12 (iblk m c 0 t) (iblk m c 1 t) (iblk m c 2 t) (iblk m c 3 t) (iblk m c 4 t) (iblk m c 5 t) (iblk m c 6 t) (iblk m c 7 t) (ix2 r l)
      = (krd (args m c)) (512 * t.val + r) l := fun r l => by
    rw [out12_apply, krd_apply]
  blk_simp
  rw [after0_12]
  obtain ⟨r, l, rfl⟩ : ∃ (r : Fin 512) (l : Fin 128), y = ix2 r l := ⟨y 0, y 1, eq_ix2 y⟩
  rw [h]
  refine congr (congrArg _ ?_) ?_
  · show 512 * t.val + r.val = win0_12.index t (0 : Fin 2) * 512 + 1 * r.val; omega
  · show l.val = win0_12.index t (1 : Fin 2) * 128 + 1 * l.val; omega

/-- Result array 5 after the run. -/
theorem final13 : (dats m 0 c).arrAt 13 cfg0.N = (rows (fun t l => ckv (args m c) t (Fin.ofNat 256 l)) : Vec Ideal S32768x256 .f32) := by
  refine (dats m 0 c).arrAt_eq_of_covers 13 _ (by decide +kernel) fun t _ y => ?_
  obtain ⟨_, _, _, _, _, e, _⟩ := index_out t
  obtain ⟨ht, -⟩ := index_facts t
  have h : ∀ (r : Fin 512) (l : Fin 256), out0_13 (iblk m c 0 t) (iblk m c 1 t) (iblk m c 2 t) (iblk m c 3 t) (iblk m c 4 t) (iblk m c 5 t) (iblk m c 6 t) (iblk m c 7 t) (ix2 r l)
      = (fun t l => ckv (args m c) t (Fin.ofNat 256 l)) (512 * t.val + r) l := fun r l => by
    rw [out13_apply, bkv_eq]
    exact congrArg _ (Fin.ext (Nat.mod_eq_of_lt l.isLt).symm)
  blk_simp
  rw [after0_13]
  obtain ⟨r, l, rfl⟩ : ∃ (r : Fin 512) (l : Fin 256), y = ix2 r l := ⟨y 0, y 1, eq_ix2 y⟩
  rw [h]
  refine congr (congrArg _ ?_) ?_
  · show 512 * t.val + r.val = win0_13.index t (0 : Fin 2) * 512 + 1 * r.val; omega
  · refine congrArg (Fin.ofNat 256) ?_
    show l.val = win0_13.index t (1 : Fin 2) * 256 + 1 * l.val; omega

/-- Result array 6 after the run. -/
theorem final14 : (dats m 0 c).arrAt 14 cfg0.N = (rows (krd (args m c)) : Vec Ideal S32768x32 .f32) := by
  refine (dats m 0 c).arrAt_eq_of_covers 14 _ (by decide +kernel) fun t _ y => ?_
  obtain ⟨_, _, _, _, _, _, e, _⟩ := index_out t
  obtain ⟨ht, -⟩ := index_facts t
  have h : ∀ (r : Fin 512) (l : Fin 32), out0_14 (iblk m c 0 t) (iblk m c 1 t) (iblk m c 2 t) (iblk m c 3 t) (iblk m c 4 t) (iblk m c 5 t) (iblk m c 6 t) (iblk m c 7 t) (ix2 r l)
      = (krd (args m c)) (512 * t.val + r) l := fun r l => by
    rw [out14_apply]
    exact krd_apply m c t r ⟨l, by omega⟩
  blk_simp
  rw [after0_14]
  obtain ⟨r, l, rfl⟩ : ∃ (r : Fin 512) (l : Fin 32), y = ix2 r l := ⟨y 0, y 1, eq_ix2 y⟩
  rw [h]
  refine congr (congrArg _ ?_) ?_
  · show 512 * t.val + r.val = win0_14.index t (0 : Fin 2) * 512 + 1 * r.val; omega
  · show l.val = win0_14.index t (1 : Fin 2) * 32 + 1 * l.val; omega

/-- Result array 7 after the run. -/
theorem final15 : (dats m 0 c).arrAt 15 cfg0.N = (rows (u (args m c)) : Vec Ideal S32768x512 .f32) := by
  refine (dats m 0 c).arrAt_eq_of_covers 15 _ (by decide +kernel) fun t _ y => ?_
  obtain ⟨_, _, _, _, _, _, _, e, _⟩ := index_out t
  obtain ⟨ht, -⟩ := index_facts t
  have h : ∀ (r : Fin 512) (l : Fin 512), out0_15 (iblk m c 0 t) (iblk m c 1 t) (iblk m c 2 t) (iblk m c 3 t) (iblk m c 4 t) (iblk m c 5 t) (iblk m c 6 t) (iblk m c 7 t) (ix2 r l)
      = (u (args m c)) (512 * t.val + r) l := fun r l => by
    rw [out15_apply, bh_eq, bh_eq]
    dsimp only
    rw [if_neg (by omega), if_pos (by omega), if_neg (by omega), if_pos (by omega)]
    unfold u
    rw [show 640 + l.val + 32 = 672 + l.val by omega, show 1152 + l.val + 32 = 1184 + l.val by omega]
  blk_simp
  rw [after0_15]
  obtain ⟨r, l, rfl⟩ : ∃ (r : Fin 512) (l : Fin 512), y = ix2 r l := ⟨y 0, y 1, eq_ix2 y⟩
  rw [h]
  refine congr (congrArg _ ?_) ?_
  · show 512 * t.val + r.val = win0_15.index t (0 : Fin 2) * 512 + 1 * r.val; omega
  · show l.val = win0_15.index t (1 : Fin 2) * 512 + 1 * l.val; omega

/-- Result array 8 after the run. -/
theorem final16 : (dats m 0 c).arrAt 16 cfg0.N = (rows (ga (args m c)) : Vec Ideal S32768x1024 .bf16) := by
  refine (dats m 0 c).arrAt_eq_of_covers 16 _ (by decide +kernel) fun t _ y => ?_
  obtain ⟨_, _, _, _, _, _, _, _, e, _⟩ := index_out t
  obtain ⟨ht, -⟩ := index_facts t
  have h : ∀ (r : Fin 512) (l : Fin 1024), out0_16 (iblk m c 0 t) (iblk m c 1 t) (iblk m c 2 t) (iblk m c 3 t) (iblk m c 4 t) (iblk m c 5 t) (iblk m c 6 t) (iblk m c 7 t) (ix2 r l)
      = (ga (args m c)) (512 * t.val + r) l := fun r l => by
    rw [out16_apply, bh_eq]
    dsimp only
    rw [if_neg (by omega), if_pos (by omega)]
    unfold ga
    rw [show 1664 + l.val + 32 = 1696 + l.val by omega]
  blk_simp
  rw [after0_16]
  obtain ⟨r, l, rfl⟩ : ∃ (r : Fin 512) (l : Fin 1024), y = ix2 r l := ⟨y 0, y 1, eq_ix2 y⟩
  rw [h]
  refine congr (congrArg _ ?_) ?_
  · show 512 * t.val + r.val = win0_16.index t (0 : Fin 2) * 512 + 1 * r.val; omega
  · show l.val = win0_16.index t (1 : Fin 2) * 1024 + 1 * l.val; omega

/-- Result array 9 after the run. -/
theorem final17 : (dats m 0 c).arrAt 17 cfg0.N = (rows (gb (args m c)) : Vec Ideal S32768x1024 .bf16) := by
  refine (dats m 0 c).arrAt_eq_of_covers 17 _ (by decide +kernel) fun t _ y => ?_
  obtain ⟨_, _, _, _, _, _, _, _, _, e⟩ := index_out t
  obtain ⟨ht, -⟩ := index_facts t
  have h : ∀ (r : Fin 512) (l : Fin 1024), out0_17 (iblk m c 0 t) (iblk m c 1 t) (iblk m c 2 t) (iblk m c 3 t) (iblk m c 4 t) (iblk m c 5 t) (iblk m c 6 t) (iblk m c 7 t) (ix2 r l)
      = (gb (args m c)) (512 * t.val + r) l := fun r l => by
    rw [out17_apply, bh_eq]
    dsimp only
    rw [if_neg (by omega), if_pos (by omega)]
    unfold gb
    rw [show 2688 + l.val + 32 = 2720 + l.val by omega]
  blk_simp
  rw [after0_17]
  obtain ⟨r, l, rfl⟩ : ∃ (r : Fin 512) (l : Fin 1024), y = ix2 r l := ⟨y 0, y 1, eq_ix2 y⟩
  rw [h]
  refine congr (congrArg _ ?_) ?_
  · show 512 * t.val + r.val = win0_17.index t (0 : Fin 2) * 512 + 1 * r.val; omega
  · show l.val = win0_17.index t (1 : Fin 2) * 1024 + 1 * l.val; omega

end Cert.Kernel2Ideal.Proj

end
-- ==== Proof.ProjTail.lean ====
/- The prompt's projection from its launch to its end: the ten arrays that the body writes, and the rows that the next step's
   convolution reads, which the host cuts from one of them. -/
module

public import proofs.«01_k».proof.Proof.ProjArray

@[expose] public section

set_option maxRecDepth 8192

noncomputable section

namespace Cert.Kernel2Ideal.Proj

open Idealize.ShloMosaic Idealize.ShloMosaic.TcCoe Idealize.SL.Sem Cert.Kernel2Ideal Cert.Kernel2Ideal.Gen Cert.ProjSpec

variable (m : (ℓ : Loc nD τ sig) → Buf (Elt Ideal) ℓ) (ρ : Dev nD → PrngReg) (c : Dev nD)

/-- The host's cut of the convolution's input: the last 30 rows of each sequence. -/
theorem cut_apply (U : FVec Ideal S32768x512 .f32) (b : Fin 16) (k : Fin 30) (l : Fin 512) :
    extractStridedSlice S16x30x512 ![0, 2018, 0] (shapeCast S16x2048x512 U shapeCasts_S32768x512_S16x2048x512) slices_S16x2048x512_S16x30x512_0_2018_0 (ix3 b k l)
      = U (ix2 (⟨2048 * b.val + (2018 + k.val), by omega⟩ : Fin 32768) l) := by
  pointwise []
  refine congrArg U (congr (congrArg ix2 (Fin.ext ?_)) (Fin.ext ?_))
  · dsimp only
    omega
  · dsimp only

/-- After the host's last lines the cut array has the last rows of what the body wrote. -/
theorem tail_cut : Pipeline.afterTail₀ cfgs (dats m) 0 (V0 m) [hostOps1] c main_v27 = (left (args m c) : Vec Ideal S16x30x512 .f32) := by
  have e : Pipeline.afterTail₀ cfgs (dats m) 0 (V0 m) [hostOps1] c main_v27 = (extractStridedSlice S16x30x512 ![0, 2018, 0]
      (shapeCast S16x2048x512 ((dats m 0 c).arrAt 15 cfg0.N : FVec Ideal S32768x512 .f32) shapeCasts_S32768x512_S16x2048x512) slices_S16x2048x512_S16x30x512_0_2018_0 : Vec Ideal S16x30x512 .f32) := by
    have ha : Pipeline.withArrays (cfgs 0).spec c (V0 m c) (fun w => (dats m 0 c).arrAt w (cfgs 0).N) (Proc.devRef .tc main_v25_7) = (dats m 0 c).arrAt 15 cfg0.N :=
      Pipeline.withArrays_arr (cfgs 0).spec launch0.win.arr_inj c (V0 m c) (fun w => (dats m 0 c).arrAt w (cfgs 0).N) 15
    unfold Pipeline.afterTail₀
    simp only [hostOps1, List.flatten_cons, List.flatten_nil, List.append_nil]
    after_results
    rw [ha]
    rfl
  rw [e, final15]
  refine funext fun y => ?_
  obtain ⟨b, k, l, rfl⟩ : ∃ (b : Fin 16) (k : Fin 30) (l : Fin 512), y = ix3 b k l := ⟨y 0, y 1, y 2, eq_ix3 y⟩
  exact cut_apply _ b k l

end Cert.Kernel2Ideal.Proj

end
-- ==== Proof.ProjRef.lean ====
/- The reference's results at an index, as the plain sums. -/
module

public import proofs.«01_k».proof.Proof.ProjSpec
public import proofs.«01_k».proof.Proof.Gen.Reference2Ideal.Read
public import Idealize.ShloMosaic.Lib.Tactic.CleanTypes

@[expose] public section

set_option maxRecDepth 16384

noncomputable section

namespace Cert.Reference2Ideal.Proj

open Idealize.ShloMosaic Cert.Reference2Ideal Cert.Reference2Ideal.Gen Cert.Reference2Ideal.Read Cert.ProjSpec

variable (I : In)

theorem hid_apply (t : Fin 32768) (b : Fin 3744) {b' : ℕ} (hb : b.val = b') : val_main_v0 (F := Ideal) I.x I.w (ix2 t b) = hid I t b' := by
  subst hb
  unfold hid
  pointwise [val_main_v0]
  exact Finset.sum_congr rfl fun k _ => congr (congrArg _ (at2_of I.x _ _ rfl rfl)) (at2_of I.w _ _ rfl rfl)

theorem cq_apply (t : Fin 32768) (j : Fin 384) : val_main_v23 (F := Ideal) I.x I.w I.qg (ix2 t j) = cq I t j := by
  pointwise [val_main_v23, val_main_v22, val_main_v21, val_main_v20, val_main_v19, val_main_v18, val_main_v17, val_main_cst_1, val_main_v16, val_main_v15, val_main_cst_0, val_main_v14, val_main_v13, val_main_cst, val_main_v12, val_main_v1]
  simp only [hid_apply I t _ rfl]
  exact congrArg₂ (fun a b : EReal => a * b) rfl (at2_of I.qg 0 j rfl rfl)

theorem ckv_apply (t : Fin 32768) (j : Fin 256) : val_main_v47 (F := Ideal) I.x I.w I.kvg (ix2 t j) = ckv I t j := by
  pointwise [val_main_v47, val_main_v46, val_main_v45, val_main_v44, val_main_v43, val_main_v42, val_main_v41, val_main_cst_4, val_main_v40, val_main_v39, val_main_cst_3, val_main_v38, val_main_v37, val_main_cst_2, val_main_v36, val_main_v2]
  simp only [hid_apply I t _ rfl]
  exact congrArg₂ (fun a b : EReal => a * b) rfl (at2_of I.kvg 0 j rfl rfl)

theorem q_apply (t : Fin 32768) (b : Fin 1536) {b' : ℕ} (hb : b.val = b') : val_main_v24 (F := Ideal) I.x I.w I.qg I.uq (ix2 t b) = q I t b' := by
  subst hb
  unfold q
  pointwise [val_main_v24]
  exact Finset.sum_congr rfl fun k _ => congr (congrArg _ (cq_apply I _ _)) (at2_of I.uq _ _ rfl rfl)

theorem qn_apply (t : Fin 32768) (l : Fin 1024) : val_main_v72 (F := Ideal) I.x I.w I.qg I.uq (ix2 t l) = qn I t l := by
  unfold qn scale
  pointwise [val_main_v72, val_main_v71, val_main_v70, val_main_v69, val_main_cst_7, val_main_v26, val_main_v25]
  refine congrArg₂ (fun a b : EReal => a * b) ?_ rfl
  exact q_apply I _ _ (by dsimp only; omega)

theorem kn_apply (t : Fin 32768) (l : Fin 1024) : val_main_v79 (F := Ideal) I.x I.w I.kvg I.uk (ix2 t l) = kn I t l := by
  unfold kn
  pointwise [val_main_v79, val_main_v59, val_main_v58]
  exact Finset.sum_congr rfl fun k _ => congr (congrArg _ (ckv_apply I _ _)) (at3_of I.uk _ _ _ rfl rfl rfl)

theorem vl_apply (t : Fin 32768) (l : Fin 1024) : val_main_v80 (F := Ideal) I.x I.w I.kvg I.uv (ix2 t l) = vl I t l := by
  unfold vl
  pointwise [val_main_v80, val_main_v61, val_main_v60]
  exact Finset.sum_congr rfl fun k _ => congr (congrArg _ (ckv_apply I _ _)) (at3_of I.uv _ _ _ rfl rfl rfl)

theorem u_apply (t : Fin 32768) (l : Fin 512) : val_main_v68 (F := Ideal) I.x I.w (ix2 t l) = u I t l := by
  unfold u Ideal.logistic
  pointwise [val_main_v68, val_main_v67, val_main_v66, val_main_cst_6, val_main_v65, val_main_v64, val_main_cst_5, val_main_v63, val_main_v62, val_main_v5, val_main_v4]
  rw [hid_apply I t _ rfl, hid_apply I t _ rfl]

theorem ga_apply (t : Fin 32768) (l : Fin 1024) : val_main_v94 (F := Ideal) I.x I.w (ix2 t l) = ga I t l := by
  unfold ga Ideal.logistic
  pointwise [val_main_v94, val_main_v93, val_main_v92, val_main_cst_12, val_main_v91, val_main_v90, val_main_cst_11, val_main_v89, val_main_v88, val_main_v6]
  rw [hid_apply I t _ rfl]

theorem gb_apply (t : Fin 32768) (l : Fin 1024) : val_main_v101 (F := Ideal) I.x I.w (ix2 t l) = gb I t l := by
  unfold gb Ideal.logistic
  pointwise [val_main_v101, val_main_v100, val_main_v99, val_main_cst_14, val_main_v98, val_main_v97, val_main_cst_13, val_main_v96, val_main_v95, val_main_v7]
  rw [hid_apply I t _ rfl]

theorem val_q (b : Fin 16) (p : Fin 2048) (i : Fin 1536) {i' : ℕ} (hi : i.val = i') :
    val_main_v24 (F := Ideal) I.x I.w I.qg I.uq (ix2 (⟨b * 2048 + p, by omega⟩ : Fin 32768) i) = q I (2048 * b + p) i' :=
  (q_apply I _ i hi).trans (congrArg (fun t => q I t i') (show b.val * 2048 + p.val = 2048 * b.val + p.val by omega))

theorem val_hid (b : Fin 16) (p : Fin 2048) (i : Fin 3744) {i' : ℕ} (hi : i.val = i') :
    val_main_v0 (F := Ideal) I.x I.w (ix2 (⟨b * 2048 + p, by omega⟩ : Fin 32768) i) = hid I (2048 * b + p) i' :=
  (hid_apply I _ i hi).trans (congrArg (fun t => hid I t i') (show b.val * 2048 + p.val = 2048 * b.val + p.val by omega))

/-- The turned rotary part of the queries, at its five coordinates. -/
theorem qturn_apply (b : Fin 16) (p : Fin 2048) (g : Fin 8) (e : Fin 2) (o : Fin 32) :
    val_main_v74 (F := Ideal) I.x I.w I.qg I.uq I.cs I.sn (ix5 b p g e o)
      = turn I (fun o => q I (2048 * b + p) (96 * (2 * g + e) + 64 + o)) (2048 * b + p) (32 * e + o) * scale := by
  unfold turn scale
  pointwise [val_main_v74, val_main_v73, val_main_cst_8, val_main_v35, val_main_v34, val_main_v33, val_main_v11, val_main_v10, val_main_v32, val_main_v31, val_main_v9, val_main_v8, val_main_v30, val_main_v29, val_main_v28, val_main_v27, val_main_v25]
  refine congrArg₂ (fun a b : EReal => a * b) (congrArg₂ (fun a b : EReal => a + b) (congrArg₂ (fun a b : EReal => a * b) ?_ ?_)
    (congrArg₂ (fun a b : EReal => a * b) ?_ ?_)) rfl
  · exact (val_q I b p _ (by dsimp only; omega))
  · exact at2_of I.cs _ _ (by omega) (by dsimp only; omega)
  · split
    · exact val_q I b p _ (by dsimp only; omega)
    · exact val_q I b p _ (by dsimp only; omega)
  · exact at2_of I.sn _ _ (by omega) (by dsimp only; omega)

theorem kturn_apply (b : Fin 16) (p : Fin 2048) (g : Fin 1) (e : Fin 2) (o : Fin 32) :
    val_main_v57 (F := Ideal) I.x I.w I.cs I.sn (ix5 b p g e o)
      = turn I (fun o => hid I (2048 * b + p) (640 + o)) (2048 * b + p) (32 * e + o) := by
  unfold turn
  pointwise [val_main_v57, val_main_v56, val_main_v55, val_main_v11, val_main_v10, val_main_v54, val_main_v53, val_main_v9, val_main_v8, val_main_v52, val_main_v51, val_main_v50, val_main_v49, val_main_v48, val_main_v3]
  refine congrArg₂ (fun a b : EReal => a + b) (congrArg₂ (fun a b : EReal => a * b) ?_ ?_) (congrArg₂ (fun a b : EReal => a * b) ?_ ?_)
  · exact (val_hid I b p _ (by dsimp only; omega))
  · exact at2_of I.cs _ _ (by omega) (by dsimp only; omega)
  · split
    · exact val_hid I b p _ (by dsimp only; omega)
    · exact val_hid I b p _ (by dsimp only; omega)
  · exact at2_of I.sn _ _ (by omega) (by dsimp only; omega)

theorem quarters (P : Prop) [Decidable P] {Q : Prop} [Decidable Q] (h : P ↔ Q) (a : P → EReal) (b : EReal) (hab : ∀ hp, a hp = b) :
    (if hp : P then a hp else 0) = if Q then b else 0 := by
  by_cases hp : P
  · rw [dif_pos hp, if_pos (h.mp hp), hab]
  · rw [dif_neg hp, if_neg fun hq => hp (h.mpr hq)]

theorem qr_apply (t : Fin 32768) (l : Fin 1024) : val_main_v78 (F := Ideal) I.x I.w I.qg I.uq I.cs I.sn (ix2 t l) = qr I t l := by
  unfold qr
  pointwise [val_main_v78, val_main_v77, val_main_v76, val_main_v75, val_main_cst_9]
  refine quarters _ (by omega) _ _ fun h => (qturn_apply I _ _ _ _ _).trans ?_
  dsimp only
  rw [show 2048 * (t.val / 2048) + t.val % 2048 = t.val by omega, show 32 * (l.val / 32 % 4) + l.val % 32 = l.val % 128 by omega,
    show l.val / 32 % 4 = l.val % 128 / 32 by omega]

theorem krd_apply (t : Fin 32768) (l : Fin 128) : val_main_v84 (F := Ideal) I.x I.w I.cs I.sn (ix2 t l) = krd I t l := by
  unfold krd
  pointwise [val_main_v84, val_main_v83, val_main_v82, val_main_v81, val_main_cst_10]
  refine quarters _ (by omega) _ _ fun h => (kturn_apply I _ _ _ _ _).trans ?_
  dsimp only
  rw [show 2048 * (t.val / 2048) + t.val % 2048 = t.val by omega, show 32 * (l.val / 32) + l.val % 32 = l.val by omega]

theorem kr_apply (t : Fin 32768) (l : Fin 32) : val_main_v87 (F := Ideal) I.x I.w I.cs I.sn (ix2 t l) = krd I t l := by
  unfold krd
  pointwise [val_main_v87, val_main_v86, val_main_v85]
  refine (kturn_apply I _ _ _ _ _).trans ?_
  rw [if_pos (by omega)]
  dsimp only
  rw [show 2048 * (t.val / 2048) + t.val % 2048 = t.val by omega]
  exact congrArg (turn I _ t.val) (show 32 * 0 + l.val = l.val by omega)

theorem qn_rows : val_main_v72 (F := Ideal) I.x I.w I.qg I.uq = rows (qn I) := by
  refine funext fun y => ?_
  obtain ⟨t, l, rfl⟩ : ∃ (t : Fin 32768) (l : Fin 1024), y = ix2 t l := ⟨y 0, y 1, eq_ix2 y⟩
  exact qn_apply I t l

theorem qr_rows : val_main_v78 (F := Ideal) I.x I.w I.qg I.uq I.cs I.sn = rows (qr I) := by
  refine funext fun y => ?_
  obtain ⟨t, l, rfl⟩ : ∃ (t : Fin 32768) (l : Fin 1024), y = ix2 t l := ⟨y 0, y 1, eq_ix2 y⟩
  exact qr_apply I t l

theorem kn_rows : val_main_v79 (F := Ideal) I.x I.w I.kvg I.uk = rows (kn I) := by
  refine funext fun y => ?_
  obtain ⟨t, l, rfl⟩ : ∃ (t : Fin 32768) (l : Fin 1024), y = ix2 t l := ⟨y 0, y 1, eq_ix2 y⟩
  exact kn_apply I t l

theorem vl_rows : val_main_v80 (F := Ideal) I.x I.w I.kvg I.uv = rows (vl I) := by
  refine funext fun y => ?_
  obtain ⟨t, l, rfl⟩ : ∃ (t : Fin 32768) (l : Fin 1024), y = ix2 t l := ⟨y 0, y 1, eq_ix2 y⟩
  exact vl_apply I t l

theorem krd_rows : val_main_v84 (F := Ideal) I.x I.w I.cs I.sn = rows (krd I) := by
  refine funext fun y => ?_
  obtain ⟨t, l, rfl⟩ : ∃ (t : Fin 32768) (l : Fin 128), y = ix2 t l := ⟨y 0, y 1, eq_ix2 y⟩
  exact krd_apply I t l

theorem ckv_rows : val_main_v47 (F := Ideal) I.x I.w I.kvg = rows (fun t l => ckv I t (Fin.ofNat 256 l)) := by
  refine funext fun y => ?_
  obtain ⟨t, l, rfl⟩ : ∃ (t : Fin 32768) (l : Fin 256), y = ix2 t l := ⟨y 0, y 1, eq_ix2 y⟩
  exact (ckv_apply I t l).trans (congrArg (ckv I t) (Fin.ext (Nat.mod_eq_of_lt l.isLt).symm))

theorem kr_rows : val_main_v87 (F := Ideal) I.x I.w I.cs I.sn = rows (krd I) := by
  refine funext fun y => ?_
  obtain ⟨t, l, rfl⟩ : ∃ (t : Fin 32768) (l : Fin 32), y = ix2 t l := ⟨y 0, y 1, eq_ix2 y⟩
  exact kr_apply I t l

theorem u_rows : val_main_v68 (F := Ideal) I.x I.w = rows (u I) := by
  refine funext fun y => ?_
  obtain ⟨t, l, rfl⟩ : ∃ (t : Fin 32768) (l : Fin 512), y = ix2 t l := ⟨y 0, y 1, eq_ix2 y⟩
  exact u_apply I t l

theorem ga_rows : val_main_v94 (F := Ideal) I.x I.w = rows (ga I) := by
  refine funext fun y => ?_
  obtain ⟨t, l, rfl⟩ : ∃ (t : Fin 32768) (l : Fin 1024), y = ix2 t l := ⟨y 0, y 1, eq_ix2 y⟩
  exact ga_apply I t l

theorem gb_rows : val_main_v101 (F := Ideal) I.x I.w = rows (gb I) := by
  refine funext fun y => ?_
  obtain ⟨t, l, rfl⟩ : ∃ (t : Fin 32768) (l : Fin 1024), y = ix2 t l := ⟨y 0, y 1, eq_ix2 y⟩
  exact gb_apply I t l

/-- The last 30 rows of each sequence behind 30 rows of zeros are the sequence's own. -/
theorem left_rows : val_main_v105 (F := Ideal) I.x I.w = left I := by
  refine funext fun y => ?_
  obtain ⟨b, k, l, rfl⟩ : ∃ (b : Fin 16) (k : Fin 30) (l : Fin 512), y = ix3 b k l := ⟨y 0, y 1, y 2, eq_ix3 y⟩
  show _ = u I (2048 * b.val + (2018 + k.val)) l.val
  pointwise [val_main_v105, val_main_v104, val_main_v103]
  rw [dif_neg (by omega)]
  refine (u_apply I _ _).trans ?_
  dsimp only
  exact congr (congrArg (u I) (by omega)) (by omega)

end Cert.Reference2Ideal.Proj

end
-- ==== Proof.Projection.lean ====
/- The claims about the prompt's input projection: the frames and the value. -/
module

public import proofs.«01_k».proof.Defs
public import proofs.«01_k».proof.Proof.Gen.Kernel2.Frame
public import proofs.«01_k».proof.Proof.Gen.Kernel2Ideal.Frame
public import proofs.«01_k».proof.Proof.ProjTail
public import proofs.«01_k».proof.Proof.ProjRef
public import Idealize.ShloMosaic.Lib.Quiescent

@[expose] public section

set_option maxRecDepth 8192

noncomputable section

namespace Cert.Proof.Projection

open Idealize.ShloMosaic Idealize.SL.Sem Cert.ProjSpec

/-- The kernel runs to its end and keeps its arguments. -/
theorem kernel_frame : Cert.quiescent_Kernel2 (hKernel2 := Cert.Kernel2.Gen.facts) := fun m ρ _ => Cert.Kernel2.Gen.frame m ρ

/-- So does the kernel over the extended reals. -/
theorem ideal_frame : Cert.quiescent_Kernel2Ideal (hKernel2Ideal := Cert.Kernel2Ideal.Gen.facts) := fun m ρ _ => Cert.Kernel2Ideal.Gen.frame m ρ

/-- And so does the reference. -/
theorem reference_frame : Cert.quiescent_Reference2Ideal (hReference2Ideal := Cert.Reference2Ideal.Gen.facts) := fun m ρ _ =>
  (θ_run Cert.Reference2Ideal.defs _ _).mono (fun r h => ⟨fun c => (h c).2.2.2.2.2.2.2.2.2.2.2, sem_eq_zero_of_no_sems (by decide) r.2⟩)
    (Cert.Reference2Ideal.Value.run (F := Ideal) m ρ)

/-- The reference's argument arrays. -/
def rargs (m : (ℓ : Loc Cert.Reference2Ideal.nD Cert.Reference2Ideal.τ Cert.Reference2Ideal.sig) → Buf (Elt Ideal) ℓ) (c : Dev Cert.Reference2Ideal.nD) : In :=
  ⟨m ((c.tc : Thread Cert.Reference2Ideal.nD Cert.Reference2Ideal.τ).loc Cert.Reference2Ideal.main_arg0),
    m ((c.tc : Thread Cert.Reference2Ideal.nD Cert.Reference2Ideal.τ).loc Cert.Reference2Ideal.main_arg1),
    m ((c.tc : Thread Cert.Reference2Ideal.nD Cert.Reference2Ideal.τ).loc Cert.Reference2Ideal.main_arg2),
    m ((c.tc : Thread Cert.Reference2Ideal.nD Cert.Reference2Ideal.τ).loc Cert.Reference2Ideal.main_arg3),
    m ((c.tc : Thread Cert.Reference2Ideal.nD Cert.Reference2Ideal.τ).loc Cert.Reference2Ideal.main_arg4),
    m ((c.tc : Thread Cert.Reference2Ideal.nD Cert.Reference2Ideal.τ).loc Cert.Reference2Ideal.main_arg5),
    m ((c.tc : Thread Cert.Reference2Ideal.nD Cert.Reference2Ideal.τ).loc Cert.Reference2Ideal.main_arg6),
    m ((c.tc : Thread Cert.Reference2Ideal.nD Cert.Reference2Ideal.τ).loc Cert.Reference2Ideal.main_arg7),
    m ((c.tc : Thread Cert.Reference2Ideal.nD Cert.Reference2Ideal.τ).loc Cert.Reference2Ideal.main_arg8)⟩

set_option maxHeartbeats 1000000 in
/-- The kernel and the reference end with the same eleven arrays. -/
theorem value : Cert.algebraic_Kernel2Ideal_Reference2Ideal (hKernel2Ideal := Cert.Kernel2Ideal.Gen.facts)
    (hReference2Ideal := Cert.Reference2Ideal.Gen.facts) := by
  intro m ρ m' ρ' _ hagree
  have e : ∀ c, rargs m' c = Cert.Kernel2Ideal.Proj.args m c := fun c => by
    obtain ⟨h0, h1, h2, h3, h4, h5, h6, h7, h8⟩ := hagree c
    unfold rargs Cert.Kernel2Ideal.Proj.args
    rw [h0, h1, h2, h3, h4, h5, h6, h7, h8]
  refine ⟨fun c => rows (qn (Cert.Kernel2Ideal.Proj.args m c)),
    fun c => rows (qr (Cert.Kernel2Ideal.Proj.args m c)),
    fun c => rows (kn (Cert.Kernel2Ideal.Proj.args m c)),
    fun c => rows (vl (Cert.Kernel2Ideal.Proj.args m c)),
    fun c => rows (krd (Cert.Kernel2Ideal.Proj.args m c)),
    fun c => rows (fun t l => ckv (Cert.Kernel2Ideal.Proj.args m c) t (Fin.ofNat 256 l)),
    fun c => rows (krd (Cert.Kernel2Ideal.Proj.args m c)),
    fun c => rows (u (Cert.Kernel2Ideal.Proj.args m c)),
    fun c => rows (ga (Cert.Kernel2Ideal.Proj.args m c)),
    fun c => rows (gb (Cert.Kernel2Ideal.Proj.args m c)),
    fun c => left (Cert.Kernel2Ideal.Proj.args m c), ?_, ?_⟩
  · refine (θ_run Cert.Kernel2Ideal.defs _ _).mono (fun _ h c => ?_)
      (θ_run_and (Cert.Kernel2Ideal.Gen.run_main (F := Ideal) m ρ) (Cert.Kernel2Ideal.Gen.unchanged (F := Ideal) m ρ))
    obtain ⟨ha, hr⟩ := h.1 c
    exact ⟨(ha 8).trans (Cert.Kernel2Ideal.Proj.final8 m c), (ha 9).trans (Cert.Kernel2Ideal.Proj.final9 m c),
      (ha 10).trans (Cert.Kernel2Ideal.Proj.final10 m c), (ha 11).trans (Cert.Kernel2Ideal.Proj.final11 m c),
      (ha 12).trans (Cert.Kernel2Ideal.Proj.final12 m c), (ha 13).trans (Cert.Kernel2Ideal.Proj.final13 m c),
      (ha 14).trans (Cert.Kernel2Ideal.Proj.final14 m c), (ha 15).trans (Cert.Kernel2Ideal.Proj.final15 m c),
      (ha 16).trans (Cert.Kernel2Ideal.Proj.final16 m c), (ha 17).trans (Cert.Kernel2Ideal.Proj.final17 m c),
      (hr Cert.Kernel2Ideal.main_v27 (Pipeline.mem_restRefs_of Cert.Kernel2Ideal.main_v27 (by decide) (by decide))).trans
        (Cert.Kernel2Ideal.Proj.tail_cut m c), h.2 c⟩
  · refine (θ_run Cert.Reference2Ideal.defs _ _).mono (fun _ h c => ?_) (Cert.Reference2Ideal.Value.run (F := Ideal) m' ρ')
    obtain ⟨h0, h1, h2, h3, h4, h5, h6, h7, h8, h9, h10, hk⟩ := h c
    beta_reduce
    rw [← e c]
    exact ⟨h0.trans (Cert.Reference2Ideal.Proj.qn_rows (rargs m' c)), h1.trans ((Cert.Reference2Ideal.Read.val_main_v78_eq _ _).trans (Cert.Reference2Ideal.Proj.qr_rows (rargs m' c))), h2.trans (Cert.Reference2Ideal.Proj.kn_rows (rargs m' c)), h3.trans (Cert.Reference2Ideal.Proj.vl_rows (rargs m' c)), h4.trans (Cert.Reference2Ideal.Proj.krd_rows (rargs m' c)), h5.trans (Cert.Reference2Ideal.Proj.ckv_rows (rargs m' c)), h6.trans (Cert.Reference2Ideal.Proj.kr_rows (rargs m' c)), h7.trans (Cert.Reference2Ideal.Proj.u_rows (rargs m' c)), h8.trans (Cert.Reference2Ideal.Proj.ga_rows (rargs m' c)), h9.trans (Cert.Reference2Ideal.Proj.gb_rows (rargs m' c)),
      h10.trans (Cert.Reference2Ideal.Proj.left_rows (rargs m' c)), hk⟩

end Cert.Proof.Projection

end
-- ==== Proof.SampSpec.lean ====
/- The sample's input projection as plain sums over its argument arrays: 128 tokens, all at the one position of the tables' first row. -/
module

public import proofs.«01_k».proof.Proof.ProjSpec

@[expose] public section

noncomputable section

namespace Cert.SampSpec

open Idealize.ShloMosaic
open Cert.ProjSpec (at2 at3 rms)

/-- The argument arrays: the tokens' rows, the input weights, each norm's gain, the query weights, the tables of angles. -/
structure In where
  x : FVec Ideal (⟨2, ![128, 1024]⟩ : Shape) .f32
  w : FVec Ideal (⟨2, ![1024, 3744]⟩ : Shape) .f32
  qg : FVec Ideal (⟨2, ![1, 384]⟩ : Shape) .f32
  uq : FVec Ideal (⟨2, ![384, 1536]⟩ : Shape) .f32
  kvg : FVec Ideal (⟨2, ![1, 256]⟩ : Shape) .f32
  cs : FVec Ideal (⟨2, ![8, 128]⟩ : Shape) .f32
  sn : FVec Ideal (⟨2, ![8, 128]⟩ : Shape) .f32

/-- The queries' scale: the attention's. -/
def scale : EReal := Ideal.ofBits .f32 0x3DD105EC#32

variable (I : In)

/-- Column `c` of token `t`'s row times the input weights. -/
def hid (t c : ℕ) : EReal := ∑ k : Fin 1024, at2 I.x t k * at2 I.w k c

/-- The query latent, normalised. -/
def cq (t : ℕ) : Fin 384 → EReal := rms (Ideal.ofBits .f32 0x43C00000#32) (fun i => hid I t i) (fun i => at2 I.qg 0 i)

/-- The key and value latent, normalised. -/
def ckv (t : ℕ) : Fin 256 → EReal := rms (Ideal.ofBits .f32 0x43800000#32) (fun i => hid I t (384 + i)) (fun i => at2 I.kvg 0 i)

/-- The queries before scale and turn: head `h` has columns `96 h ..`. -/
def q (t c : ℕ) : EReal := ∑ j : Fin 384, cq I t j * at2 I.uq j c

/-- The turn of 32 entries `f` by the angles of lane `l`, `l % 32` being the entry. -/
def turn (f : ℕ → EReal) (l : ℕ) : EReal := f (l % 32) * at2 I.cs 0 l + f ((l % 32 + 16) % 32) * at2 I.sn 0 l

/-- The queries' part without position. -/
def qn (t l : ℕ) : EReal := q I t (96 * (l / 64) + l % 64) * scale

/-- The queries' rotary part: head `l / 32`, turned by the angles of lane `l % 128`. -/
def qr (t l : ℕ) : EReal := turn I (fun o => q I t (96 * (l / 32) + 64 + o)) (l % 128) * scale

/-- The rotary key. -/
def kr (t l : ℕ) : EReal := turn I (fun o => hid I t (640 + o)) l

/-- The convolution's input: a linear part gated by the logistic of another. -/
def u (t l : ℕ) : EReal := hid I t (672 + l) * Ideal.logistic (hid I t (1184 + l))

/-- The first gate. -/
def ga (t l : ℕ) : EReal := Ideal.logistic (hid I t (1696 + l))

/-- The second gate. -/
def gb (t l : ℕ) : EReal := Ideal.logistic (hid I t (2720 + l))

/-- The array of `n` columns whose row `t` has `f t`. -/
def rows {n : ℕ} (f : ℕ → ℕ → EReal) : (⟨2, ![128, n]⟩ : Shape).Idx → EReal := fun y => f (y 0).val (y 1).val

/-- What the next step's convolution reads: the state's rows but its oldest, then the token's own. -/
def left (s : FVec Ideal (⟨3, ![128, 30, 512]⟩ : Shape) .f32) : (⟨3, ![128, 30, 512]⟩ : Shape).Idx → EReal := fun y =>
  if (y 1).val < 29 then at3 s (y 0).val ((y 1).val + 1) (y 2).val else u I (y 0).val (y 2).val

end Cert.SampSpec

end
-- ==== Proof.SampBlock.lean ====
/- What the sample's one grid point stores, at an index, as sums over its blocks. -/
module

public import proofs.«01_k».proof.Proof.SampSpec
public import proofs.«01_k».proof.Proof.ProjBlock
public import proofs.«01_k».proof.Proof.Gen.Kernel3Ideal.Frame

@[expose] public section

set_option maxRecDepth 16384

noncomputable section

namespace Cert.Kernel3Ideal.Samp

open Idealize.ShloMosaic Cert.Kernel3Ideal Cert.Kernel3Ideal.Gen Cert.SampSpec
open Cert.ProjSpec (rms)
open Cert.Kernel2Ideal.Proj (half half_eq partner origin)

variable (x0 : Vec Ideal S128x1024 .f32) (x1 : Vec Ideal S1024x3840 .bf16) (x2 : Vec Ideal S1x384 .f32) (x3 : Vec Ideal S1x256 .f32)
  (x4 : Vec Ideal S384x1536 .bf16) (x5 x6 : Vec Ideal S8x128 .f32)

/-- Row `r` of the tokens times column `b` of the input weights. -/
def bh (r : Fin 128) (b : Fin 3840) : EReal := ∑ k : Fin 1024, x0 (ix2 r k) * x1 (ix2 k b)

/-- The query latent of row `r`, normalised. -/
def bq (r : Fin 128) : Fin 384 → EReal :=
  rms (Ideal.ofBits .f32 0x43C00000#32) (fun i => bh x0 x1 r ⟨i, by omega⟩) (fun i => x2 (ix2 0 i))

/-- The key and value latent of row `r`, normalised. -/
def bkv (r : Fin 128) : Fin 256 → EReal :=
  rms (Ideal.ofBits .f32 0x43800000#32) (fun i => bh x0 x1 r ⟨384 + i, by omega⟩) (fun i => x3 (ix2 0 i))

theorem pay16_apply (r : Fin 128) (k : Fin 1024) : k0_pay16 x0 x1 x2 x3 x4 x5 x6 (ix2 r k) = x0 (ix2 r k) := by
  pointwise [k0_pay16, k0_pay5]

theorem out11_apply (r : Fin 128) (l : Fin 512) : out0_11 x0 x1 x2 x3 x4 x5 x6 (ix2 r l)
    = bh x0 x1 r ⟨640 + l, by omega⟩ * Ideal.logistic (bh x0 x1 r ⟨1152 + l, by omega⟩) := by
  unfold bh out0_11
  rw [View.canon_unit_zero origin]
  pointwise [k0_pay2, pay16_apply]

theorem out12_apply (r : Fin 128) (l : Fin 1024) : out0_12 x0 x1 x2 x3 x4 x5 x6 (ix2 r l) = Ideal.logistic (bh x0 x1 r ⟨1664 + l, by omega⟩) := by
  unfold bh out0_12
  rw [View.canon_unit_zero origin]
  pointwise [k0_pay3, pay16_apply]

theorem out13_apply (r : Fin 128) (l : Fin 1024) : out0_13 x0 x1 x2 x3 x4 x5 x6 (ix2 r l) = Ideal.logistic (bh x0 x1 r ⟨2688 + l, by omega⟩) := by
  unfold bh out0_13
  rw [View.canon_unit_zero origin]
  pointwise [k0_pay4, pay16_apply]

theorem out9_apply (r : Fin 128) (l : Fin 256) : out0_9 x0 x1 x2 x3 x4 x5 x6 (ix2 r l) = bkv x0 x1 x3 r l := by
  unfold out0_9 bkv rms bh
  rw [View.canon_unit_zero origin]
  pointwise [k0_pay12, pay16_apply]

theorem pay8_apply (r : Fin 128) (l : Fin 1536) : k0_pay8 (View.ld x0 r0_0) (View.ld x1 r0_2) (View.ld x2 r0_3) (View.ld x4 r0_4) (ix2 r l)
    = ∑ j : Fin 384, bq x0 x1 x2 r j * x4 (ix2 j l) := by
  unfold bq rms bh
  pointwise [k0_pay8, k0_pay5]

theorem out7_apply (r : Fin 128) (l : Fin 1024) : out0_7 x0 x1 x2 x3 x4 x5 x6 (ix2 r l)
    = (∑ j : Fin 384, bq x0 x1 x2 r j * x4 (ix2 j ⟨l, by omega⟩)) * scale := by
  unfold out0_7 scale
  rw [View.canon_unit_zero origin]
  pointwise [k0_pay9, pay8_apply]

/-- The queries' rotary columns, as the kernel's product gives them. -/
def bqa (r : Fin 128) (i : ℕ) : EReal := ∑ j : Fin 384, bq x0 x1 x2 r j * x4 (ix2 j (Fin.ofNat 1536 (1024 + i)))

theorem pay10_bqa (r : Fin 128) (l : Fin 512) :
    k0_pay10 (View.ld x0 r0_0) (View.ld x1 r0_2) (View.ld x2 r0_3) (View.ld x4 r0_4) (ix2 r l) = bqa x0 x1 x2 x4 r l := by
  unfold bqa
  pointwise [k0_pay10, pay8_apply]
  refine Finset.sum_congr rfl fun j _ => ?_
  refine congrArg (fun k => _ * x4 (ix2 j k)) (Fin.ext ?_)
  show 1024 + l.val = (1024 + l.val) % 1536
  omega

/-- The kernel's mask of the lanes in the first half of their head. -/
theorem mask_apply (r l : Fin 128) : k0_pay15 (ix2 r l) = half l (Scalar.select (Scalar.cmpi .eq 32#32 0#32) 1#32 32#32) := by
  pointwise [k0_pay15]
  rfl

theorem out10_apply (r : Fin 128) (l : Fin 32) : out0_10 x0 x1 x2 x3 x4 x5 x6 (ix2 r l)
    = bh x0 x1 r ⟨3712 + l, by omega⟩ * x5 (ix2 0 ⟨l, by omega⟩)
      + bh x0 x1 r ⟨3712 + (l + 16) % 32, by omega⟩ * x6 (ix2 0 ⟨l, by omega⟩) := by
  unfold bh out0_10
  rw [View.canon_unit_zero origin]
  pointwise [k0_pay1, k0_pay13, k0_pay14, pay16_apply, mask_apply]
  refine congrArg₂ (fun a b : EReal => a + b) rfl (congrArg₂ (fun a b : EReal => a * b) ?_ rfl)
  refine (congrArg (fun b => Scalar.select b _ _) (half_eq ⟨l.val, by omega⟩)).trans ?_
  dsimp only
  by_cases h : l.val % 32 < 16
  · rw [if_pos h]
    show (∑ k : Fin 1024, x0 (ix2 r k) * x1 (ix2 k ⟨3712 + (l.val + 128 - 112) % 128, by omega⟩)) = _
    refine Finset.sum_congr rfl fun k _ => congrArg (fun b => x0 (ix2 r k) * x1 (ix2 k b)) (Fin.ext ?_)
    show 3712 + (l.val + 128 - 112) % 128 = 3712 + (l.val + 16) % 32
    omega
  · rw [if_neg h]
    show (∑ k : Fin 1024, x0 (ix2 r k) * x1 (ix2 k ⟨3712 + (l.val + 128 - 16) % 128, by omega⟩)) = _
    refine Finset.sum_congr rfl fun k _ => congrArg (fun b => x0 (ix2 r k) * x1 (ix2 k b)) (Fin.ext ?_)
    show 3712 + (l.val + 128 - 16) % 128 = 3712 + (l.val + 16) % 32
    omega

/-- Four groups of 128 lanes side by side. -/
def side (p0 p1 p2 p3 : FVec Ideal S128x128 .f32) : FVec Ideal S128x512 .f32 :=
  concatenate S128x512 1 [⟨S128x128, p0⟩, ⟨S128x128, p1⟩, ⟨S128x128, p2⟩, ⟨S128x128, p3⟩] concatenates_S128x128_S128x128_S128x128_S128x128_S128x512_d1

/-- The four groups laid side by side, read at lane `L`. -/
theorem groups_apply (p0 p1 p2 p3 : FVec Ideal S128x128 .f32) (r : Fin 128) (L : ℕ) (hL : L < 512) (g : ℕ) (hg : L / 128 = g) :
    (if h : L < 128 then p0 (ix2 r (⟨L, by omega⟩ : Fin 128))
      else if h : L - 128 < 128 then p1 (ix2 r (⟨L - 128, by omega⟩ : Fin 128))
      else if h : L - 128 - 128 < 128 then p2 (ix2 r (⟨L - 128 - 128, by omega⟩ : Fin 128))
      else p3 (ix2 r (⟨L - 128 - 128 - 128, by omega⟩ : Fin 128)))
      = (![p0, p1, p2, p3] ⟨g, by omega⟩) (ix2 r (⟨L % 128, Nat.mod_lt _ (by norm_num)⟩ : Fin 128)) := by
  have hg4 : g < 4 := by omega
  by_cases h0 : L < 128
  · rw [dif_pos h0]
    obtain rfl : g = 0 := by omega
    exact congrArg (fun a => p0 (ix2 r a)) (Fin.ext (show L = L % 128 by omega))
  rw [dif_neg h0]
  by_cases h1 : L - 128 < 128
  · rw [dif_pos h1]
    obtain rfl : g = 1 := by omega
    exact congrArg (fun a => p1 (ix2 r a)) (Fin.ext (show L - 128 = L % 128 by omega))
  rw [dif_neg h1]
  by_cases h2 : L - 128 - 128 < 128
  · rw [dif_pos h2]
    obtain rfl : g = 2 := by omega
    exact congrArg (fun a => p2 (ix2 r a)) (Fin.ext (show L - 128 - 128 = L % 128 by omega))
  rw [dif_neg h2]
  obtain rfl : g = 3 := by omega
  exact congrArg (fun a => p3 (ix2 r a)) (Fin.ext (show L - 128 - 128 - 128 = L % 128 by omega))

theorem side_apply (p0 p1 p2 p3 : FVec Ideal S128x128 .f32) (r : Fin 128) (g : Fin 4) (l : Fin 128) :
    side p0 p1 p2 p3 (ix2 r ⟨128 * g + l, by omega⟩) = (![p0, p1, p2, p3] g) (ix2 r l) := by
  pointwise [side]
  refine (groups_apply p0 p1 p2 p3 r (128 * g + l) (by omega) g (by omega)).trans ?_
  refine congrArg (fun a => (![p0, p1, p2, p3] g) (ix2 r a)) (Fin.ext (show (128 * g.val + l.val) % 128 = l.val by omega))

/-- The group of 128 lanes `p`, each half a head further on or back. -/
def swapped (p : FVec Ideal S128x128 .f32) : FVec Ideal S128x128 .f32 :=
  select k0_pay15 (dynamicRotate 1 112#32 none p rotates_S128x128_d1) (dynamicRotate 1 16#32 none p rotates_S128x128_d1)

theorem swapped_apply (p : FVec Ideal S128x128 .f32) (f : ℕ → EReal) (r : Fin 128) (hp : ∀ l : Fin 128, p (ix2 r l) = f l) (l : Fin 128) :
    swapped p (ix2 r l) = partner f l := by
  pointwise [swapped, mask_apply]
  rw [half_eq, hp, hp]
  unfold partner
  by_cases h : l.val % 32 < 16
  · rw [if_pos h, if_pos h]
    refine congrArg f ?_
    show (l.val + 128 - 112) % 128 = l.val + 16
    omega
  · rw [if_neg h, if_neg h]
    refine congrArg f ?_
    show (l.val + 128 - 16) % 128 = l.val - 16
    omega

theorem pay11_eq (c s : FVec Ideal S1x512 .f32) (v : FVec Ideal S128x512 .f32) :
    k0_pay11 c s v (iota .tc S128x128 32 [1] iota_S128x128_d1_w32) (Scalar.select (Scalar.cmpi .eq 32#32 0#32) 1#32 32#32)
      = mulf (addf (mulf v (broadcastTo S128x512 c broadcasts_S1x512_S128x512)) (mulf (side
        (swapped (extractStridedSlice S128x128 ![0, 0] v slices_S128x512_o0_0_S128x128))
        (swapped (extractStridedSlice S128x128 ![0, 128] v slices_S128x512_o0_128_S128x128))
        (swapped (extractStridedSlice S128x128 ![0, 256] v slices_S128x512_o0_256_S128x128))
        (swapped (extractStridedSlice S128x128 ![0, 384] v slices_S128x512_o0_384_S128x128)))
        (broadcastTo S128x512 s broadcasts_S1x512_S128x512))) (broadcast S128x512 (Scalar.ofBits .f32 0x3DD105EC#32)) := rfl

theorem tail_apply (v q : FVec Ideal S128x512 .f32) (c s : FVec Ideal S1x512 .f32) (r : Fin 128) (L : Fin 512) :
    mulf (addf (mulf v (broadcastTo S128x512 c broadcasts_S1x512_S128x512)) (mulf q (broadcastTo S128x512 s broadcasts_S1x512_S128x512)))
      (broadcast S128x512 (Scalar.ofBits .f32 0x3DD105EC#32)) (ix2 r L) = (v (ix2 r L) * c (ix2 0 L) + q (ix2 r L) * s (ix2 0 L)) * scale := by
  unfold scale
  pointwise

/-- A table's first row, four times side by side. -/
theorem table_apply (x : Vec Ideal S8x128 .f32) (g : Fin 4) (l : Fin 128) :
    k0_pay6 (View.ld x r0_1) (ix2 0 ⟨128 * g + l, by omega⟩) = x (ix2 0 l) := by
  pointwise [k0_pay6]
  split
  · exact congrArg (fun a => x (ix2 0 a)) (Fin.ext (by dsimp only; omega))
  split
  · exact congrArg (fun a => x (ix2 0 a)) (Fin.ext (by dsimp only; omega))
  split
  · exact congrArg (fun a => x (ix2 0 a)) (Fin.ext (by dsimp only; omega))
  · exact congrArg (fun a => x (ix2 0 a)) (Fin.ext (by dsimp only; omega))

theorem out8_apply (r : Fin 128) (g : Fin 4) (l : Fin 128) : out0_8 x0 x1 x2 x3 x4 x5 x6 (ix2 r ⟨128 * g + l, by omega⟩)
    = (bqa x0 x1 x2 x4 r (128 * g + l) * x5 (ix2 0 l) + partner (fun i => bqa x0 x1 x2 x4 r (128 * g + i)) l * x6 (ix2 0 l)) * scale := by
  unfold out0_8
  rw [View.canon_unit_zero origin]
  have hv := fun l : Fin 512 => pay10_bqa x0 x1 x2 x4 r l
  rw [pay11_eq, tail_apply, side_apply, table_apply, hv, show k0_pay7 (View.ld x6 r0_1) = k0_pay6 (View.ld x6 r0_1) from rfl, table_apply]
  refine congrArg (fun a : EReal => a * scale) (congrArg₂ (fun a b : EReal => a + b) rfl (congrArg₂ (fun a b : EReal => a * b) ?_ rfl))
  match g with
  | ⟨0, _⟩ | ⟨1, _⟩ | ⟨2, _⟩ | ⟨3, _⟩ =>
    refine swapped_apply _ _ r (fun l => ?_) l
    pointwise
    exact hv _

end Cert.Kernel3Ideal.Samp

end
-- ==== Proof.SampWeights.lean ====
/- The weights that the sample's host lines prepare, at an index: columns of the argument arrays, moved. -/
module

public import proofs.«01_k».proof.Proof.Gen.Kernel3Ideal.Frame
public import Idealize.ShloMosaic.Lib.Pipeline.Value
public import proofs.«01_k».proof.Proof.SampSpec
public import proofs.«01_k».proof.Proof.ProjWeights

@[expose] public section

set_option maxRecDepth 8192

noncomputable section

namespace Cert.Kernel3Ideal.Samp

open Idealize.ShloMosaic Idealize.ShloMosaic.TcCoe Cert.Kernel3Ideal Cert.Kernel3Ideal.Gen Cert.SampSpec
open Cert.ProjSpec (at2 at2_of)
open Cert.Kernel2Ideal.Proj (wcol pieces_apply)

variable (m : (ℓ : Loc nD τ sig) → Buf (Elt Ideal) ℓ) (c : Dev nD)

/-- The kernel's argument arrays. -/
def args : In :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6)⟩

theorem win_apply (k : Fin 1024) (b : Fin 3840) : (V m c main_v8 : FVec Ideal S1024x3840 .bf16) (ix2 k b) = wcol (args m c).w k b := by
  have e : (V m c main_v8 : FVec Ideal S1024x3840 .bf16) = truncf .bf16 (concatenate S1024x3840 1 [⟨S1024x384, extractStridedSlice S1024x384 ![0, 0] (args m c).w slices_S1024x3744_S1024x384_0_0⟩,
      ⟨S1024x256, extractStridedSlice S1024x256 ![0, 384] (args m c).w slices_S1024x3744_S1024x256_0_384⟩,
      ⟨S1024x1024, extractStridedSlice S1024x1024 ![0, 672] (args m c).w slices_S1024x3744_S1024x1024_0_672⟩,
      ⟨S1024x1024, extractStridedSlice S1024x1024 ![0, 1696] (args m c).w slices_S1024x3744_S1024x1024_0_1696⟩,
      ⟨S1024x1024, extractStridedSlice S1024x1024 ![0, 2720] (args m c).w slices_S1024x3744_S1024x1024_0_2720⟩,
      ⟨S1024x32, extractStridedSlice S1024x32 ![0, 640] (args m c).w slices_S1024x3744_S1024x32_0_640⟩,
      ⟨S1024x32, extractStridedSlice S1024x32 ![0, 640] (args m c).w slices_S1024x3744_S1024x32_0_640⟩,
      ⟨S1024x64, broadcastInDim S1024x64 ![] bcast_S_S1024x64 (constant S_ .f32 0x00000000#32)⟩] concatenates_S1024x384_S1024x256_S1024x1024_S1024x1024_S1024x1024_S1024x32_S1024x32_S1024x64_S1024x3840_d1) bitsLt_bf16_f32 := by
    unfold args
    unfold_abbrev_sides
    after_results
    rfl
  rw [e]
  clear e
  pointwise
  exact pieces_apply _ k b.val b.isLt

/-- Column `b` of row `k` of the prepared query weights: the heads' parts without position, then the heads' rotary parts. -/
def qcol (w : FVec Ideal (⟨2, ![384, 1536]⟩ : Shape) .f32) (k b : ℕ) : EReal :=
  if b < 1024 then at2 w k (96 * (b / 64) + b % 64) else at2 w k (96 * ((b - 1024) / 32) + 64 + (b - 1024) % 32)

/-- The pieces of the prepared query weights, laid side by side. -/
theorem heads_apply (w : FVec Ideal (⟨2, ![384, 1536]⟩ : Shape) .f32) (k : Fin 384) (b : ℕ) (hb : b < 1536) :
    (if h : b < 1024 then w (ix2 k (⟨b / 64 * 96 + b % 64, by omega⟩ : Fin 1536))
      else if h : (b - 1024) % 32 < 16 then w (ix2 k (⟨(b - 1024) / 32 * 96 + (64 + (b - 1024) % 32), by omega⟩ : Fin 1536))
      else w (ix2 k (⟨(b - 1024) / 32 * 96 + (80 + ((b - 1024) % 32 - 16)), by omega⟩ : Fin 1536))) = qcol w k b := by
  unfold qcol
  by_cases h0 : b < 1024
  · rw [dif_pos h0, if_pos h0]
    exact at2_of _ _ _ rfl (by dsimp only; omega)
  rw [dif_neg h0, if_neg h0]
  by_cases h1 : (b - 1024) % 32 < 16
  · rw [dif_pos h1]
    exact at2_of _ _ _ rfl (by dsimp only; omega)
  · rw [dif_neg h1]
    exact at2_of _ _ _ rfl (by dsimp only; omega)

set_option maxHeartbeats 1000000 in
theorem wuq_apply (k : Fin 384) (b : Fin 1536) : (V m c main_v17 : FVec Ideal S384x1536 .bf16) (ix2 k b) = qcol (args m c).uq k b := by
  have e : (V m c main_v17 : FVec Ideal S384x1536 .bf16) = truncf .bf16 (concatenate S384x1536 1
      [⟨S384x1024, shapeCast S384x1024 (extractStridedSlice S384x16x64 ![0, 0, 0] (shapeCast S384x16x96 (args m c).uq shapeCasts_S384x1536_S384x16x96) slices_S384x16x96_S384x16x64_0_0_0) shapeCasts_S384x16x64_S384x1024⟩,
      ⟨S384x512, shapeCast S384x512 (concatenate S384x16x32 2
          [⟨S384x16x16, extractStridedSlice S384x16x16 ![0, 0, 64] (shapeCast S384x16x96 (args m c).uq shapeCasts_S384x1536_S384x16x96) slices_S384x16x96_S384x16x16_0_0_64⟩,
          ⟨S384x16x16, extractStridedSlice S384x16x16 ![0, 0, 80] (shapeCast S384x16x96 (args m c).uq shapeCasts_S384x1536_S384x16x96) slices_S384x16x96_S384x16x16_0_0_80⟩]
          concatenates_S384x16x16_S384x16x16_S384x16x32_d2) shapeCasts_S384x16x32_S384x512⟩]
      concatenates_S384x1024_S384x512_S384x1536_d1) bitsLt_bf16_f32 := by
    unfold args
    unfold_abbrev_sides
    after_results
    rfl
  rw [e]
  clear e
  pointwise
  exact heads_apply _ k b.val b.isLt

end Cert.Kernel3Ideal.Samp

end
-- ==== Proof.SampArray.lean ====
/- The sample's result arrays: the projections of its argument arrays. -/
module

public import proofs.«01_k».proof.Proof.SampBlock
public import proofs.«01_k».proof.Proof.SampWeights

@[expose] public section

set_option maxRecDepth 8192

noncomputable section

namespace Cert.Kernel3Ideal.Samp

open Idealize.ShloMosaic Idealize.ShloMosaic.TcCoe Cert.Kernel3Ideal Cert.Kernel3Ideal.Gen Cert.SampSpec
open Cert.ProjSpec (at2)
open Cert.Kernel2Ideal.Proj (wcol partner)

/-- Each window's block lies at its array's origin: the arrays are taken whole. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

variable (m : (ℓ : Loc nD τ sig) → Buf (Elt Ideal) ℓ) (c : Dev nD) (t : Fin cfg0.N)

theorem iblk0 (r : Fin 128) (k : Fin 1024) : (iblk m c 0 t : Vec Ideal S128x1024 .f32) (ix2 r k) = at2 (args m c).x r k := by
  obtain ⟨e, _⟩ := index_facts t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 128 + 1 * r.val = r.val % 128; omega
  | ⟨1, _⟩ => show win0_0.index t (1 : Fin 2) * 1024 + 1 * k.val = k.val % 1024; omega

theorem iblk1 (k : Fin 1024) (b : Fin 3840) : (iblk m c 1 t : Vec Ideal S1024x3840 .bf16) (ix2 k b) = wcol (args m c).w k b := by
  obtain ⟨_, e, _⟩ := index_facts t
  rw [← win_apply]
  show V m c main_v8 (((cfg0.win 1).blk t).view.emb _) = _
  refine congrArg (V m c main_v8) (funext fun a => Fin.ext ?_)
  match a with
  | ⟨0, _⟩ => show win0_1.index t (0 : Fin 2) * 1024 + 1 * k.val = k.val; omega
  | ⟨1, _⟩ => show win0_1.index t (1 : Fin 2) * 3840 + 1 * b.val = b.val; omega

theorem iblk2 (i : Fin 384) : (iblk m c 2 t : Vec Ideal S1x384 .f32) (ix2 0 i) = at2 (args m c).qg 0 i := by
  obtain ⟨_, _, e, _⟩ := index_facts t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 1 + 1 * 0 = 0 % 1; omega
  | ⟨1, _⟩ => show win0_2.index t (1 : Fin 2) * 384 + 1 * i.val = i.val % 384; omega

theorem iblk3 (i : Fin 256) : (iblk m c 3 t : Vec Ideal S1x256 .f32) (ix2 0 i) = at2 (args m c).kvg 0 i := by
  obtain ⟨_, _, _, e, _⟩ := index_facts t
  show V m c main_arg4 (((cfg0.win 3).blk t).view.emb _) = _
  rw [V_main_arg4]
  refine congrArg (m ((c : Thread nD τ).loc main_arg4)) (funext fun a => Fin.ext ?_)
  match a with
  | ⟨0, _⟩ => show win0_3.index t (0 : Fin 2) * 1 + 1 * 0 = 0 % 1; omega
  | ⟨1, _⟩ => show win0_3.index t (1 : Fin 2) * 256 + 1 * i.val = i.val % 256; omega

theorem iblk4 (k : Fin 384) (b : Fin 1536) : (iblk m c 4 t : Vec Ideal S384x1536 .bf16) (ix2 k b) = qcol (args m c).uq k b := by
  obtain ⟨_, _, _, _, e, _⟩ := index_facts t
  rw [← wuq_apply]
  show V m c main_v17 (((cfg0.win 4).blk t).view.emb _) = _
  refine congrArg (V m c main_v17) (funext fun a => Fin.ext ?_)
  match a with
  | ⟨0, _⟩ => show win0_4.index t (0 : Fin 2) * 384 + 1 * k.val = k.val; omega
  | ⟨1, _⟩ => show win0_4.index t (1 : Fin 2) * 1536 + 1 * b.val = b.val; omega

theorem iblk5 (l : Fin 128) : (iblk m c 5 t : Vec Ideal S8x128 .f32) (ix2 0 l) = at2 (args m c).cs 0 l := by
  obtain ⟨_, _, _, _, _, e, _⟩ := index_facts t
  show V m c main_arg5 (((cfg0.win 5).blk t).view.emb _) = _
  rw [V_main_arg5]
  refine congrArg (m ((c : Thread nD τ).loc main_arg5)) (funext fun a => Fin.ext ?_)
  match a with
  | ⟨0, _⟩ => show win0_5.index t (0 : Fin 2) * 8 + 1 * 0 = 0 % 8; omega
  | ⟨1, _⟩ => show win0_5.index t (1 : Fin 2) * 128 + 1 * l.val = l.val % 128; omega

theorem iblk6 (l : Fin 128) : (iblk m c 6 t : Vec Ideal S8x128 .f32) (ix2 0 l) = at2 (args m c).sn 0 l := by
  obtain ⟨_, _, _, _, _, _, e, _⟩ := index_facts t
  show V m c main_arg6 (((cfg0.win 6).blk t).view.emb _) = _
  rw [V_main_arg6]
  refine congrArg (m ((c : Thread nD τ).loc main_arg6)) (funext fun a => Fin.ext ?_)
  match a with
  | ⟨0, _⟩ => show win0_6.index t (0 : Fin 2) * 8 + 1 * 0 = 0 % 8; omega
  | ⟨1, _⟩ => show win0_6.index t (1 : Fin 2) * 128 + 1 * l.val = l.val % 128; omega

/-- A product with the prepared input weights: a column of the argument's, or zero. -/
theorem bh_eq (r : Fin 128) (b : Fin 3840) : bh (iblk m c 0 t) (iblk m c 1 t) r b
    = if b.val < 640 then hid (args m c) r b else if b.val < 3712 then hid (args m c) r (b + 32)
      else if b.val < 3776 then hid (args m c) r (640 + (b - 3712) % 32) else 0 := by
  unfold bh hid
  simp only [iblk0, iblk1, wcol]
  split
  · rfl
  split
  · rfl
  split
  · rfl
  · simp only [mul_zero, Finset.sum_const_zero]

theorem bq_eq (r : Fin 128) (j : Fin 384) : bq (iblk m c 0 t) (iblk m c 1 t) (iblk m c 2 t) r j = cq (args m c) r j := by
  unfold bq cq
  refine congrFun (congr (congrArg _ (funext fun i => ?_)) (funext fun i => ?_)) j
  · rw [bh_eq, if_pos (show i.val < 640 by omega)]
  · exact iblk2 m c t i

theorem bkv_eq (r : Fin 128) (j : Fin 256) : bkv (iblk m c 0 t) (iblk m c 1 t) (iblk m c 3 t) r j = ckv (args m c) r j := by
  unfold bkv ckv
  refine congrFun (congr (congrArg _ (funext fun i => ?_)) (funext fun i => ?_)) j
  · rw [bh_eq, if_pos (show 384 + i.val < 640 by omega)]
  · exact iblk3 m c t i

/-- The kernel's rotary columns: each head's 32 columns of the queries. -/
theorem bqa_eq (r : Fin 128) (i : ℕ) (hi : i < 512) : bqa (iblk m c 0 t) (iblk m c 1 t) (iblk m c 2 t) (iblk m c 4 t) r i
    = q (args m c) r (96 * (i / 32) + 64 + i % 32) := by
  unfold bqa q
  have hb : (1024 + i) % 1536 = 1024 + i := by omega
  simp only [iblk4, bq_eq, qcol, Fin.val_ofNat, hb]
  simp only [if_neg (show ¬1024 + i < 1024 by omega), Nat.add_sub_cancel_left]

theorem qr_apply (r : Fin 128) (g : Fin 4) (l : Fin 128) :
    (bqa (iblk m c 0 t) (iblk m c 1 t) (iblk m c 2 t) (iblk m c 4 t) r (128 * g + l) * (iblk m c 5 t : Vec Ideal S8x128 .f32) (ix2 0 l)
      + partner (fun i => bqa (iblk m c 0 t) (iblk m c 1 t) (iblk m c 2 t) (iblk m c 4 t) r (128 * g + i)) l
        * (iblk m c 6 t : Vec Ideal S8x128 .f32) (ix2 0 l)) * scale = qr (args m c) r (128 * g + l) := by
  have hl : l.val < 128 := l.isLt
  have hg : g.val < 4 := g.isLt
  have hp : partner (fun i => bqa (iblk m c 0 t) (iblk m c 1 t) (iblk m c 2 t) (iblk m c 4 t) r (128 * g + i)) l
      = q (args m c) r (96 * ((128 * g + l) / 32) + 64 + (l.val % 32 + 16) % 32) := by
    unfold partner
    split
    · beta_reduce
      rw [bqa_eq m c t r _ (by omega)]
      exact congrArg (q (args m c) r) (by omega)
    · beta_reduce
      rw [bqa_eq m c t r _ (by omega)]
      exact congrArg (q (args m c) r) (by omega)
  rw [hp, iblk5, iblk6, bqa_eq m c t r _ (by omega)]
  unfold qr turn
  rw [show (128 * g.val + l.val) % 128 = l.val by omega, show (128 * g.val + l.val) % 32 = l.val % 32 by omega]

theorem kr_apply (r : Fin 128) (l : Fin 32) :
    bh (iblk m c 0 t) (iblk m c 1 t) r ⟨3712 + l, by omega⟩ * (iblk m c 5 t : Vec Ideal S8x128 .f32) (ix2 0 ⟨l, by omega⟩)
      + bh (iblk m c 0 t) (iblk m c 1 t) r ⟨3712 + (l + 16) % 32, by omega⟩ * (iblk m c 6 t : Vec Ideal S8x128 .f32) (ix2 0 ⟨l, by omega⟩)
      = kr (args m c) r l := by
  have hl : l.val < 32 := l.isLt
  rw [bh_eq, bh_eq, iblk5, iblk6]
  dsimp only
  rw [if_neg (by omega), if_neg (by omega), if_pos (by omega), if_neg (by omega), if_neg (by omega), if_pos (by omega)]
  unfold kr turn
  rw [Nat.add_sub_cancel_left, Nat.add_sub_cancel_left, show (l.val + 16) % 32 % 32 = (l.val % 32 + 16) % 32 by omega]

/-- Result array 0 after the run. -/
theorem final7 : (dats m 0 c).arrAt 7 cfg0.N = (rows (qn (args m c)) : Vec Ideal S128x1024 .bf16) := by
  refine (dats m 0 c).arrAt_eq_of_covers 7 _ (by decide +kernel) fun t _ y => ?_
  obtain ⟨_, _, _, _, _, _, _, e, _⟩ := index_facts t
  have h : ∀ (r : Fin 128) (l : Fin 1024), out0_7 (iblk m c 0 t) (iblk m c 1 t) (iblk m c 2 t) (iblk m c 3 t) (iblk m c 4 t) (iblk m c 5 t) (iblk m c 6 t) (ix2 r l)
      = (qn (args m c)) r l := fun r l => by
    rw [out7_apply]
    unfold qn q
    simp only [bq_eq, iblk4, qcol, if_pos l.isLt]
  blk_simp
  rw [after0_7]
  obtain ⟨r, l, rfl⟩ : ∃ (r : Fin 128) (l : Fin 1024), y = ix2 r l := ⟨y 0, y 1, eq_ix2 y⟩
  rw [h]
  refine congr (congrArg _ ?_) ?_
  · show r.val = win0_7.index t (0 : Fin 2) * 128 + 1 * r.val; omega
  · show l.val = win0_7.index t (1 : Fin 2) * 1024 + 1 * l.val; omega

/-- Result array 1 after the run. -/
theorem final8 : (dats m 0 c).arrAt 8 cfg0.N = (rows (qr (args m c)) : Vec Ideal S128x512 .f32) := by
  refine (dats m 0 c).arrAt_eq_of_covers 8 _ (by decide +kernel) fun t _ y => ?_
  obtain ⟨_, _, _, _, _, _, _, _, e, _⟩ := index_facts t
  have h : ∀ (r : Fin 128) (l : Fin 512), out0_8 (iblk m c 0 t) (iblk m c 1 t) (iblk m c 2 t) (iblk m c 3 t) (iblk m c 4 t) (iblk m c 5 t) (iblk m c 6 t) (ix2 r l)
      = (qr (args m c)) r l := fun r l => by
    have e : l = ⟨128 * (⟨l.val / 128, by omega⟩ : Fin 4).val + (⟨l.val % 128, Nat.mod_lt _ (by norm_num)⟩ : Fin 128).val,
        show 128 * (l.val / 128) + l.val % 128 < 512 by omega⟩ := Fin.ext (show l.val = 128 * (l.val / 128) + l.val % 128 by omega)
    rw [e, out8_apply, qr_apply]
  blk_simp
  rw [after0_8]
  obtain ⟨r, l, rfl⟩ : ∃ (r : Fin 128) (l : Fin 512), y = ix2 r l := ⟨y 0, y 1, eq_ix2 y⟩
  rw [h]
  refine congr (congrArg _ ?_) ?_
  · show r.val = win0_8.index t (0 : Fin 2) * 128 + 1 * r.val; omega
  · show l.val = win0_8.index t (1 : Fin 2) * 512 + 1 * l.val; omega

/-- Result array 2 after the run. -/
theorem final9 : (dats m 0 c).arrAt 9 cfg0.N = (rows (fun t l => ckv (args m c) t (Fin.ofNat 256 l)) : Vec Ideal S128x256 .f32) := by
  refine (dats m 0 c).arrAt_eq_of_covers 9 _ (by decide +kernel) fun t _ y => ?_
  obtain ⟨_, _, _, _, _, _, _, _, _, e, _⟩ := index_facts t
  have h : ∀ (r : Fin 128) (l : Fin 256), out0_9 (iblk m c 0 t) (iblk m c 1 t) (iblk m c 2 t) (iblk m c 3 t) (iblk m c 4 t) (iblk m c 5 t) (iblk m c 6 t) (ix2 r l)
      = (fun t l => ckv (args m c) t (Fin.ofNat 256 l)) r l := fun r l => by
    rw [out9_apply, bkv_eq]
    exact congrArg _ (Fin.ext (Nat.mod_eq_of_lt l.isLt).symm)
  blk_simp
  rw [after0_9]
  obtain ⟨r, l, rfl⟩ : ∃ (r : Fin 128) (l : Fin 256), y = ix2 r l := ⟨y 0, y 1, eq_ix2 y⟩
  rw [h]
  refine congr (congrArg _ ?_) ?_
  · show r.val = win0_9.index t (0 : Fin 2) * 128 + 1 * r.val; omega
  · refine congrArg (Fin.ofNat 256) ?_
    show l.val = win0_9.index t (1 : Fin 2) * 256 + 1 * l.val; omega

/-- Result array 3 after the run. -/
theorem final10 : (dats m 0 c).arrAt 10 cfg0.N = (rows (kr (args m c)) : Vec Ideal S128x32 .f32) := by
  refine (dats m 0 c).arrAt_eq_of_covers 10 _ (by decide +kernel) fun t _ y => ?_
  obtain ⟨_, _, _, _, _, _, _, _, _, _, e, _⟩ := index_facts t
  have h : ∀ (r : Fin 128) (l : Fin 32), out0_10 (iblk m c 0 t) (iblk m c 1 t) (iblk m c 2 t) (iblk m c 3 t) (iblk m c 4 t) (iblk m c 5 t) (iblk m c 6 t) (ix2 r l)
      = (kr (args m c)) r l := fun r l => by
    rw [out10_apply]
    exact kr_apply m c t r l
  blk_simp
  rw [after0_10]
  obtain ⟨r, l, rfl⟩ : ∃ (r : Fin 128) (l : Fin 32), y = ix2 r l := ⟨y 0, y 1, eq_ix2 y⟩
  rw [h]
  refine congr (congrArg _ ?_) ?_
  · show r.val = win0_10.index t (0 : Fin 2) * 128 + 1 * r.val; omega
  · show l.val = win0_10.index t (1 : Fin 2) * 32 + 1 * l.val; omega

/-- Result array 4 after the run. -/
theorem final11 : (dats m 0 c).arrAt 11 cfg0.N = (rows (u (args m c)) : Vec Ideal S128x512 .f32) := by
  refine (dats m 0 c).arrAt_eq_of_covers 11 _ (by decide +kernel) fun t _ y => ?_
  obtain ⟨_, _, _, _, _, _, _, _, _, _, _, e, _⟩ := index_facts t
  have h : ∀ (r : Fin 128) (l : Fin 512), out0_11 (iblk m c 0 t) (iblk m c 1 t) (iblk m c 2 t) (iblk m c 3 t) (iblk m c 4 t) (iblk m c 5 t) (iblk m c 6 t) (ix2 r l)
      = (u (args m c)) r l := fun r l => by
    rw [out11_apply, bh_eq, bh_eq]
    dsimp only
    rw [if_neg (by omega), if_pos (by omega), if_neg (by omega), if_pos (by omega)]
    unfold u
    rw [show 640 + l.val + 32 = 672 + l.val by omega, show 1152 + l.val + 32 = 1184 + l.val by omega]
  blk_simp
  rw [after0_11]
  obtain ⟨r, l, rfl⟩ : ∃ (r : Fin 128) (l : Fin 512), y = ix2 r l := ⟨y 0, y 1, eq_ix2 y⟩
  rw [h]
  refine congr (congrArg _ ?_) ?_
  · show r.val = win0_11.index t (0 : Fin 2) * 128 + 1 * r.val; omega
  · show l.val = win0_11.index t (1 : Fin 2) * 512 + 1 * l.val; omega

/-- Result array 5 after the run. -/
theorem final12 : (dats m 0 c).arrAt 12 cfg0.N = (rows (ga (args m c)) : Vec Ideal S128x1024 .bf16) := by
  refine (dats m 0 c).arrAt_eq_of_covers 12 _ (by decide +kernel) fun t _ y => ?_
  obtain ⟨_, _, _, _, _, _, _, _, _, _, _, _, e, _⟩ := index_facts t
  have h : ∀ (r : Fin 128) (l : Fin 1024), out0_12 (iblk m c 0 t) (iblk m c 1 t) (iblk m c 2 t) (iblk m c 3 t) (iblk m c 4 t) (iblk m c 5 t) (iblk m c 6 t) (ix2 r l)
      = (ga (args m c)) r l := fun r l => by
    rw [out12_apply, bh_eq]
    dsimp only
    rw [if_neg (by omega), if_pos (by omega)]
    unfold ga
    rw [show 1664 + l.val + 32 = 1696 + l.val by omega]
  blk_simp
  rw [after0_12]
  obtain ⟨r, l, rfl⟩ : ∃ (r : Fin 128) (l : Fin 1024), y = ix2 r l := ⟨y 0, y 1, eq_ix2 y⟩
  rw [h]
  refine congr (congrArg _ ?_) ?_
  · show r.val = win0_12.index t (0 : Fin 2) * 128 + 1 * r.val; omega
  · show l.val = win0_12.index t (1 : Fin 2) * 1024 + 1 * l.val; omega

/-- Result array 6 after the run. -/
theorem final13 : (dats m 0 c).arrAt 13 cfg0.N = (rows (gb (args m c)) : Vec Ideal S128x1024 .bf16) := by
  refine (dats m 0 c).arrAt_eq_of_covers 13 _ (by decide +kernel) fun t _ y => ?_
  obtain ⟨_, _, _, _, _, _, _, _, _, _, _, _, _, e⟩ := index_facts t
  have h : ∀ (r : Fin 128) (l : Fin 1024), out0_13 (iblk m c 0 t) (iblk m c 1 t) (iblk m c 2 t) (iblk m c 3 t) (iblk m c 4 t) (iblk m c 5 t) (iblk m c 6 t) (ix2 r l)
      = (gb (args m c)) r l := fun r l => by
    rw [out13_apply, bh_eq]
    dsimp only
    rw [if_neg (by omega), if_pos (by omega)]
    unfold gb
    rw [show 2688 + l.val + 32 = 2720 + l.val by omega]
  blk_simp
  rw [after0_13]
  obtain ⟨r, l, rfl⟩ : ∃ (r : Fin 128) (l : Fin 1024), y = ix2 r l := ⟨y 0, y 1, eq_ix2 y⟩
  rw [h]
  refine congr (congrArg _ ?_) ?_
  · show r.val = win0_13.index t (0 : Fin 2) * 128 + 1 * r.val; omega
  · show l.val = win0_13.index t (1 : Fin 2) * 1024 + 1 * l.val; omega

end Cert.Kernel3Ideal.Samp

end
-- ==== Proof.SampTail.lean ====
/- The sample's projection from its launch to its end: what the next step's convolution reads, which the host joins from the state
   and from one of the arrays that the body writes. -/
module

public import proofs.«01_k».proof.Proof.SampArray

@[expose] public section

set_option maxRecDepth 8192

noncomputable section

namespace Cert.Kernel3Ideal.Samp

open Idealize.ShloMosaic Idealize.ShloMosaic.TcCoe Idealize.SL.Sem Cert.Kernel3Ideal Cert.Kernel3Ideal.Gen Cert.SampSpec
open Cert.ProjSpec (at3 at3_of)

variable (m : (ℓ : Loc nD τ sig) → Buf (Elt Ideal) ℓ) (ρ : Dev nD → PrngReg) (c : Dev nD)

/-- The state before the step. -/
def state : FVec Ideal S128x30x512 .f32 := m ((c : Thread nD τ).loc main_arg7)

/-- The host's join: the state without its oldest row, then the token's row. -/
theorem join_apply (s : FVec Ideal S128x30x512 .f32) (U : FVec Ideal S128x512 .f32) (t : Fin 128) (k : Fin 30) (l : Fin 512) :
    extractStridedSlice S128x30x512 ![0, 1, 0] (concatenate S128x31x512 1 [⟨S128x30x512, s⟩,
        ⟨S128x1x512, broadcastInDim S128x1x512 ![0, 2] bcast_S128x512_S128x1x512_0_2 U⟩] concatenates_S128x30x512_S128x1x512_S128x31x512_d1)
        slices_S128x31x512_S128x30x512_0_1_0 (ix3 t k l)
      = if k.val < 29 then at3 s t (k.val + 1) l else U (ix2 t l) := by
  pointwise []
  by_cases h : k.val < 29
  · rw [dif_pos (by omega), if_pos h]
    exact at3_of s _ _ _ rfl (by dsimp only; omega) rfl
  · rw [dif_neg (by omega), if_neg h]

/-- After the host's last lines the joined array has what the next step reads. -/
theorem tail_join : Pipeline.afterTail₀ cfgs (dats m) 0 (V0 m) [hostOps1] c main_v21 = (left (args m c) (state m c) : Vec Ideal S128x30x512 .f32) := by
  have e : Pipeline.afterTail₀ cfgs (dats m) 0 (V0 m) [hostOps1] c main_v21 = (extractStridedSlice S128x30x512 ![0, 1, 0]
      (concatenate S128x31x512 1 [⟨S128x30x512, state m c⟩,
        ⟨S128x1x512, broadcastInDim S128x1x512 ![0, 2] bcast_S128x512_S128x1x512_0_2 ((dats m 0 c).arrAt 11 cfg0.N : FVec Ideal S128x512 .f32)⟩]
        concatenates_S128x30x512_S128x1x512_S128x31x512_d1)
      slices_S128x31x512_S128x30x512_0_1_0 : Vec Ideal S128x30x512 .f32) := by
    have ha : Pipeline.withArrays (cfgs 0).spec c (V0 m c) (fun w => (dats m 0 c).arrAt w (cfgs 0).N) (Proc.devRef .tc main_v18_4) = (dats m 0 c).arrAt 11 cfg0.N :=
      Pipeline.withArrays_arr (cfgs 0).spec launch0.win.arr_inj c (V0 m c) (fun w => (dats m 0 c).arrAt w (cfgs 0).N) 11
    unfold Pipeline.afterTail₀
    simp only [hostOps1, List.flatten_cons, List.flatten_nil, List.append_nil]
    after_results
    rw [ha, Pipeline.withArrays_of_ne _ c (V0 m c) _ main_arg7 (by decide)]
    unfold state
    rw [← V_main_arg7 m c]
  rw [e, final11]
  refine funext fun y => ?_
  obtain ⟨t, k, l, rfl⟩ : ∃ (t : Fin 128) (k : Fin 30) (l : Fin 512), y = ix3 t k l := ⟨y 0, y 1, y 2, eq_ix3 y⟩
  exact join_apply _ _ t k l

end Cert.Kernel3Ideal.Samp

end
-- ==== Proof.SampRef.lean ====
/- The sample's reference at an index, as the plain sums. -/
module

public import proofs.«01_k».proof.Proof.SampSpec
public import proofs.«01_k».proof.Proof.Gen.Reference3Ideal.Read
public import Idealize.ShloMosaic.Lib.Tactic.CleanTypes

@[expose] public section

set_option maxRecDepth 16384

noncomputable section

namespace Cert.Reference3Ideal.Samp

open Idealize.ShloMosaic Cert.Reference3Ideal Cert.Reference3Ideal.Gen Cert.Reference3Ideal.Read Cert.SampSpec
open Cert.ProjSpec (at2 at2_of at3 at3_of)

variable (I : In)

theorem hid_apply (t : Fin 128) (b : Fin 3744) {b' : ℕ} (hb : b.val = b') : val_main_v0 (F := Ideal) I.x I.w (ix2 t b) = hid I t b' := by
  subst hb
  unfold hid
  pointwise [val_main_v0]
  exact Finset.sum_congr rfl fun k _ => congr (congrArg _ (at2_of I.x _ _ rfl rfl)) (at2_of I.w _ _ rfl rfl)

theorem cq_apply (t : Fin 128) (j : Fin 384) : val_main_v25 (F := Ideal) I.x I.w I.qg (ix2 t j) = cq I t j := by
  pointwise [val_main_v25, val_main_v24, val_main_v23, val_main_v22, val_main_v21, val_main_v20, val_main_v19, val_main_cst_1, val_main_v18, val_main_v17, val_main_cst_0, val_main_v16, val_main_v15, val_main_cst, val_main_v14, val_main_v1]
  simp only [hid_apply I t _ rfl]
  exact congrArg₂ (fun a b : EReal => a * b) rfl (at2_of I.qg 0 j rfl rfl)

theorem ckv_apply (t : Fin 128) (j : Fin 256) : val_main_v49 (F := Ideal) I.x I.w I.kvg (ix2 t j) = ckv I t j := by
  pointwise [val_main_v49, val_main_v48, val_main_v47, val_main_v46, val_main_v45, val_main_v44, val_main_v43, val_main_cst_4, val_main_v42, val_main_v41, val_main_cst_3, val_main_v40, val_main_v39, val_main_cst_2, val_main_v38, val_main_v2]
  simp only [hid_apply I t _ rfl]
  exact congrArg₂ (fun a b : EReal => a * b) rfl (at2_of I.kvg 0 j rfl rfl)

theorem q_apply (t : Fin 128) (b : Fin 1536) {b' : ℕ} (hb : b.val = b') : val_main_v26 (F := Ideal) I.x I.w I.qg I.uq (ix2 t b) = q I t b' := by
  subst hb
  unfold q
  pointwise [val_main_v26]
  exact Finset.sum_congr rfl fun k _ => congr (congrArg _ (cq_apply I _ _)) (at2_of I.uq _ _ rfl rfl)

theorem qn_apply (t : Fin 128) (l : Fin 1024) : val_main_v70 (F := Ideal) I.x I.w I.qg I.uq (ix2 t l) = qn I t l := by
  unfold qn scale
  pointwise [val_main_v70, val_main_v69, val_main_v68, val_main_v67, val_main_cst_7, val_main_v28, val_main_v27]
  refine congrArg₂ (fun a b : EReal => a * b) ?_ rfl
  exact q_apply I _ _ (by dsimp only; omega)

/-- The turned rotary part of the queries, at its four coordinates. -/
theorem qturn_apply (t : Fin 128) (g e : Fin 4) (o : Fin 32) :
    val_main_v72 (F := Ideal) I.x I.w I.qg I.uq I.cs I.sn (ix4 t g e o)
      = turn I (fun o => q I t (96 * (4 * g + e) + 64 + o)) (32 * e + o) * scale := by
  unfold turn scale
  pointwise [val_main_v72, val_main_v71, val_main_cst_8, val_main_v37, val_main_v36, val_main_v35, val_main_v34, val_main_v33, val_main_v32, val_main_v31, val_main_v30, val_main_v29, val_main_v27, val_main_v13, val_main_v12, val_main_v11, val_main_v10, val_main_v9, val_main_v8]
  refine congrArg₂ (fun a b : EReal => a * b) (congrArg₂ (fun a b : EReal => a + b) (congrArg₂ (fun a b : EReal => a * b) ?_ ?_)
    (congrArg₂ (fun a b : EReal => a * b) ?_ ?_)) rfl
  · exact q_apply I t _ (by dsimp only; omega)
  · exact at2_of I.cs _ _ rfl (by dsimp only; omega)
  · split
    · exact q_apply I t _ (by dsimp only; omega)
    · exact q_apply I t _ (by dsimp only; omega)
  · exact at2_of I.sn _ _ rfl (by dsimp only; omega)

theorem qr_apply (t : Fin 128) (l : Fin 512) : val_main_v73 (F := Ideal) I.x I.w I.qg I.uq I.cs I.sn (ix2 t l) = qr I t l := by
  unfold qr
  pointwise [val_main_v73]
  refine (qturn_apply I _ _ _ _).trans ?_
  dsimp only
  rw [show 4 * (l.val / 128) + l.val / 32 % 4 = l.val / 32 by omega, show 32 * (l.val / 32 % 4) + l.val % 32 = l.val % 128 by omega]

theorem kr_apply (t : Fin 128) (l : Fin 32) : val_main_v59 (F := Ideal) I.x I.w I.cs I.sn (ix2 t l) = kr I t l := by
  unfold kr turn
  pointwise [val_main_v59, val_main_v58, val_main_v57, val_main_v56, val_main_v55, val_main_v54, val_main_v53, val_main_v52, val_main_v51, val_main_v50, val_main_v3]
  refine congrArg₂ (fun a b : EReal => a + b) (congrArg₂ (fun a b : EReal => a * b) ?_ ?_) (congrArg₂ (fun a b : EReal => a * b) ?_ ?_)
  · exact hid_apply I t _ (by dsimp only; omega)
  · exact at2_of I.cs _ _ rfl rfl
  · split
    · exact hid_apply I t _ (by dsimp only; omega)
    · exact hid_apply I t _ (by dsimp only; omega)
  · exact at2_of I.sn _ _ rfl rfl

theorem u_apply (t : Fin 128) (l : Fin 512) : val_main_v66 (F := Ideal) I.x I.w (ix2 t l) = u I t l := by
  unfold u Ideal.logistic
  pointwise [val_main_v66, val_main_v65, val_main_v64, val_main_cst_6, val_main_v63, val_main_v62, val_main_cst_5, val_main_v61, val_main_v60, val_main_v5, val_main_v4]
  rw [hid_apply I t _ rfl, hid_apply I t _ rfl]

theorem ga_apply (t : Fin 128) (l : Fin 1024) : val_main_v80 (F := Ideal) I.x I.w (ix2 t l) = ga I t l := by
  unfold ga Ideal.logistic
  pointwise [val_main_v80, val_main_v79, val_main_v78, val_main_cst_10, val_main_v77, val_main_v76, val_main_cst_9, val_main_v75, val_main_v74, val_main_v6]
  rw [hid_apply I t _ rfl]

theorem gb_apply (t : Fin 128) (l : Fin 1024) : val_main_v87 (F := Ideal) I.x I.w (ix2 t l) = gb I t l := by
  unfold gb Ideal.logistic
  pointwise [val_main_v87, val_main_v86, val_main_v85, val_main_cst_12, val_main_v84, val_main_v83, val_main_cst_11, val_main_v82, val_main_v81, val_main_v7]
  rw [hid_apply I t _ rfl]

/-- An array is given by its rows. -/
theorem rows_of {n : ℕ} (A : (⟨2, ![128, n]⟩ : Shape).Idx → EReal) (f : ℕ → ℕ → EReal) (h : ∀ (t : Fin 128) (l : Fin n), A (ix2 t l) = f t l) :
    A = rows f := by
  refine funext fun y => ?_
  obtain ⟨t, l, rfl⟩ : ∃ (t : Fin 128) (l : Fin n), y = ix2 t l := ⟨y 0, y 1, eq_ix2 y⟩
  exact h t l

theorem qn_rows : val_main_v70 (F := Ideal) I.x I.w I.qg I.uq = rows (qn I) := rows_of _ _ (qn_apply I)

theorem qr_rows : val_main_v73 (F := Ideal) I.x I.w I.qg I.uq I.cs I.sn = rows (qr I) := rows_of _ _ (qr_apply I)

theorem ckv_rows : val_main_v49 (F := Ideal) I.x I.w I.kvg = rows (fun t l => ckv I t (Fin.ofNat 256 l)) :=
  rows_of _ _ fun t l => (ckv_apply I t l).trans (congrArg (ckv I t) (Fin.ext (Nat.mod_eq_of_lt l.isLt).symm))

theorem kr_rows : val_main_v59 (F := Ideal) I.x I.w I.cs I.sn = rows (kr I) := rows_of _ _ (kr_apply I)

theorem u_rows : val_main_v66 (F := Ideal) I.x I.w = rows (u I) := rows_of _ _ (u_apply I)

theorem ga_rows : val_main_v80 (F := Ideal) I.x I.w = rows (ga I) := rows_of _ _ (ga_apply I)

theorem gb_rows : val_main_v87 (F := Ideal) I.x I.w = rows (gb I) := rows_of _ _ (gb_apply I)

/-- The state's rows but its oldest, then the token's. -/
theorem left_rows (s : FVec Ideal (⟨3, ![128, 30, 512]⟩ : Shape) .f32) : val_main_v90 (F := Ideal) I.x I.w s = left I s := by
  refine funext fun y => ?_
  obtain ⟨t, k, l, rfl⟩ : ∃ (t : Fin 128) (k : Fin 30) (l : Fin 512), y = ix3 t k l := ⟨y 0, y 1, y 2, eq_ix3 y⟩
  show _ = if k.val < 29 then at3 s t (k.val + 1) l else u I t l
  pointwise [val_main_v90, val_main_v89, val_main_v88]
  by_cases h : k.val < 29
  · rw [dif_pos (by omega), if_pos h]
    exact at3_of s _ _ _ rfl (by dsimp only; omega) rfl
  · rw [dif_neg (by omega), if_neg h]
    exact u_apply I _ _

end Cert.Reference3Ideal.Samp

end
-- ==== Proof.Sample.lean ====
/- The claims about the sample's input projection: the frames and the value. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.SampTail
public import proofs.«01_k».proof.Proof.SampRef
public import Idealize.ShloMosaic.Lib.Quiescent

@[expose] public section

set_option maxRecDepth 8192

noncomputable section

namespace Cert.Proof.Sample

open Idealize.ShloMosaic Idealize.SL.Sem Cert.SampSpec

/-- The kernel runs to its end and keeps its arguments. -/
theorem kernel_frame : Cert.quiescent_Kernel3 (hKernel3 := Cert.Kernel3.Gen.facts) := fun m ρ _ => Cert.Kernel3.Gen.frame m ρ

/-- So does the kernel over the extended reals. -/
theorem ideal_frame : Cert.quiescent_Kernel3Ideal (hKernel3Ideal := Cert.Kernel3Ideal.Gen.facts) := fun m ρ _ => Cert.Kernel3Ideal.Gen.frame m ρ

/-- And so does the reference. -/
theorem reference_frame : Cert.quiescent_Reference3Ideal (hReference3Ideal := Cert.Reference3Ideal.Gen.facts) := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- The reference's argument arrays. -/
def rargs (m : (ℓ : Loc Cert.Reference3Ideal.nD Cert.Reference3Ideal.τ Cert.Reference3Ideal.sig) → Buf (Elt Ideal) ℓ) (c : Dev Cert.Reference3Ideal.nD) : In :=
  ⟨m ((c.tc : Thread Cert.Reference3Ideal.nD Cert.Reference3Ideal.τ).loc Cert.Reference3Ideal.main_arg0),
      m ((c.tc : Thread Cert.Reference3Ideal.nD Cert.Reference3Ideal.τ).loc Cert.Reference3Ideal.main_arg1),
      m ((c.tc : Thread Cert.Reference3Ideal.nD Cert.Reference3Ideal.τ).loc Cert.Reference3Ideal.main_arg2),
      m ((c.tc : Thread Cert.Reference3Ideal.nD Cert.Reference3Ideal.τ).loc Cert.Reference3Ideal.main_arg3),
      m ((c.tc : Thread Cert.Reference3Ideal.nD Cert.Reference3Ideal.τ).loc Cert.Reference3Ideal.main_arg4),
      m ((c.tc : Thread Cert.Reference3Ideal.nD Cert.Reference3Ideal.τ).loc Cert.Reference3Ideal.main_arg5),
      m ((c.tc : Thread Cert.Reference3Ideal.nD Cert.Reference3Ideal.τ).loc Cert.Reference3Ideal.main_arg6)⟩

/-- The kernel and the reference end with the same eight arrays. -/
theorem value : Cert.algebraic_Kernel3Ideal_Reference3Ideal (hKernel3Ideal := Cert.Kernel3Ideal.Gen.facts)
    (hReference3Ideal := Cert.Reference3Ideal.Gen.facts) := by
  intro m ρ m' ρ' _ hagree
  have e : ∀ c, rargs m' c = Cert.Kernel3Ideal.Samp.args m c := fun c => by
    obtain ⟨h0, h1, h2, h3, h4, h5, h6, -⟩ := hagree c
    unfold rargs Cert.Kernel3Ideal.Samp.args
    rw [h0, h1, h2, h3, h4, h5, h6]
  have es : ∀ c : Dev Cert.Reference3Ideal.nD, m' ((c.tc : Thread Cert.Reference3Ideal.nD Cert.Reference3Ideal.τ).loc Cert.Reference3Ideal.main_arg7)
      = Cert.Kernel3Ideal.Samp.state m c := fun c => (hagree c).2.2.2.2.2.2.2
  refine ⟨fun c => rows (qn (Cert.Kernel3Ideal.Samp.args m c)),
      fun c => rows (qr (Cert.Kernel3Ideal.Samp.args m c)),
      fun c => rows (fun t l => ckv (Cert.Kernel3Ideal.Samp.args m c) t (Fin.ofNat 256 l)),
      fun c => rows (kr (Cert.Kernel3Ideal.Samp.args m c)),
      fun c => rows (u (Cert.Kernel3Ideal.Samp.args m c)),
      fun c => rows (ga (Cert.Kernel3Ideal.Samp.args m c)),
      fun c => rows (gb (Cert.Kernel3Ideal.Samp.args m c)),
      fun c => left (Cert.Kernel3Ideal.Samp.args m c) (Cert.Kernel3Ideal.Samp.state m c), ?_, ?_⟩
  · refine (θ_run Cert.Kernel3Ideal.defs _ _).mono (fun _ h c => ?_)
      (θ_run_and (Cert.Kernel3Ideal.Gen.run_main (F := Ideal) m ρ) (Cert.Kernel3Ideal.Gen.unchanged (F := Ideal) m ρ))
    obtain ⟨ha, hr⟩ := h.1 c
    exact ⟨(ha 7).trans (Cert.Kernel3Ideal.Samp.final7 m c),
      (ha 8).trans (Cert.Kernel3Ideal.Samp.final8 m c),
      (ha 9).trans (Cert.Kernel3Ideal.Samp.final9 m c),
      (ha 10).trans (Cert.Kernel3Ideal.Samp.final10 m c),
      (ha 11).trans (Cert.Kernel3Ideal.Samp.final11 m c),
      (ha 12).trans (Cert.Kernel3Ideal.Samp.final12 m c),
      (ha 13).trans (Cert.Kernel3Ideal.Samp.final13 m c),
      (hr Cert.Kernel3Ideal.main_v21 (Pipeline.mem_restRefs_of Cert.Kernel3Ideal.main_v21 (by decide) (by decide))).trans
        (Cert.Kernel3Ideal.Samp.tail_join m c), h.2 c⟩
  · refine (θ_run Cert.Reference3Ideal.defs _ _).mono (fun _ h c => ?_) (Cert.Reference3Ideal.Value.run (F := Ideal) m' ρ')
    obtain ⟨h0, h1, h2, h3, h4, h5, h6, h7, hk⟩ := h c
    beta_reduce
    rw [← e c, ← es c]
    exact ⟨h0.trans (Cert.Reference3Ideal.Samp.qn_rows (rargs m' c)),
      h1.trans ((Cert.Reference3Ideal.Read.val_main_v73_eq _ _).trans (Cert.Reference3Ideal.Samp.qr_rows (rargs m' c))),
      h2.trans (Cert.Reference3Ideal.Samp.ckv_rows (rargs m' c)),
      h3.trans (Cert.Reference3Ideal.Samp.kr_rows (rargs m' c)),
      h4.trans (Cert.Reference3Ideal.Samp.u_rows (rargs m' c)),
      h5.trans (Cert.Reference3Ideal.Samp.ga_rows (rargs m' c)),
      h6.trans (Cert.Reference3Ideal.Samp.gb_rows (rargs m' c)),
      h7.trans (Cert.Reference3Ideal.Samp.left_rows (rargs m' c) _), hk⟩

end Cert.Proof.Sample

end
-- ==== Proof.TabSpec.lean ====
/- The tables of angles as functions of a position and a lane: the frequencies, the cosines, the sines with their signs. -/
module

public import Idealize.ShloMosaic.Lib.Pointwise
public import Idealize.ShloMosaic.Lib.Routing.OpsSet

@[expose] public section

noncomputable section

namespace Cert.TabSpec

open Idealize.ShloMosaic

/-- Frequency `k` of the sixteen: one over the base to the power `k / 16`. -/
def freq (k : ℕ) : EReal :=
  Ideal.div (Ideal.ofBits .f32 0x3F800000#32)
    (Ideal.pow (Ideal.ofBits .f32 0x461C4000#32) (Ideal.div ((k : ℝ) : EReal) (Ideal.ofBits .f32 0x41800000#32)))

/-- The angle of lane `l` at position `p`. -/
def ang (p l : ℕ) : EReal := ((p : ℝ) : EReal) * freq (l % 16)

/-- Its sine, negative in the first half of each 32 lanes. -/
def turned (p l : ℕ) : EReal := if l % 32 < 16 then -Ideal.sin (ang p l) else Ideal.sin (ang p l)

/-- Cosines for a head pair: two vectors of 32 lanes, then zeros. -/
def pairCos (p l : ℕ) : EReal := if l < 64 then Ideal.cos (ang p l) else 0

/-- Sines for a head pair: two vectors of 32 lanes, then zeros. -/
def pairSin (p l : ℕ) : EReal := if l < 64 then turned p l else 0

theorem ang_congr (p : ℕ) {l l' : ℕ} (h : l % 16 = l' % 16) : ang p l = ang p l' := by
  unfold ang
  rw [h]

theorem one_word : Ideal.ofBits .f32 0x3F800000#32 = 1 := by
  simp [Ideal.ofBits, Ideal.ieee, -EReal.coe_mul]
  norm_num

theorem minus_word : Ideal.ofBits .f32 0xBF800000#32 = -1 := by
  simp [Ideal.ofBits, Ideal.ieee, -EReal.coe_mul]
  norm_num

theorem zero_word : Ideal.ofBits .f32 0x00000000#32 = 0 := by simp [Ideal.ofBits, Ideal.ieee]

theorem minus_zero_word : Ideal.ofBits .f32 0x80000000#32 = 0 := by simp [Ideal.ofBits, Ideal.ieee]

/-- A small number's word, made a float, is the number. -/
theorem float_word (n : ℕ) (h : n < 2 ^ 31) : FloatOps.sitofp (F := Ideal) .f32 (BitVec.ofNat 32 n) = ((n : ℝ) : EReal) := by
  show (((BitVec.ofNat 32 n).toInt : ℝ) : EReal) = _
  rw [StableHlo.Predicate.toInt_ofNat_small _ h]
  norm_cast

end Cert.TabSpec

end
-- ==== Proof.TabPair.lean ====
/- The kernel of the prompt's tables: its result arrays. -/
module

public import proofs.«01_k».proof.Proof.Gen.Kernel4Ideal.Value
public import proofs.«01_k».proof.Proof.TabSpec
public import Idealize.ShloMosaic.Lib.Pipeline.ValueKit.Geometry
public import Idealize.ShloMosaic.Lib.Tactic.CleanTypes

@[expose] public section

set_option maxRecDepth 8192

noncomputable section

namespace Cert.Kernel4Ideal.Tab

open Idealize.ShloMosaic Idealize.ShloMosaic.TcCoe Cert.Kernel4Ideal Cert.Kernel4Ideal.Gen Cert.TabSpec

theorem origin : (![0, 0] : Fin 2 → ℕ) = fun _ => 0 := by decide

/-- The lanes' frequencies, by number. -/
theorem lane_number : ∀ l : Fin 128, lit0 (S128.rowMajor (ix1 l)) = BitVec.ofNat 32 (l.val % 16) := by decide +kernel

/-- The lanes in use: the first 64. -/
theorem lane_used : ∀ l : Fin 128, lit1 (S128.rowMajor (ix1 l)) = if l.val < 64 then 0x3F800000#32 else 0x00000000#32 := by decide +kernel

/-- The lanes' signs. -/
theorem lane_sign : ∀ l : Fin 128, lit2 (S128.rowMajor (ix1 l))
    = if l.val < 64 then if l.val % 32 < 16 then 0xBF800000#32 else 0x3F800000#32
      else if l.val % 32 < 16 then 0x80000000#32 else 0x00000000#32 := by decide +kernel

variable (m : (ℓ : Loc nD τ sig) → Buf (Elt Ideal) ℓ) (c : Dev nD) (t : Fin cfg0.N)

/-- The frequencies by lane, zero past the first 64. -/
theorem inv_apply (l : Fin 128) : (V m c main_v13 : FVec Ideal S1x128 .f32) (ix2 0 l) = if l.val < 64 then freq (l % 16) else (0 : EReal) := by
  unfold_abbrev_sides
  after_results
  pointwise
  refine (congrArg₂ (fun a b : EReal => a * b)
    (Routing.gather_take1 _ rfl rfl rfl rfl _ _ l ⟨l.val % 16, Nat.mod_lt _ (by norm_num)⟩ ?_ (by norm_num))
    (congrArg (Ideal.ofBits .f32) (lane_used l))).trans ?_
  · rw [eq_ix2 (ValueIdx.ix2 l (0 : Fin 1))]
    pointwise
    exact lane_number l
  · rw [show ValueIdx.ix1 (⟨l.val % 16, Nat.mod_lt _ (by norm_num)⟩ : Fin 16) = ix1 (⟨l.val % 16, Nat.mod_lt _ (by norm_num)⟩ : Fin 16) from eq_ix1 _]
    pointwise
    have hl : l.val % 16 < 2 ^ 31 := (Nat.mod_lt _ (by norm_num)).trans (by norm_num)
    rw [float_word _ hl, ← one_word]
    change freq (l.val % 16) * _ = _
    split
    · rw [one_word, mul_one]
    · rw [zero_word, mul_zero]

theorem sign_apply (l : Fin 128) : (V m c main_v14 : FVec Ideal S1x128 .f32) (ix2 0 l)
    = if l.val < 64 then if l.val % 32 < 16 then (-1 : EReal) else 1 else 0 := by
  unfold_abbrev_sides
  after_results
  pointwise
  rw [lane_sign]
  split <;> split
  · exact minus_word
  · exact one_word
  · exact minus_zero_word
  · exact zero_word

theorem used_apply (l : Fin 128) : (V m c main_v15 : FVec Ideal S1x128 .f32) (ix2 0 l) = if l.val < 64 then (1 : EReal) else 0 := by
  unfold_abbrev_sides
  after_results
  pointwise
  rw [lane_used]
  split
  · exact one_word
  · exact zero_word

/-- The position of a block's row. -/
theorem pos_word (i : grid0.Coords) (r : Fin 512) :
    IntOp.addi 0#32 (IntOp.muli 1#32 (IntOp.addi (BitVec.ofNat 32 r.val) (Scalar.muli (BitVec.ofNat 32 (i 0).val) 512#32)))
      = BitVec.ofNat 32 (512 * (i 0).val + r.val) := by
  show 0#32 + 1#32 * (BitVec.ofNat 32 r.val + BitVec.ofNat 32 (i 0).val * 512#32) = _
  rw [BitVec.zero_add, BitVec.one_mul, Nat.mul_comm, Nat.add_comm, BitVec.ofNat_add, BitVec.ofNat_mul]

variable (i : grid0.Coords) (x0 x1 x2 : Vec Ideal S1x128 .f32)

theorem out3_apply (r : Fin 512) (l : Fin 128) : out0_3 i x0 x1 x2 (ix2 r l)
    = Ideal.cos (((512 * (i 0).val + r.val : ℕ) : ℝ) * x0 (ix2 0 l)) * x2 (ix2 0 l) := by
  have h : 512 * (i 0).val + r.val < 2 ^ 31 := by
    have h4 : (i 0).val < 4 := (i 0).isLt
    omega
  rw [← float_word _ h, ← pos_word]
  unfold out0_3
  rw [View.canon_unit_zero origin]
  pointwise [k0_pay2, k0_pay1]

theorem out4_apply (r : Fin 512) (l : Fin 128) : out0_4 i x0 x1 x2 (ix2 r l)
    = Ideal.sin (((512 * (i 0).val + r.val : ℕ) : ℝ) * x0 (ix2 0 l)) * x1 (ix2 0 l) := by
  have h : 512 * (i 0).val + r.val < 2 ^ 31 := by
    have h4 : (i 0).val < 4 := (i 0).isLt
    omega
  rw [← float_word _ h, ← pos_word]
  unfold out0_4
  rw [View.canon_unit_zero origin]
  pointwise [k0_pay3, k0_pay1]

/-- The three patterns are read whole; a point writes 512 rows. -/
theorem index_facts : ∀ t : Fin cfg0.N,
    (grid0.coords t 0).val = t.val ∧ (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem iblk0 (l : Fin 128) : (iblk m c 0 t : Vec Ideal S1x128 .f32) (ix2 0 l) = if l.val < 64 then freq (l % 16) else (0 : EReal) := by
  obtain ⟨_, e, _⟩ := index_facts t
  rw [← inv_apply m c]
  show V m c main_v13 (((cfg0.win 0).blk t).view.emb _) = _
  refine congrArg (V m c main_v13) (funext fun a => Fin.ext ?_)
  match a with
  | ⟨0, _⟩ => show win0_0.index t (0 : Fin 2) * 1 + 1 * 0 = 0; omega
  | ⟨1, _⟩ => show win0_0.index t (1 : Fin 2) * 128 + 1 * l.val = l.val; omega

theorem iblk1 (l : Fin 128) : (iblk m c 1 t : Vec Ideal S1x128 .f32) (ix2 0 l)
    = if l.val < 64 then if l.val % 32 < 16 then (-1 : EReal) else 1 else 0 := by
  obtain ⟨_, _, e, _⟩ := index_facts t
  rw [← sign_apply m c]
  show V m c main_v14 (((cfg0.win 1).blk t).view.emb _) = _
  refine congrArg (V m c main_v14) (funext fun a => Fin.ext ?_)
  match a with
  | ⟨0, _⟩ => show win0_1.index t (0 : Fin 2) * 1 + 1 * 0 = 0; omega
  | ⟨1, _⟩ => show win0_1.index t (1 : Fin 2) * 128 + 1 * l.val = l.val; omega

theorem iblk2 (l : Fin 128) : (iblk m c 2 t : Vec Ideal S1x128 .f32) (ix2 0 l) = if l.val < 64 then (1 : EReal) else 0 := by
  obtain ⟨_, _, _, e, _⟩ := index_facts t
  rw [← used_apply m c]
  show V m c main_v15 (((cfg0.win 2).blk t).view.emb _) = _
  refine congrArg (V m c main_v15) (funext fun a => Fin.ext ?_)
  match a with
  | ⟨0, _⟩ => show win0_2.index t (0 : Fin 2) * 1 + 1 * 0 = 0; omega
  | ⟨1, _⟩ => show win0_2.index t (1 : Fin 2) * 128 + 1 * l.val = l.val; omega

/-- The array whose row `p` has `f p`. -/
def table (f : ℕ → ℕ → EReal) : Vec Ideal S2048x128 .f32 := fun y => f (y 0).val (y 1).val

/-- The cosines after the run. -/
theorem final3 : (dats m 0 c).arrAt 3 cfg0.N = table pairCos := by
  refine (dats m 0 c).arrAt_eq_of_covers 3 _ (by decide +kernel) fun t _ y => ?_
  obtain ⟨ht, _, _, _, e, _⟩ := index_facts t
  have h : ∀ (r : Fin 512) (l : Fin 128), out0_3 (grid0.coords t) (iblk m c 0 t) (iblk m c 1 t) (iblk m c 2 t) (ix2 r l)
      = pairCos (512 * t.val + r) l := fun r l => by
    rw [out3_apply, iblk0, iblk2, ht]
    unfold pairCos ang
    split
    · rw [mul_one]
    · rw [mul_zero]
  blk_simp
  rw [after0_3]
  obtain ⟨r, l, rfl⟩ : ∃ (r : Fin 512) (l : Fin 128), y = ix2 r l := ⟨y 0, y 1, eq_ix2 y⟩
  rw [h]
  refine congr (congrArg _ ?_) ?_
  · show 512 * t.val + r.val = win0_3.index t (0 : Fin 2) * 512 + 1 * r.val; omega
  · show l.val = win0_3.index t (1 : Fin 2) * 128 + 1 * l.val; omega

/-- The sines after the run. -/
theorem final4 : (dats m 0 c).arrAt 4 cfg0.N = table pairSin := by
  refine (dats m 0 c).arrAt_eq_of_covers 4 _ (by decide +kernel) fun t _ y => ?_
  obtain ⟨ht, _, _, _, _, e⟩ := index_facts t
  have h : ∀ (r : Fin 512) (l : Fin 128), out0_4 (grid0.coords t) (iblk m c 0 t) (iblk m c 1 t) (iblk m c 2 t) (ix2 r l)
      = pairSin (512 * t.val + r) l := fun r l => by
    rw [out4_apply, iblk0, iblk1, ht]
    unfold pairSin turned ang
    split
    · split
      · rw [mul_neg, mul_one]
      · rw [mul_one]
    · rw [mul_zero]
  blk_simp
  rw [after0_4]
  obtain ⟨r, l, rfl⟩ : ∃ (r : Fin 512) (l : Fin 128), y = ix2 r l := ⟨y 0, y 1, eq_ix2 y⟩
  rw [h]
  refine congr (congrArg _ ?_) ?_
  · show 512 * t.val + r.val = win0_4.index t (0 : Fin 2) * 512 + 1 * r.val; omega
  · show l.val = win0_4.index t (1 : Fin 2) * 128 + 1 * l.val; omega

end Cert.Kernel4Ideal.Tab

end
-- ==== Proof.TabOne.lean ====
/- The kernel of the sample's tables: its result arrays. -/
module

public import proofs.«01_k».proof.Proof.Gen.Kernel5Ideal.Value
public import proofs.«01_k».proof.Proof.TabSpec
public import Idealize.ShloMosaic.Lib.Pipeline.ValueKit.Geometry
public import Idealize.ShloMosaic.Lib.Tactic.CleanTypes

@[expose] public section

set_option maxRecDepth 8192

noncomputable section

namespace Cert.Kernel5Ideal.Tab

open Idealize.ShloMosaic Idealize.ShloMosaic.TcCoe Cert.Kernel5Ideal Cert.Kernel5Ideal.Gen Cert.TabSpec

theorem origin : (![0, 0] : Fin 2 → ℕ) = fun _ => 0 := by decide

/-- The lanes' frequencies, by number. -/
theorem lane_number : ∀ l : Fin 128, lit0 (S128.rowMajor (ix1 l)) = BitVec.ofNat 32 (l.val % 16) := by decide +kernel

/-- The lanes' signs. -/
theorem lane_sign : ∀ l : Fin 128, lit1 (S128.rowMajor (ix1 l))
    = if l.val % 32 < 16 then 0xBF800000#32 else 0x3F800000#32 := by decide +kernel

variable (m : (ℓ : Loc nD τ sig) → Buf (Elt Ideal) ℓ) (c : Dev nD) (t : Fin cfg0.N)

/-- The frequencies by lane. -/
theorem inv_apply (l : Fin 128) : (V m c main_v13 : FVec Ideal S1x128 .f32) (ix2 0 l) = freq (l % 16) := by
  unfold_abbrev_sides
  after_results
  pointwise
  refine (Routing.gather_take1 _ rfl rfl rfl rfl _ _ l ⟨l.val % 16, Nat.mod_lt _ (by norm_num)⟩ ?_ (by norm_num)).trans ?_
  · rw [eq_ix2 (ValueIdx.ix2 l (0 : Fin 1))]
    pointwise
    exact lane_number l
  · rw [show ValueIdx.ix1 (⟨l.val % 16, Nat.mod_lt _ (by norm_num)⟩ : Fin 16) = ix1 (⟨l.val % 16, Nat.mod_lt _ (by norm_num)⟩ : Fin 16) from eq_ix1 _]
    pointwise
    have hl : l.val % 16 < 2 ^ 31 := (Nat.mod_lt _ (by norm_num)).trans (by norm_num)
    rw [float_word _ hl, ← one_word]
    rfl

theorem sign_apply (l : Fin 128) : (V m c main_v14 : FVec Ideal S1x128 .f32) (ix2 0 l)
    = if l.val % 32 < 16 then (-1 : EReal) else 1 := by
  unfold_abbrev_sides
  after_results
  pointwise
  rw [lane_sign]
  split
  · exact minus_word
  · exact one_word

theorem used_apply (l : Fin 128) : (V m c main_v15 : FVec Ideal S1x128 .f32) (ix2 0 l) = (1 : EReal) := by
  unfold_abbrev_sides
  after_results
  pointwise
  rfl

/-- The position, one for all rows. -/
theorem pos_word (w : BitVec 32) : IntOp.addi 16384#32 (IntOp.muli 0#32 w) = BitVec.ofNat 32 16384 := by
  show 16384#32 + 0#32 * w = _
  rw [BitVec.zero_mul, BitVec.add_zero]

variable (i : grid0.Coords) (x0 x1 x2 : Vec Ideal S1x128 .f32)

theorem out3_apply (r : Fin 8) (l : Fin 128) : out0_3 i x0 x1 x2 (ix2 r l)
    = Ideal.cos (((16384 : ℕ) : ℝ) * x0 (ix2 0 l)) * x2 (ix2 0 l) := by
  rw [← float_word _ (by norm_num), ← pos_word (IntOp.addi (BitVec.ofNat 32 r.val) (Scalar.muli (BitVec.ofNat 32 (i 0).val) 8#32))]
  unfold out0_3
  rw [View.canon_unit_zero origin]
  pointwise [k0_pay2, k0_pay1]

theorem out4_apply (r : Fin 8) (l : Fin 128) : out0_4 i x0 x1 x2 (ix2 r l)
    = Ideal.sin (((16384 : ℕ) : ℝ) * x0 (ix2 0 l)) * x1 (ix2 0 l) := by
  rw [← float_word _ (by norm_num), ← pos_word (IntOp.addi (BitVec.ofNat 32 r.val) (Scalar.muli (BitVec.ofNat 32 (i 0).val) 8#32))]
  unfold out0_4
  rw [View.canon_unit_zero origin]
  pointwise [k0_pay3, k0_pay1]

/-- The three patterns are read whole; the one point writes all rows. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem iblk0 (l : Fin 128) : (iblk m c 0 t : Vec Ideal S1x128 .f32) (ix2 0 l) = freq (l % 16) := by
  obtain ⟨e, _⟩ := index_facts t
  rw [← inv_apply m c]
  show V m c main_v13 (((cfg0.win 0).blk t).view.emb _) = _
  refine congrArg (V m c main_v13) (funext fun a => Fin.ext ?_)
  match a with
  | ⟨0, _⟩ => show win0_0.index t (0 : Fin 2) * 1 + 1 * 0 = 0; omega
  | ⟨1, _⟩ => show win0_0.index t (1 : Fin 2) * 128 + 1 * l.val = l.val; omega

theorem iblk1 (l : Fin 128) : (iblk m c 1 t : Vec Ideal S1x128 .f32) (ix2 0 l)
    = if l.val % 32 < 16 then (-1 : EReal) else 1 := by
  obtain ⟨_, e, _⟩ := index_facts t
  rw [← sign_apply m c]
  show V m c main_v14 (((cfg0.win 1).blk t).view.emb _) = _
  refine congrArg (V m c main_v14) (funext fun a => Fin.ext ?_)
  match a with
  | ⟨0, _⟩ => show win0_1.index t (0 : Fin 2) * 1 + 1 * 0 = 0; omega
  | ⟨1, _⟩ => show win0_1.index t (1 : Fin 2) * 128 + 1 * l.val = l.val; omega

theorem iblk2 (l : Fin 128) : (iblk m c 2 t : Vec Ideal S1x128 .f32) (ix2 0 l) = (1 : EReal) := by
  obtain ⟨_, _, e, _⟩ := index_facts t
  rw [← used_apply m c]
  show V m c main_v15 (((cfg0.win 2).blk t).view.emb _) = _
  refine congrArg (V m c main_v15) (funext fun a => Fin.ext ?_)
  match a with
  | ⟨0, _⟩ => show win0_2.index t (0 : Fin 2) * 1 + 1 * 0 = 0; omega
  | ⟨1, _⟩ => show win0_2.index t (1 : Fin 2) * 128 + 1 * l.val = l.val; omega

/-- The array whose row `p` has `f p`. -/
def table (f : ℕ → ℕ → EReal) : Vec Ideal S8x128 .f32 := fun y => f (y 0).val (y 1).val

/-- The cosines after the run. -/
theorem final3 : (dats m 0 c).arrAt 3 cfg0.N = table (fun _ l => Ideal.cos (ang 16384 l)) := by
  refine (dats m 0 c).arrAt_eq_of_covers 3 _ (by decide +kernel) fun t _ y => ?_
  obtain ⟨_, _, _, e, _⟩ := index_facts t
  have h : ∀ (r : Fin 8) (l : Fin 128), out0_3 (grid0.coords t) (iblk m c 0 t) (iblk m c 1 t) (iblk m c 2 t) (ix2 r l)
      = Ideal.cos (ang 16384 l) := fun r l => by
    rw [out3_apply, iblk0, iblk2, mul_one]
    rfl
  blk_simp
  rw [after0_3]
  obtain ⟨r, l, rfl⟩ : ∃ (r : Fin 8) (l : Fin 128), y = ix2 r l := ⟨y 0, y 1, eq_ix2 y⟩
  rw [h]
  refine congrArg (fun n => Ideal.cos (ang 16384 n)) ?_
  · show l.val = win0_3.index t (1 : Fin 2) * 128 + 1 * l.val; omega

/-- The sines after the run. -/
theorem final4 : (dats m 0 c).arrAt 4 cfg0.N = table (fun _ l => turned 16384 l) := by
  refine (dats m 0 c).arrAt_eq_of_covers 4 _ (by decide +kernel) fun t _ y => ?_
  obtain ⟨_, _, _, _, e⟩ := index_facts t
  have h : ∀ (r : Fin 8) (l : Fin 128), out0_4 (grid0.coords t) (iblk m c 0 t) (iblk m c 1 t) (iblk m c 2 t) (ix2 r l)
      = turned 16384 l := fun r l => by
    rw [out4_apply, iblk0, iblk1]
    unfold turned ang
    split
    · rw [mul_neg, mul_one]
    · rw [mul_one]
  blk_simp
  rw [after0_4]
  obtain ⟨r, l, rfl⟩ : ∃ (r : Fin 8) (l : Fin 128), y = ix2 r l := ⟨y 0, y 1, eq_ix2 y⟩
  rw [h]
  refine congrArg (turned 16384) ?_
  · show l.val = win0_4.index t (1 : Fin 2) * 128 + 1 * l.val; omega

end Cert.Kernel5Ideal.Tab

end
-- ==== Proof.TabRef.lean ====
/- The tables of angles as the references compute them. -/
module

public import proofs.«01_k».proof.Proof.Gen.Reference4Ideal.Read
public import proofs.«01_k».proof.Proof.Gen.Reference5Ideal.Read
public import proofs.«01_k».proof.Proof.TabSpec

@[expose] public section

set_option maxRecDepth 8192

noncomputable section

namespace Cert.TabRef

open Idealize.ShloMosaic Cert.TabSpec

section Pair
open Cert.Reference4Ideal Cert.Reference4Ideal.Read

theorem ang4 (r : Fin 2048) (k : Fin 16) : (val_main_v13 (F := Ideal)) (ix2 r k) = ang r k := by
  unfold ang freq
  have hk : k.val < 2 ^ 31 := by omega
  have hr : r.val < 2 ^ 31 := by omega
  rw [← float_word _ hr, Nat.mod_eq_of_lt k.isLt, ← float_word _ hk]
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

theorem cos4 (r : Fin 2048) (l : Fin 128) : (val_main_v20 (F := Ideal)) (ix2 r l) = pairCos r l := by
  unfold pairCos
  pointwise [val_main_v20, val_main_v16, val_main_v14, ang4, val_main_v19, val_main_cst_2]
  by_cases h0 : l.val < 32
  · rw [dif_pos h0, if_pos (by omega)]
    split
    · rfl
    · exact congrArg Ideal.cos (ang_congr _ (by omega))
  rw [dif_neg h0]
  by_cases h1 : l.val - 32 < 32
  · rw [dif_pos h1, if_pos (by omega)]
    split <;> exact congrArg Ideal.cos (ang_congr _ (by omega))
  · rw [dif_neg h1, if_neg (by omega)]

theorem sin4 (r : Fin 2048) (l : Fin 128) : (val_main_v22 (F := Ideal)) (ix2 r l) = pairSin r l := by
  unfold pairSin turned
  pointwise [val_main_v22, val_main_v18, val_main_v17, val_main_v15, ang4, val_main_v21, val_main_cst_3]
  by_cases h0 : l.val < 32
  · rw [dif_pos h0, if_pos (by omega)]
    by_cases h : l.val < 16
    · rw [dif_pos h, if_pos (by omega)]
    · rw [dif_neg h, if_neg (by omega), ang_congr _ (show (l.val - 16) % 16 = l.val % 16 by omega)]
  rw [dif_neg h0]
  by_cases h1 : l.val - 32 < 32
  · rw [dif_pos h1, if_pos (by omega)]
    by_cases h : l.val - 32 < 16
    · rw [dif_pos h, if_pos (by omega), ang_congr _ (show (l.val - 32) % 16 = l.val % 16 by omega)]
    · rw [dif_neg h, if_neg (by omega), ang_congr _ (show (l.val - 32 - 16) % 16 = l.val % 16 by omega)]
  · rw [dif_neg h1, if_neg (by omega)]

end Pair

section One
open Cert.Reference5Ideal Cert.Reference5Ideal.Read

theorem ang5 (r : Fin 8) (k : Fin 16) : (val_main_v15 (F := Ideal)) (ix2 r k) = ang 16384 k := by
  unfold ang freq
  have hk : k.val < 2 ^ 31 := by omega
  rw [← float_word _ (show 16384 < 2 ^ 31 by norm_num), Nat.mod_eq_of_lt k.isLt, ← float_word _ hk]
  pointwise [val_main_v15, val_main_v14, val_main_v13, val_main_v12, val_main_v11, val_main_v10, val_main_v9, val_main_v8, val_main_v7, val_main_v6, val_main_v5, val_main_v4,
    val_main_v3, val_main_v2, val_main_v1, val_main_v0, val_main_cst, val_main_c, val_main_c_0, val_main_cst_1, val_main_cst_2]
  rfl

theorem cos5 (r : Fin 8) (l : Fin 128) : (val_main_v23 (F := Ideal)) (ix2 r l) = Ideal.cos (ang 16384 l) := by
  pointwise [val_main_v23, val_main_v22, val_main_v21, val_main_v18, val_main_v16, ang5]
  split <;> exact congrArg Ideal.cos (ang_congr _ (by omega))

theorem sin5 (r : Fin 8) (l : Fin 128) : (val_main_v26 (F := Ideal)) (ix2 r l) = turned 16384 l := by
  unfold turned
  pointwise [val_main_v26, val_main_v25, val_main_v24, val_main_v20, val_main_v19, val_main_v17, ang5]
  by_cases h : l.val % 32 < 16
  · rw [dif_pos h, if_pos h, ang_congr _ (show l.val % 32 % 16 = l.val % 16 by omega)]
  · rw [dif_neg h, if_neg h, ang_congr _ (show (l.val % 32 - 16) % 16 = l.val % 16 by omega)]

end One

end Cert.TabRef

end
-- ==== Proof.Tables.lean ====
/- The claims about the tables of angles: the frames and the values. -/
module

public import proofs.«01_k».proof.Defs
public import proofs.«01_k».proof.Proof.Gen.Kernel4.Frame
public import proofs.«01_k».proof.Proof.Gen.Kernel5.Frame
public import proofs.«01_k».proof.Proof.TabPair
public import proofs.«01_k».proof.Proof.TabOne
public import proofs.«01_k».proof.Proof.TabRef
public import Idealize.ShloMosaic.Lib.Quiescent

@[expose] public section

set_option maxRecDepth 8192

noncomputable section

namespace Cert.Proof.Tables

open Idealize.ShloMosaic Idealize.SL.Sem Cert.TabSpec

/-- The kernel of the prompt's tables runs to its end. -/
theorem kernel4_frame : Cert.quiescent_Kernel4 (hKernel4 := Cert.Kernel4.Gen.facts) := fun m ρ _ => Cert.Kernel4.Gen.frame m ρ

/-- So it does over the extended reals. -/
theorem ideal4_frame : Cert.quiescent_Kernel4Ideal (hKernel4Ideal := Cert.Kernel4Ideal.Gen.facts) := fun m ρ _ => Cert.Kernel4Ideal.Gen.frame m ρ

/-- And so does its reference. -/
theorem reference4_frame : Cert.quiescent_Reference4Ideal (hReference4Ideal := Cert.Reference4Ideal.Gen.facts) := fun m ρ _ =>
  (θ_run Cert.Reference4Ideal.defs _ _).mono (fun r _ => ⟨fun _ => trivial, sem_eq_zero_of_no_sems (by decide) r.2⟩)
    (Cert.Reference4Ideal.Value.run (F := Ideal) m ρ)

/-- The kernel of the sample's tables runs to its end. -/
theorem kernel5_frame : Cert.quiescent_Kernel5 (hKernel5 := Cert.Kernel5.Gen.facts) := fun m ρ _ => Cert.Kernel5.Gen.frame m ρ

/-- So it does over the extended reals. -/
theorem ideal5_frame : Cert.quiescent_Kernel5Ideal (hKernel5Ideal := Cert.Kernel5Ideal.Gen.facts) := fun m ρ _ => Cert.Kernel5Ideal.Gen.frame m ρ

/-- And so does its reference. -/
theorem reference5_frame : Cert.quiescent_Reference5Ideal (hReference5Ideal := Cert.Reference5Ideal.Gen.facts) := fun m ρ _ =>
  (θ_run Cert.Reference5Ideal.defs _ _).mono (fun r _ => ⟨fun _ => trivial, sem_eq_zero_of_no_sems (by decide) r.2⟩)
    (Cert.Reference5Ideal.Value.run (F := Ideal) m ρ)

/-- The kernel of the prompt's tables and its reference end with the same two arrays. -/
theorem value4 : Cert.algebraic_Kernel4Ideal_Reference4Ideal (hKernel4Ideal := Cert.Kernel4Ideal.Gen.facts)
    (hReference4Ideal := Cert.Reference4Ideal.Gen.facts) := by
  intro m ρ m' ρ' _ _
  refine ⟨fun _ => Cert.Kernel4Ideal.Tab.table pairCos, fun _ => Cert.Kernel4Ideal.Tab.table pairSin, ?_, ?_⟩
  · refine (θ_run Cert.Kernel4Ideal.defs _ _).mono (fun _ h c => ?_) (Cert.Kernel4Ideal.Value.run_blocks (F := Ideal) m ρ)
    exact ⟨(h c).1.trans (Cert.Kernel4Ideal.Tab.final3 m c), (h c).2.trans (Cert.Kernel4Ideal.Tab.final4 m c)⟩
  · refine (θ_run Cert.Reference4Ideal.defs _ _).mono (fun _ h c => ?_) (Cert.Reference4Ideal.Value.run (F := Ideal) m' ρ')
    refine ⟨(h c).1.trans (funext fun y => ?_), (h c).2.trans (funext fun y => ?_)⟩
    · exact (congrArg (Cert.Reference4Ideal.Read.val_main_v20 (F := Ideal)) (eq_ix2 y)).trans (Cert.TabRef.cos4 (y 0) (y 1))
    · exact (congrArg (Cert.Reference4Ideal.Read.val_main_v22 (F := Ideal)) (eq_ix2 y)).trans (Cert.TabRef.sin4 (y 0) (y 1))

/-- The kernel of the sample's tables and its reference end with the same two arrays. -/
theorem value5 : Cert.algebraic_Kernel5Ideal_Reference5Ideal (hKernel5Ideal := Cert.Kernel5Ideal.Gen.facts)
    (hReference5Ideal := Cert.Reference5Ideal.Gen.facts) := by
  intro m ρ m' ρ' _ _
  refine ⟨fun _ => Cert.Kernel5Ideal.Tab.table (fun _ l => Ideal.cos (ang 16384 l)), fun _ => Cert.Kernel5Ideal.Tab.table (fun _ l => turned 16384 l), ?_, ?_⟩
  · refine (θ_run Cert.Kernel5Ideal.defs _ _).mono (fun _ h c => ?_) (Cert.Kernel5Ideal.Value.run_blocks (F := Ideal) m ρ)
    exact ⟨(h c).1.trans (Cert.Kernel5Ideal.Tab.final3 m c), (h c).2.trans (Cert.Kernel5Ideal.Tab.final4 m c)⟩
  · refine (θ_run Cert.Reference5Ideal.defs _ _).mono (fun _ h c => ?_) (Cert.Reference5Ideal.Value.run (F := Ideal) m' ρ')
    refine ⟨(h c).1.trans (funext fun y => ?_), (h c).2.trans (funext fun y => ?_)⟩
    · exact (congrArg (Cert.Reference5Ideal.Read.val_main_v23 (F := Ideal)) (eq_ix2 y)).trans (Cert.TabRef.cos5 (y 0) (y 1))
    · exact (congrArg (Cert.Reference5Ideal.Read.val_main_v26 (F := Ideal)) (eq_ix2 y)).trans (Cert.TabRef.sin5 (y 0) (y 1))

end Cert.Proof.Tables

end
-- ==== Proof.MixRun.lean ====
/- The mixing call on the sample, run from its first line to its last: what the body leaves in its four result buffers. -/
module

public import proofs.«01_k».proof.Proof.Gen.Kernel6Ideal.Frame
public import proofs.«01_k».proof.Proof.Gen.Kernel6Ideal.Skeleton

@[expose] public section

set_option maxRecDepth 16384

noncomputable section

namespace Cert.Kernel6Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

/-- The first grid point: the counts start at zero. -/
abbrev cond0_0 (i : grid0.Coords) : Prop := (Scalar.cmpi .ne (Scalar.extui (Scalar.cmpi .eq (BitVec.ofNat 32 (i 0).val) 0#32)) 0#32) = 1#1
/-- The one grid point is the first. -/
theorem hcond0_0 : ∀ t : Fin cfg0.N, cond0_0 (grid0.coords t) :=
  (fun t => by
    have ht : t.val < 1 := Nat.lt_of_lt_of_eq t.isLt N_0
    have e0 : (grid0.coords t 0).val = t.val / 1 % 1 := Pipeline.Grid.coords_val t 0 (by decide) rfl
    simp only [cond0_0, e0]
    word_cmp
   : ∀ t : Fin grid0.N, cond0_0 (grid0.coords t))

/-! The buffers that the body gets at a point. -/

abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x128 .f32 := win0_17.stage (cfg0.slots t 17)
abbrev hs0_17 (t : Fin cfg0.N) : (ms0_17 t).IsWhole := hstage0_17 ((cfg0.slots t 17).cast nbuf0_17)

/-! A buffer of each result, to state through it what the body leaves there. -/

abbrev VO0_14 : View sig .tc .vmem S128x1024 .f32 := (Memref.whole cc0_stg14_0 : Memref sig .tc .vmem S128x1024 .f32).view
abbrev VO0_15 : View sig .tc .vmem S1024x128 .f32 := (Memref.whole cc0_stg15_0 : Memref sig .tc .vmem S1024x128 .f32).view
abbrev VO0_16 : View sig .tc .vmem S128x128 .f32 := (Memref.whole cc0_stg16_0 : Memref sig .tc .vmem S128x128 .f32).view
abbrev VO0_17 : View sig .tc .vmem S8x128 .f32 := (Memref.whole cc0_stg17_0 : Memref sig .tc .vmem S8x128 .f32).view

section

variable (c : Dev nD) (i : grid0.Coords) (arg1 : Memref sig .tc .vmem S128x1024 .f32) (harg1 : arg1.IsWhole)
  (arg2 : Memref sig .tc .vmem S128x1024 .bf16) (harg2 : arg2.IsWhole) (arg3 : Memref sig .tc .vmem S128x512 .f32) (harg3 : arg3.IsWhole)
  (arg4 : Memref sig .tc .vmem S128x1024 .bf16) (harg4 : arg4.IsWhole) (arg5 : Memref sig .tc .vmem S128x1024 .bf16) (harg5 : arg5.IsWhole)
  (arg6 : Memref sig .tc .vmem S1024x1024 .bf16) (harg6 : arg6.IsWhole) (arg7 : Memref sig .tc .vmem S512x1024 .bf16) (harg7 : arg7.IsWhole)
  (arg8 : Memref sig .tc .vmem S1024x1024 .bf16) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1024x128 .bf16)
  (harg13 : arg13.IsWhole) (arg14 : Memref sig .tc .vmem S1024x128 .bf16) (harg14 : arg14.IsWhole)
  (arg15 : Memref sig .tc .vmem S128x1024 .f32) (harg15 : arg15.IsWhole) (arg16 : Memref sig .tc .vmem S1024x128 .f32)
  (harg16 : arg16.IsWhole) (arg17 : Memref sig .tc .vmem S128x128 .f32) (harg17 : arg17.IsWhole) (arg18 : Memref sig .tc .vmem S8x128 .f32)
  (harg18 : arg18.IsWhole) (hc0 : cond0_0 i) (x0 : Vec F S128x1024 .f32) (x1 : Vec F S128x1024 .bf16) (x2 : Vec F S128x512 .f32)
  (x3 : Vec F S128x1024 .bf16) (x4 : Vec F S128x1024 .bf16) (x5 : Vec F S1024x1024 .bf16) (x6 : Vec F S512x1024 .bf16)
  (x7 : Vec F S1024x1024 .bf16) (x8 : Vec F S1x512 .f32) (x9 : Vec F S1x512 .f32) (x10 : Vec F S1x1024 .f32) (x11 : Vec F S1x1024 .f32)
  (x12 : Vec F S1024x128 .bf16) (x13 : Vec F S1024x128 .bf16)

set_option maxHeartbeats 4000000 in
/-- The pieces that the body's stores write in each result buffer, with the run that writes them: from the argument buffers at
    their contents, kept, and the result buffers at anything. -/
def run :
    Σ' (L14 : List (View.Piece (Elt F) S128x1024 .f32)), Σ' (L15 : List (View.Piece (Elt F) S1024x128 .f32)), Σ' (L16 : List (View.Piece (Elt F) S128x128 .f32)), { L17 : List (View.Piece (Elt F) S8x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17)) -∗ K ⟨⟩))
          ⊢ wp frame (wpE (defs₀ (F := F)) Variants.none c none) E (cc0_mix_ln1_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_mix_ln1_router_eq_skeleton]; unfold cc0_mix_ln1_router_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    iexists _; iexact H17

end

end Cert.Kernel6Ideal.Mix

end
-- ==== Proof.MixFrame.lean ====
/- The mixing call on the sample: its result buffers are covered by the body's stores, so the call runs to its end and keeps its arguments. -/
module

public import proofs.«01_k».proof.Proof.MixRun
public import Idealize.ShloMosaic.Lib.Claim

@[expose] public section

set_option maxRecDepth 16384

noncomputable section

namespace Cert.Kernel6Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

/-- Row `r` of the second result lies in the rows that lane group `r % 8` is stored to. -/
theorem mem_lane_rows (k : ℕ) (inb) (sp) (y : S1024x128.Idx) (h : (y 0).val % 8 = k) :
    y ∈ (⟨⟨![k, 0], S128x128.size, ![8, 1], inb⟩, sp⟩ : Rect S1024x128).set := by
  have h0 : (y 0).val < 1024 := (y 0).isLt
  have h1 : (y 1).val < 128 := (y 1).isLt
  rw [LoadRect.mem_set]
  intro a
  match a with
  | ⟨0, _⟩ => exact ⟨(y 0).val / 8, show (y 0).val / 8 < 128 by omega, show (y 0).val = k + 8 * ((y 0).val / 8) by omega⟩
  | ⟨1, _⟩ => exact ⟨(y 1).val, h1, show (y 1).val = 0 + 1 * (y 1).val by omega⟩

section

variable (c : Dev nD) (i : grid0.Coords) (arg1 : Memref sig .tc .vmem S128x1024 .f32) (harg1 : arg1.IsWhole)
  (arg2 : Memref sig .tc .vmem S128x1024 .bf16) (harg2 : arg2.IsWhole) (arg3 : Memref sig .tc .vmem S128x512 .f32) (harg3 : arg3.IsWhole)
  (arg4 : Memref sig .tc .vmem S128x1024 .bf16) (harg4 : arg4.IsWhole) (arg5 : Memref sig .tc .vmem S128x1024 .bf16) (harg5 : arg5.IsWhole)
  (arg6 : Memref sig .tc .vmem S1024x1024 .bf16) (harg6 : arg6.IsWhole) (arg7 : Memref sig .tc .vmem S512x1024 .bf16) (harg7 : arg7.IsWhole)
  (arg8 : Memref sig .tc .vmem S1024x1024 .bf16) (harg8 : arg8.IsWhole) (arg9 : Memref sig .tc .vmem S1x512 .f32) (harg9 : arg9.IsWhole)
  (arg10 : Memref sig .tc .vmem S1x512 .f32) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1024x128 .bf16)
  (harg13 : arg13.IsWhole) (arg14 : Memref sig .tc .vmem S1024x128 .bf16) (harg14 : arg14.IsWhole)
  (arg15 : Memref sig .tc .vmem S128x1024 .f32) (harg15 : arg15.IsWhole) (arg16 : Memref sig .tc .vmem S1024x128 .f32)
  (harg16 : arg16.IsWhole) (arg17 : Memref sig .tc .vmem S128x128 .f32) (harg17 : arg17.IsWhole) (arg18 : Memref sig .tc .vmem S8x128 .f32)
  (harg18 : arg18.IsWhole) (hc0 : cond0_0 i) (x0 : Vec F S128x1024 .f32) (x1 : Vec F S128x1024 .bf16) (x2 : Vec F S128x512 .f32)
  (x3 : Vec F S128x1024 .bf16) (x4 : Vec F S128x1024 .bf16) (x5 : Vec F S1024x1024 .bf16) (x6 : Vec F S512x1024 .bf16)
  (x7 : Vec F S1024x1024 .bf16) (x8 : Vec F S1x512 .f32) (x9 : Vec F S1x512 .f32) (x10 : Vec F S1x1024 .f32) (x11 : Vec F S1x1024 .f32)
  (x12 : Vec F S1024x128 .bf16) (x13 : Vec F S1024x128 .bf16)

/-- The pieces of result 0. -/
abbrev L14 := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13).1
/-- The pieces of result 1. -/
abbrev L15 := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13).2.1
/-- The pieces of result 2. -/
abbrev L16 := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13).2.2.1
/-- The pieces of result 3. -/
abbrev L17 := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13).2.2.2.1

/-- Result 0's pieces cover its buffer. -/
theorem cover14 (y : S128x1024.Idx) : ∃ pc ∈ L14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13, y ∈ pc.1.set :=
  View.cover_of_tiledL _ S128x1024.size (by sl_kernel_rfl) y

/-- What the body leaves in result 0's buffer. -/
def out14 : Vec F S128x1024 .f32 :=
  VO0_14.read (Elt F) (VO0_14.writes (Elt F) VO0_14.junk (L14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13))

/-- Result 1's pieces cover its buffer. -/
theorem cover15 (y : S1024x128.Idx) : ∃ pc ∈ L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13, y ∈ pc.1.set := by
  have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases h8 with h | h | h | h | h | h | h | h
  · exact ⟨_, List.Mem.tail _ (List.Mem.tail _ (List.Mem.tail _ (List.Mem.tail _ (List.Mem.tail _ (List.Mem.tail _ (List.Mem.tail _ (List.Mem.head _))))))), mem_lane_rows 0 _ _ y h⟩
  · exact ⟨_, List.Mem.tail _ (List.Mem.tail _ (List.Mem.tail _ (List.Mem.tail _ (List.Mem.tail _ (List.Mem.tail _ (List.Mem.head _)))))), mem_lane_rows 1 _ _ y h⟩
  · exact ⟨_, List.Mem.tail _ (List.Mem.tail _ (List.Mem.tail _ (List.Mem.tail _ (List.Mem.tail _ (List.Mem.head _))))), mem_lane_rows 2 _ _ y h⟩
  · exact ⟨_, List.Mem.tail _ (List.Mem.tail _ (List.Mem.tail _ (List.Mem.tail _ (List.Mem.head _)))), mem_lane_rows 3 _ _ y h⟩
  · exact ⟨_, List.Mem.tail _ (List.Mem.tail _ (List.Mem.tail _ (List.Mem.head _))), mem_lane_rows 4 _ _ y h⟩
  · exact ⟨_, List.Mem.tail _ (List.Mem.tail _ (List.Mem.head _)), mem_lane_rows 5 _ _ y h⟩
  · exact ⟨_, List.Mem.tail _ (List.Mem.head _), mem_lane_rows 6 _ _ y h⟩
  · exact ⟨_, List.Mem.head _, mem_lane_rows 7 _ _ y h⟩

/-- What the body leaves in result 1's buffer. -/
def out15 : Vec F S1024x128 .f32 :=
  VO0_15.read (Elt F) (VO0_15.writes (Elt F) VO0_15.junk (L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13))

/-- Result 2's pieces cover its buffer. -/
theorem cover16 (y : S128x128.Idx) : ∃ pc ∈ L16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13, y ∈ pc.1.set :=
  View.cover_of_tiledL _ S128x128.size (by sl_kernel_rfl) y

/-- What the body leaves in result 2's buffer. -/
def out16 : Vec F S128x128 .f32 :=
  VO0_16.read (Elt F) (VO0_16.writes (Elt F) VO0_16.junk (L16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13))

/-- Result 3's pieces cover its buffer. -/
theorem cover17 (y : S8x128.Idx) : ∃ pc ∈ L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13, y ∈ pc.1.set :=
  View.cover_of_tiledBy _ ![1, 128] (by sl_kernel_rfl) y

/-- What the body leaves in result 3's buffer. -/
def out17 : Vec F S8x128 .f32 :=
  VO0_17.read (Elt F) (VO0_17.writes (Elt F) VO0_17.junk (L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13))

end

variable (m : (ℓ : Loc nD τ sig) → Buf (Elt F) ℓ) (ρ : Dev nD → PrngReg)

/-- What result 0's buffer holds after the point. -/
def at14 (c : Dev nD) (t : Fin cfg0.N) : Vec F S128x1024 .f32 :=
  out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- What result 1's buffer holds after the point. -/
def at15 (c : Dev nD) (t : Fin cfg0.N) : Vec F S1024x128 .f32 :=
  out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- What result 2's buffer holds after the point. -/
def at16 (c : Dev nD) (t : Fin cfg0.N) : Vec F S128x128 .f32 :=
  out16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- What result 3's buffer holds after the point. -/
def at17 (c : Dev nD) (t : Fin cfg0.N) : Vec F S8x128 .f32 :=
  out17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The arrays at the start, and what each buffer holds after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => at14 m c t
    | ⟨15, _⟩ => at15 m c t
    | ⟨16, _⟩ => at16 m c t
    | ⟨17, _⟩ => at17 m c t
    | ⟨_ + 18, h⟩ => absurd h (Nat.not_lt.2 (Nat.le_add_left _ _))
  Φ _ := Pipeline.ΦA spec0 c
  q _ := fullShare
  owed _ := 0

/-- The arrays at the start are what the host leaves. -/
theorem A_eq (c : Dev nD) (w : Fin cfg0.W) : (dats m 0 c).A w = V m c (Pipeline.arrRef spec0 w) := by
  dsimp only [dats]

/-! What each buffer holds after the point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = at14 m c t := by dsimp only [dats]
theorem after0_15 (c : Dev nD) (t : Fin cfg0.N) : (dats m 0 c).after 15 t = at15 m c t := by dsimp only [dats]
theorem after0_16 (c : Dev nD) (t : Fin cfg0.N) : (dats m 0 c).after 16 t = at16 m c t := by dsimp only [dats]
theorem after0_17 (c : Dev nD) (t : Fin cfg0.N) : (dats m 0 c).after 17 t = at17 m c t := by dsimp only [dats]

/-! Each argument buffer holds its block before the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- What the body ends with. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 1600000 in
/-- The body goes from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  unfold at14 at15 at16 at17 out14 out15 out16 out17; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run c (grid0.coords t) _ _ _ _ _ _ _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, ⟨%e14, H14⟩, ⟨%e15, H15⟩, ⟨%e16, H16⟩, ⟨%e17, H17⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover14 c _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover15 c _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover16 c _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H17
  ipureintro; exact View.read_writes_of_cover _ _ _ _ _ (cover17 c _ _ _ _ _ _ _ _ _ _ _ _ _ _ _ _ _ _ _ _ _ _ _ _ _ _ _ _ _ _ _ _ _ _ _ _ _ _ _ _ _ _ _ _ _ _ _ _ _ _ _ _)

/-- The row of the body at a point. -/
theorem defs₀_row (t : Fin cfg0.N) :
    defs₀ (F := F) .tc cfg0.body (cfg0.bodyArgs t (cfg0.slots t)) = bodyAt0 t := by
  unfold defs₀; rw [Defs.onTc_tc]

/-- So the body does what each point asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run: the arrays as the points leave them, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments stay. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The run ends, keeps the arguments, and leaves the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel6Ideal.Mix

end
-- ==== Proof.MixSpec.lean ====
/- The sample's mixing as plain sums: the two branches through their output weights, gated and added, mixed, and normalised
   with the tokens. -/
module

public import proofs.«01_k».proof.Proof.ProjSpec

@[expose] public section

noncomputable section

namespace Cert.MixSpec

open Idealize.ShloMosaic

/-- The argument arrays that the first two results read: the tokens, the attention's output, the convolution's output, the two
    gates, the three weights, and the scales and shifts of the two normalisations. -/
structure In where
  x : FVec Ideal (⟨2, ![128, 1024]⟩ : Shape) .f32
  o : FVec Ideal (⟨2, ![128, 1024]⟩ : Shape) .bf16
  y : FVec Ideal (⟨2, ![128, 512]⟩ : Shape) .f32
  sa : FVec Ideal (⟨2, ![128, 1024]⟩ : Shape) .bf16
  sb : FVec Ideal (⟨2, ![128, 1024]⟩ : Shape) .bf16
  wo : FVec Ideal (⟨2, ![1024, 1024]⟩ : Shape) .f32
  wp : FVec Ideal (⟨2, ![512, 1024]⟩ : Shape) .f32
  wm : FVec Ideal (⟨2, ![1024, 1024]⟩ : Shape) .f32
  cg : FVec Ideal (⟨2, ![1, 512]⟩ : Shape) .f32
  cb : FVec Ideal (⟨2, ![1, 512]⟩ : Shape) .f32
  g : FVec Ideal (⟨2, ![1, 1024]⟩ : Shape) .f32
  b : FVec Ideal (⟨2, ![1, 1024]⟩ : Shape) .f32

/-- The mean of `f` over `n` lanes. -/
def mean {d : ℕ} (n : EReal) (f : Fin d → EReal) : EReal := Ideal.div (∑ i, f i) n

/-- The row `f` of `n` lanes, normalised to mean zero and variance one, scaled by `g` and shifted by `b`. -/
def lnorm {d : ℕ} (n : EReal) (f g b : Fin d → EReal) (j : Fin d) : EReal :=
  (f j - mean n f) * Ideal.rsqrt (Ideal.div (∑ i, (f i - mean n f) * (f i - mean n f)) n + Ideal.ofBits .f32 0x3727C5AC#32) * g j + b j

/-- A number times its sigmoid. -/
def silu (z : EReal) : EReal := z * Ideal.logistic z

variable (I : In)

/-- The convolution's branch of row `r`. -/
def left (r : Fin 128) (k : Fin 1024) : EReal :=
  ∑ i : Fin 512, silu (lnorm (Ideal.ofBits .f32 0x44000000#32) (fun i => I.y (ix2 r i)) (fun i => I.cg (ix2 0 i)) (fun i => I.cb (ix2 0 i)) i) * I.wp (ix2 i k)

/-- The attention's branch of row `r`. -/
def right (r : Fin 128) (k : Fin 1024) : EReal := ∑ i : Fin 1024, I.o (ix2 r i) * I.wo (ix2 i k)

/-- Row `r` before its normalisation: the tokens, times a constant, and the mixed branches. -/
def resid (r : Fin 128) (j : Fin 1024) : EReal :=
  Ideal.ofBits .f32 0x3F9837F0#32 * I.x (ix2 r j) + ∑ k : Fin 1024, (I.sa (ix2 r k) * left I r k + I.sb (ix2 r k) * right I r k) * I.wm (ix2 k j)

/-- Row `r` of the first result. -/
def out (r : Fin 128) (j : Fin 1024) : EReal :=
  lnorm (Ideal.ofBits .f32 0x44800000#32) (resid I r) (fun j => I.g (ix2 0 j)) (fun j => I.b (ix2 0 j)) j

/-- The first result. -/
def first : (⟨2, ![128, 1024]⟩ : Shape).Idx → EReal := fun y => out I ⟨(y 0).val, (y 0).isLt⟩ ⟨(y 1).val, (y 1).isLt⟩

/-- The second result: the first, each row laid out as eight rows of 128 lanes. -/
def second : (⟨2, ![1024, 128]⟩ : Shape).Idx → EReal := fun y =>
  out I ⟨(y 0).val / 8, by have : (y 0).val < 1024 := (y 0).isLt; omega⟩
    ⟨128 * ((y 0).val % 8) + (y 1).val, by have : (y 1).val < 128 := (y 1).isLt; omega⟩

end Cert.MixSpec

end
-- ==== Proof.MixBlock.lean ====
/- What the mixing call's one grid point stores, at an index, as sums over its blocks. -/
module

public import proofs.«01_k».proof.Proof.MixSpec
public import proofs.«01_k».proof.Proof.Gen.Kernel6Ideal.Skeleton

@[expose] public section

set_option maxRecDepth 16384

noncomputable section

namespace Cert.Kernel6Ideal.Mix

open Idealize.ShloMosaic Cert.Kernel6Ideal Cert.Kernel6Ideal.Gen Cert.MixSpec

theorem pay3_apply (v0 : Vec Ideal S128x1024 .bf16) (v1 : Vec Ideal S1024x1024 .bf16) (r : Fin 128) (k : Fin 1024) :
    k0_pay3 v0 v1 (ix2 r k) = ∑ i : Fin 1024, v0 (ix2 r i) * v1 (ix2 i k) := by
  pointwise [k0_pay3]

theorem pay4_apply (y : Vec Ideal S128x512 .f32) (g b : Vec Ideal S1x512 .f32) (w : Vec Ideal S512x1024 .bf16)
    (s : Vec Ideal S128x1024 .bf16) (r : Fin 128) (k : Fin 1024) :
    k0_pay4 y g b w s (ix2 r k) = s (ix2 r k) * ∑ i : Fin 512,
      silu (lnorm (Ideal.ofBits .f32 0x44000000#32) (fun i => y (ix2 r i)) (fun i => g (ix2 0 i)) (fun i => b (ix2 0 i)) i) * w (ix2 i k) := by
  unfold silu lnorm mean
  pointwise [k0_pay4]

theorem pay5_apply (v3 v35 : FVec Ideal S128x1024 .f32) (v36 : Vec Ideal S128x1024 .bf16) (v41 : Vec Ideal S1024x1024 .bf16)
    (v44 : Vec Ideal S128x1024 .f32) (v48 v49 : Vec Ideal S1x1024 .f32) (r : Fin 128) (j : Fin 1024) :
    k0_pay5 v3 v35 v36 v41 v44 v48 v49 (ix2 r j) = lnorm (Ideal.ofBits .f32 0x44800000#32)
      (fun j => Ideal.ofBits .f32 0x3F9837F0#32 * v44 (ix2 r j) + ∑ k : Fin 1024, (v35 (ix2 r k) + v36 (ix2 r k) * v3 (ix2 r k)) * v41 (ix2 k j))
      (fun j => v48 (ix2 0 j)) (fun j => v49 (ix2 0 j)) j := by
  unfold lnorm mean
  pointwise [k0_pay5]

/-- What the first result's one store writes, from the call's blocks. -/
def mixed (x0 : Vec Ideal S128x1024 .f32) (x1 : Vec Ideal S128x1024 .bf16) (x2 : Vec Ideal S128x512 .f32) (x3 x4 : Vec Ideal S128x1024 .bf16)
    (x5 : Vec Ideal S1024x1024 .bf16) (x6 : Vec Ideal S512x1024 .bf16) (x7 : Vec Ideal S1024x1024 .bf16) (x8 x9 : Vec Ideal S1x512 .f32)
    (x10 x11 : Vec Ideal S1x1024 .f32) : FVec Ideal S128x1024 .f32 :=
  k0_pay5 (k0_pay3 x1 x5) (k0_pay4 x2 x8 x9 x6 x3) x4 x7 x0 x10 x11

/-- It is the mixing of the blocks. -/
theorem mixed_apply (x0 : Vec Ideal S128x1024 .f32) (x1 : Vec Ideal S128x1024 .bf16) (x2 : Vec Ideal S128x512 .f32) (x3 x4 : Vec Ideal S128x1024 .bf16)
    (x5 : Vec Ideal S1024x1024 .bf16) (x6 : Vec Ideal S512x1024 .bf16) (x7 : Vec Ideal S1024x1024 .bf16) (x8 x9 : Vec Ideal S1x512 .f32)
    (x10 x11 : Vec Ideal S1x1024 .f32) (r : Fin 128) (j : Fin 1024) :
    mixed x0 x1 x2 x3 x4 x5 x6 x7 x8 x9 x10 x11 (ix2 r j) = out ⟨x0, x1, x2, x3, x4, x5, x6, x7, x8, x9, x10, x11⟩ r j := by
  unfold mixed
  rw [pay5_apply]
  simp only [pay3_apply, pay4_apply]
  rfl

end Cert.Kernel6Ideal.Mix

end
-- ==== Proof.MixStore.lean ====
/- What the mixing call's first two result buffers hold after the point: the mixing of its blocks, and the same with each row
   laid out as eight rows. -/
module

public import proofs.«01_k».proof.Proof.MixFrame
public import proofs.«01_k».proof.Proof.MixBlock
public import Idealize.ShloMosaic.Lib.WritesUnit
public import Idealize.ShloMosaic.Lib.Pipeline.Value

@[expose] public section

set_option maxRecDepth 16384

noncomputable section

namespace Cert.Kernel6Ideal.Mix

open Idealize.ShloMosaic Idealize.ShloMosaic.TcCoe Cert.Kernel6Ideal Cert.Kernel6Ideal.Gen

/-- The origin of an array of two axes. -/
theorem origin2 : (![0, 0] : Fin 2 → ℕ) = fun _ => 0 := by decide

/-- A load of a buffer held whole reads its contents. -/
theorem readAt_whole {s : Shape} {e : EltTy} (mr : Memref sig .tc .vmem s e) (hm : mr.IsWhole) (x : Vec Ideal s e) {off : Fin s.rank → ℕ}
    (h : off = fun _ => 0) (inb : ∀ a, off a + s.size a ≤ s.size a) :
    View.readAt (Elt Ideal) mr.view (Rect.unit (s := s) off s.size inb).toLoadRect (hm.unread x) = x := by
  rw [show View.readAt (Elt Ideal) mr.view (Rect.unit (s := s) off s.size inb).toLoadRect (hm.unread x)
    = View.ld (mr.view.read (Elt Ideal) (hm.unread x)) (Rect.unit (s := s) off s.size inb) from rfl, hm.read_unread, View.ld_unit_zero h]

variable (m : (ℓ : Loc nD τ sig) → Buf (Elt Ideal) ℓ) (c : Dev nD) (t : Fin cfg0.N)

/-- The mixing of the point's blocks. -/
abbrev pointMixed : FVec Ideal S128x1024 .f32 :=
  mixed (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t)

/-- The mixing, as the body's loads give its operands. -/
theorem loaded (h0) (h1) (h2) (h3) (h4) (h5) (h6) (h7) (h8) (h9) (h10) (h11) :
    run.sl.r_2 (F := Ideal) c (ms0_0 t) h0 (ms0_1 t) h1 (ms0_2 t) h2 (ms0_3 t) h3 (ms0_4 t) h4 (ms0_5 t) h5 (ms0_6 t) h6 (ms0_7 t) h7
      (ms0_8 t) h8 (ms0_9 t) h9 (ms0_10 t) h10 (ms0_11 t) h11 (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) = pointMixed m c t := by
  unfold run.sl.r_2 run.sl.r run.sl.r_1 pointMixed mixed
  rw [readAt_whole (ms0_0 t) h0 _ origin2, readAt_whole (ms0_1 t) h1 _ origin2, readAt_whole (ms0_2 t) h2 _ origin2,
    readAt_whole (ms0_3 t) h3 _ origin2, readAt_whole (ms0_4 t) h4 _ origin2, readAt_whole (ms0_5 t) h5 _ origin2,
    readAt_whole (ms0_6 t) h6 _ origin2, readAt_whole (ms0_7 t) h7 _ origin2, readAt_whole (ms0_8 t) h8 _ origin2,
    readAt_whole (ms0_9 t) h9 _ origin2, readAt_whole (ms0_10 t) h10 _ origin2, readAt_whole (ms0_11 t) h11 _ origin2]

theorem at14_eq : at14 m c t = pointMixed m c t := by
  unfold at14 out14
  refine funext fun y => ?_
  refine View.read_writes_apply_of_pieces (Val := Elt Ideal) VO0_14 VO0_14.junk (pointMixed m c t) _ ?_ y ?_
  swap
  · apply cover14
  intro p hp x
  unfold L14 run at hp
  obtain rfl := List.mem_singleton.mp hp
  dsimp only at x ⊢
  refine (congrFun (loaded m c t _ _ _ _ _ _ _ _ _ _ _ _) x).trans (congrArg (pointMixed m c t) (funext fun a => Fin.ext ?_))
  match a with
  | ⟨0, _⟩ => show (x 0).val = 0 + 1 * (x 0).val; omega
  | ⟨1, _⟩ => show (x 1).val = 0 + 1 * (x 1).val; omega

/-- Each row of an array laid out as eight rows of 128 lanes. -/
def lanes (v : FVec Ideal S128x1024 .f32) : FVec Ideal S1024x128 .f32 := fun y =>
  v (ix2 ⟨(y 0).val / 8, by have : (y 0).val < 1024 := (y 0).isLt; omega⟩
    ⟨128 * ((y 0).val % 8) + (y 1).val, by have : (y 1).val < 128 := (y 1).isLt; omega⟩)

/-- Lane group `k` of an array, at the rows it is stored to. -/
theorem lane_group (k off : ℕ) (hk : k < 8) (ho : off = 128 * k) (v w : FVec Ideal S128x1024 .f32) (h : v = w) (sl) (inb) (sp)
    (x : S128x128.Idx) : extractStridedSlice S128x128 ![0, off] v sl x
      = lanes w ((⟨⟨![k, 0], S128x128.size, ![8, 1], inb⟩, sp⟩ : Rect S1024x128).emb x) := by
  subst h ho
  have h0 : (x 0).val < 128 := (x 0).isLt
  have h1 : (x 1).val < 128 := (x 1).isLt
  refine congrArg v (funext fun a => Fin.ext ?_)
  match a with
  | ⟨0, _⟩ => show 0 + (x 0).val = (k + 8 * (x 0).val) / 8; omega
  | ⟨1, _⟩ => show 128 * k + (x 1).val = 128 * ((k + 8 * (x 0).val) % 8) + (0 + 1 * (x 1).val); omega

theorem at15_eq : at15 m c t = lanes (pointMixed m c t) := by
  unfold at15 out15
  refine funext fun y => ?_
  refine View.read_writes_apply_of_pieces (Val := Elt Ideal) VO0_15 VO0_15.junk (lanes (pointMixed m c t)) _ ?_ y ?_
  swap
  · apply cover15
  intro p hp x
  unfold L15 run at hp
  dsimp only at hp
  simp only [List.mem_cons, List.not_mem_nil, or_false] at hp
  rcases hp with rfl | rfl | rfl | rfl | rfl | rfl | rfl | rfl
  · exact lane_group 7 896 (by norm_num) rfl _ _ (loaded m c t _ _ _ _ _ _ _ _ _ _ _ _) slices_S128x1024_o0_896_S128x128 _ _ x
  · exact lane_group 6 768 (by norm_num) rfl _ _ (loaded m c t _ _ _ _ _ _ _ _ _ _ _ _) slices_S128x1024_o0_768_S128x128 _ _ x
  · exact lane_group 5 640 (by norm_num) rfl _ _ (loaded m c t _ _ _ _ _ _ _ _ _ _ _ _) slices_S128x1024_o0_640_S128x128 _ _ x
  · exact lane_group 4 512 (by norm_num) rfl _ _ (loaded m c t _ _ _ _ _ _ _ _ _ _ _ _) slices_S128x1024_o0_512_S128x128 _ _ x
  · exact lane_group 3 384 (by norm_num) rfl _ _ (loaded m c t _ _ _ _ _ _ _ _ _ _ _ _) slices_S128x1024_o0_384_S128x128 _ _ x
  · exact lane_group 2 256 (by norm_num) rfl _ _ (loaded m c t _ _ _ _ _ _ _ _ _ _ _ _) slices_S128x1024_o0_256_S128x128 _ _ x
  · exact lane_group 1 128 (by norm_num) rfl _ _ (loaded m c t _ _ _ _ _ _ _ _ _ _ _ _) slices_S128x1024_o0_128_S128x128 _ _ x
  · exact lane_group 0 0 (by norm_num) rfl _ _ (loaded m c t _ _ _ _ _ _ _ _ _ _ _ _) slices_S128x1024_o0_0_S128x128 _ _ x

end Cert.Kernel6Ideal.Mix

end
-- ==== Proof.MixArray.lean ====
/- The mixing call's first two result arrays: the mixing of its argument arrays. -/
module

public import proofs.«01_k».proof.Proof.MixStore
public import Idealize.ShloMosaic.Lib.Pipeline.ValueKit

@[expose] public section

set_option maxRecDepth 8192

noncomputable section

namespace Cert.Kernel6Ideal.Mix

open Idealize.ShloMosaic Idealize.ShloMosaic.TcCoe Cert.Kernel6Ideal Cert.Kernel6Ideal.Gen Cert.MixSpec

/-- Each window's block lies at its array's origin: the arrays are taken whole. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

variable (m : (ℓ : Loc nD τ sig) → Buf (Elt Ideal) ℓ) (c : Dev nD) (t : Fin cfg0.N)

/-- The kernel's argument arrays. -/
def args : In :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11)⟩

/-! The three weights that the host only casts. -/

theorem wo_eq : (V m c main_v6 : FVec Ideal S1024x1024 .bf16) = (args m c).wo := by
  have e : (V m c main_v6 : FVec Ideal S1024x1024 .bf16) = truncf .bf16 (args m c).wo bitsLt_bf16_f32 := by
    unfold args
    unfold_abbrev_sides
    after_results
  rw [e]
  rfl

theorem wp_eq : (V m c main_v7 : FVec Ideal S512x1024 .bf16) = (args m c).wp := by
  have e : (V m c main_v7 : FVec Ideal S512x1024 .bf16) = truncf .bf16 (args m c).wp bitsLt_bf16_f32 := by
    unfold args
    unfold_abbrev_sides
    after_results
  rw [e]
  rfl

theorem wm_eq : (V m c main_v8 : FVec Ideal S1024x1024 .bf16) = (args m c).wm := by
  have e : (V m c main_v8 : FVec Ideal S1024x1024 .bf16) = truncf .bf16 (args m c).wm bitsLt_bf16_f32 := by
    unfold args
    unfold_abbrev_sides
    after_results
  rw [e]
  rfl

theorem iblk0 : (iblk m c 0 t : Vec Ideal S128x1024 .f32) = (args m c).x := by
  obtain ⟨e, _⟩ := index_facts t
  refine funext fun y => ?_
  show V m c main_arg0 (((cfg0.win 0).blk t).view.emb _) = _
  rw [V_main_arg0]
  refine congrArg (args m c).x (funext fun a => Fin.ext ?_)
  match a with
  | ⟨0, _⟩ => show win0_0.index t (0 : Fin 2) * 128 + 1 * (y 0).val = (y 0).val; omega
  | ⟨1, _⟩ => show win0_0.index t (1 : Fin 2) * 1024 + 1 * (y 1).val = (y 1).val; omega

theorem iblk1 : (iblk m c 1 t : Vec Ideal S128x1024 .bf16) = (args m c).o := by
  obtain ⟨_, e, _⟩ := index_facts t
  refine funext fun y => ?_
  show V m c main_arg1 (((cfg0.win 1).blk t).view.emb _) = _
  rw [V_main_arg1]
  refine congrArg (args m c).o (funext fun a => Fin.ext ?_)
  match a with
  | ⟨0, _⟩ => show win0_1.index t (0 : Fin 2) * 128 + 1 * (y 0).val = (y 0).val; omega
  | ⟨1, _⟩ => show win0_1.index t (1 : Fin 2) * 1024 + 1 * (y 1).val = (y 1).val; omega

theorem iblk2 : (iblk m c 2 t : Vec Ideal S128x512 .f32) = (args m c).y := by
  obtain ⟨_, _, e, _⟩ := index_facts t
  refine funext fun y => ?_
  show V m c main_arg2 (((cfg0.win 2).blk t).view.emb _) = _
  rw [V_main_arg2]
  refine congrArg (args m c).y (funext fun a => Fin.ext ?_)
  match a with
  | ⟨0, _⟩ => show win0_2.index t (0 : Fin 2) * 128 + 1 * (y 0).val = (y 0).val; omega
  | ⟨1, _⟩ => show win0_2.index t (1 : Fin 2) * 512 + 1 * (y 1).val = (y 1).val; omega

theorem iblk3 : (iblk m c 3 t : Vec Ideal S128x1024 .bf16) = (args m c).sa := by
  obtain ⟨_, _, _, e, _⟩ := index_facts t
  refine funext fun y => ?_
  show V m c main_arg3 (((cfg0.win 3).blk t).view.emb _) = _
  rw [V_main_arg3]
  refine congrArg (args m c).sa (funext fun a => Fin.ext ?_)
  match a with
  | ⟨0, _⟩ => show win0_3.index t (0 : Fin 2) * 128 + 1 * (y 0).val = (y 0).val; omega
  | ⟨1, _⟩ => show win0_3.index t (1 : Fin 2) * 1024 + 1 * (y 1).val = (y 1).val; omega

theorem iblk4 : (iblk m c 4 t : Vec Ideal S128x1024 .bf16) = (args m c).sb := by
  obtain ⟨_, _, _, _, e, _⟩ := index_facts t
  refine funext fun y => ?_
  show V m c main_arg4 (((cfg0.win 4).blk t).view.emb _) = _
  rw [V_main_arg4]
  refine congrArg (args m c).sb (funext fun a => Fin.ext ?_)
  match a with
  | ⟨0, _⟩ => show win0_4.index t (0 : Fin 2) * 128 + 1 * (y 0).val = (y 0).val; omega
  | ⟨1, _⟩ => show win0_4.index t (1 : Fin 2) * 1024 + 1 * (y 1).val = (y 1).val; omega

theorem iblk5 : (iblk m c 5 t : Vec Ideal S1024x1024 .bf16) = (args m c).wo := by
  obtain ⟨_, _, _, _, _, e, _⟩ := index_facts t
  refine funext fun y => ?_
  show V m c main_v6 (((cfg0.win 5).blk t).view.emb _) = _
  rw [wo_eq]
  refine congrArg (args m c).wo (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega

theorem iblk6 : (iblk m c 6 t : Vec Ideal S512x1024 .bf16) = (args m c).wp := by
  obtain ⟨_, _, _, _, _, _, e, _⟩ := index_facts t
  refine funext fun y => ?_
  show V m c main_v7 (((cfg0.win 6).blk t).view.emb _) = _
  rw [wp_eq]
  refine congrArg (args m c).wp (funext fun a => Fin.ext ?_)
  match a with
  | ⟨0, _⟩ => show win0_6.index t (0 : Fin 2) * 512 + 1 * (y 0).val = (y 0).val; omega
  | ⟨1, _⟩ => show win0_6.index t (1 : Fin 2) * 1024 + 1 * (y 1).val = (y 1).val; omega

theorem iblk7 : (iblk m c 7 t : Vec Ideal S1024x1024 .bf16) = (args m c).wm := by
  obtain ⟨_, _, _, _, _, _, _, e, _⟩ := index_facts t
  refine funext fun y => ?_
  show V m c main_v8 (((cfg0.win 7).blk t).view.emb _) = _
  rw [wm_eq]
  refine congrArg (args m c).wm (funext fun a => Fin.ext ?_)
  match a with
  | ⟨0, _⟩ => show win0_7.index t (0 : Fin 2) * 1024 + 1 * (y 0).val = (y 0).val; omega
  | ⟨1, _⟩ => show win0_7.index t (1 : Fin 2) * 1024 + 1 * (y 1).val = (y 1).val; omega

theorem iblk8 : (iblk m c 8 t : Vec Ideal S1x512 .f32) = (args m c).cg := by
  obtain ⟨_, _, _, _, _, _, _, _, e, _⟩ := index_facts t
  refine funext fun y => ?_
  show V m c main_arg8 (((cfg0.win 8).blk t).view.emb _) = _
  rw [V_main_arg8]
  refine congrArg (args m c).cg (funext fun a => Fin.ext ?_)
  match a with
  | ⟨0, _⟩ => show win0_8.index t (0 : Fin 2) * 1 + 1 * (y 0).val = (y 0).val; omega
  | ⟨1, _⟩ => show win0_8.index t (1 : Fin 2) * 512 + 1 * (y 1).val = (y 1).val; omega

theorem iblk9 : (iblk m c 9 t : Vec Ideal S1x512 .f32) = (args m c).cb := by
  obtain ⟨_, _, _, _, _, _, _, _, _, e, _⟩ := index_facts t
  refine funext fun y => ?_
  show V m c main_arg9 (((cfg0.win 9).blk t).view.emb _) = _
  rw [V_main_arg9]
  refine congrArg (args m c).cb (funext fun a => Fin.ext ?_)
  match a with
  | ⟨0, _⟩ => show win0_9.index t (0 : Fin 2) * 1 + 1 * (y 0).val = (y 0).val; omega
  | ⟨1, _⟩ => show win0_9.index t (1 : Fin 2) * 512 + 1 * (y 1).val = (y 1).val; omega

theorem iblk10 : (iblk m c 10 t : Vec Ideal S1x1024 .f32) = (args m c).g := by
  obtain ⟨_, _, _, _, _, _, _, _, _, _, e, _⟩ := index_facts t
  refine funext fun y => ?_
  show V m c main_arg10 (((cfg0.win 10).blk t).view.emb _) = _
  rw [V_main_arg10]
  refine congrArg (args m c).g (funext fun a => Fin.ext ?_)
  match a with
  | ⟨0, _⟩ => show win0_10.index t (0 : Fin 2) * 1 + 1 * (y 0).val = (y 0).val; omega
  | ⟨1, _⟩ => show win0_10.index t (1 : Fin 2) * 1024 + 1 * (y 1).val = (y 1).val; omega

theorem iblk11 : (iblk m c 11 t : Vec Ideal S1x1024 .f32) = (args m c).b := by
  obtain ⟨_, _, _, _, _, _, _, _, _, _, _, e, _⟩ := index_facts t
  refine funext fun y => ?_
  show V m c main_arg11 (((cfg0.win 11).blk t).view.emb _) = _
  rw [V_main_arg11]
  refine congrArg (args m c).b (funext fun a => Fin.ext ?_)
  match a with
  | ⟨0, _⟩ => show win0_11.index t (0 : Fin 2) * 1 + 1 * (y 0).val = (y 0).val; omega
  | ⟨1, _⟩ => show win0_11.index t (1 : Fin 2) * 1024 + 1 * (y 1).val = (y 1).val; omega

theorem pointMixed_apply (r : Fin 128) (j : Fin 1024) : pointMixed m c t (ix2 r j) = out (args m c) r j := by
  unfold pointMixed
  rw [mixed_apply, iblk0, iblk1, iblk2, iblk3, iblk4, iblk5, iblk6, iblk7, iblk8, iblk9, iblk10, iblk11]

/-- Result array 0 after the run. -/
theorem final14 : (dats m 0 c).arrAt 14 cfg0.N = (first (args m c) : Vec Ideal S128x1024 .f32) := by
  refine (dats m 0 c).arrAt_eq_of_covers 14 _ (by decide +kernel) fun t _ y => ?_
  obtain ⟨_, _, _, _, _, _, _, _, _, _, _, _, e, _⟩ := index_facts t
  have h : ∀ z : S128x1024.Idx, at14 m c t z = first (args m c) z := fun z => by
    rw [at14_eq]
    obtain ⟨r, j, rfl⟩ : ∃ (r : Fin 128) (j : Fin 1024), z = ix2 r j := ⟨z 0, z 1, eq_ix2 z⟩
    exact pointMixed_apply m c t r j
  blk_simp
  rw [after0_14, h]
  refine congrArg (first (args m c)) (funext fun a => Fin.ext ?_)
  match a with
  | ⟨0, _⟩ => show (y 0).val = win0_14.index t (0 : Fin 2) * 128 + 1 * (y 0).val; omega
  | ⟨1, _⟩ => show (y 1).val = win0_14.index t (1 : Fin 2) * 1024 + 1 * (y 1).val; omega

/-- Result array 1 after the run. -/
theorem final15 : (dats m 0 c).arrAt 15 cfg0.N = (second (args m c) : Vec Ideal S1024x128 .f32) := by
  refine (dats m 0 c).arrAt_eq_of_covers 15 _ (by decide +kernel) fun t _ y => ?_
  obtain ⟨_, _, _, _, _, _, _, _, _, _, _, _, _, e⟩ := index_facts t
  have h : ∀ z : S1024x128.Idx, at15 m c t z = second (args m c) z := fun z => by
    rw [at15_eq]
    exact pointMixed_apply m c t _ _
  blk_simp
  rw [after0_15, h]
  refine congrArg (second (args m c)) (funext fun a => Fin.ext ?_)
  match a with
  | ⟨0, _⟩ => show (y 0).val = win0_15.index t (0 : Fin 2) * 1024 + 1 * (y 0).val; omega
  | ⟨1, _⟩ => show (y 1).val = win0_15.index t (1 : Fin 2) * 128 + 1 * (y 1).val; omega

end Cert.Kernel6Ideal.Mix

end
-- ==== Proof.MixRef.lean ====
/- The sample's mixing reference at an index, as the plain sums. -/
module

public import proofs.«01_k».proof.Proof.MixSpec
public import proofs.«01_k».proof.Proof.Gen.Reference6Ideal.Read
public import Idealize.ShloMosaic.Lib.Tactic.CleanTypes

@[expose] public section

set_option maxRecDepth 16384

noncomputable section

namespace Cert.Reference6Ideal.Mix

open Idealize.ShloMosaic Cert.Reference6Ideal Cert.Reference6Ideal.Gen Cert.Reference6Ideal.Read Cert.MixSpec

variable (I : In)

theorem right_apply (r : Fin 128) (k : Fin 1024) : val_main_v1 (F := Ideal) I.o I.wo (ix2 r k) = right I r k := by
  unfold right
  pointwise [val_main_v1, val_main_v0]

theorem conv_apply (r : Fin 128) (i : Fin 512) : val_main_v23 (F := Ideal) I.y I.cg I.cb (ix2 r i)
    = lnorm (Ideal.ofBits .f32 0x44000000#32) (fun i => I.y (ix2 r i)) (fun i => I.cg (ix2 0 i)) (fun i => I.cb (ix2 0 i)) i := by
  unfold lnorm mean
  pointwise [val_main_v23, val_main_v22, val_main_v21, val_main_v20, val_main_v19, val_main_v18, val_main_v17, val_main_v16, val_main_v15, val_main_cst_3, val_main_v14, val_main_v13, val_main_v12, val_main_v11, val_main_cst_2, val_main_v10, val_main_v9, val_main_cst_1, val_main_v8, val_main_v7, val_main_v6, val_main_v5, val_main_v4, val_main_cst_0, val_main_v3, val_main_v2, val_main_cst]

theorem left_apply (r : Fin 128) (k : Fin 1024) : val_main_v25 (F := Ideal) I.y I.wp I.cg I.cb (ix2 r k) = left I r k := by
  unfold left silu Ideal.logistic
  pointwise [val_main_v25, val_main_v24, val_main_call0_v5, val_main_call0_v4, val_main_call0_cst_0, val_main_call0_v3, val_main_call0_v2, val_main_call0_cst, val_main_call0_v1, val_main_call0_v0, conv_apply]

theorem resid_apply (r : Fin 128) (j : Fin 1024) :
    val_main_v34 (F := Ideal) I.x I.o I.y I.sa I.sb I.wo I.wp I.wm I.cg I.cb (ix2 r j) = resid I r j := by
  unfold resid
  pointwise [val_main_v34, val_main_v33, val_main_v32, val_main_cst_4, val_main_v31, val_main_v30, val_main_v29, val_main_v28, val_main_v27, val_main_v26, left_apply, right_apply]

theorem out_apply (r : Fin 128) (j : Fin 1024) :
    val_main_v56 (F := Ideal) I.x I.o I.y I.sa I.sb I.wo I.wp I.wm I.cg I.cb I.g I.b (ix2 r j) = out I r j := by
  unfold out lnorm mean
  pointwise [val_main_v56, val_main_v55, val_main_v54, val_main_v53, val_main_v52, val_main_v51, val_main_v50, val_main_v49, val_main_v48, val_main_cst_9, val_main_v47, val_main_v46, val_main_v45, val_main_v44, val_main_cst_8, val_main_v43, val_main_v42, val_main_cst_7, val_main_v41, val_main_v40, val_main_v39, val_main_v38, val_main_v37, val_main_cst_6, val_main_v36, val_main_v35, val_main_cst_5, resid_apply]

theorem first_eq : val_main_v56 (F := Ideal) I.x I.o I.y I.sa I.sb I.wo I.wp I.wm I.cg I.cb I.g I.b = first I := by
  refine funext fun y => ?_
  obtain ⟨r, j, rfl⟩ : ∃ (r : Fin 128) (j : Fin 1024), y = ix2 r j := ⟨y 0, y 1, eq_ix2 y⟩
  exact out_apply I r j

theorem second_eq : val_main_v57 (F := Ideal) I.x I.o I.y I.sa I.sb I.wo I.wp I.wm I.cg I.cb I.g I.b = second I := by
  refine funext fun y => ?_
  obtain ⟨t, l, rfl⟩ : ∃ (t : Fin 1024) (l : Fin 128), y = ix2 t l := ⟨y 0, y 1, eq_ix2 y⟩
  pointwise [val_main_v57]
  refine (out_apply I _ _).trans ?_
  unfold second
  exact congrArg (out I _) (Fin.ext (by show _ = 128 * (t.val % 8) + l.val; dsimp only; omega))

end Cert.Reference6Ideal.Mix

end
-- ==== Proof.Mixing.lean ====
/- The claims about the sample's mixing: the frames and the value. -/
module

public import proofs.«01_k».proof.Defs
public import proofs.«01_k».proof.Proof.MixFrameBits
public import proofs.«01_k».proof.Proof.MixArray
public import proofs.«01_k».proof.Proof.MixRef
public import proofs.«01_k».proof.Proof.Gen.Reference6Ideal.Run
public import Idealize.ShloMosaic.Lib.Quiescent

@[expose] public section

set_option maxRecDepth 8192

noncomputable section

namespace Cert.Proof.Mixing

open Idealize.ShloMosaic Idealize.SL.Sem Cert.MixSpec

/-- The kernel runs to its end and keeps its arguments. -/
theorem kernel_frame : Cert.quiescent_Kernel6 (hKernel6 := Cert.Kernel6.Gen.facts) := fun m ρ _ => Cert.Kernel6.Mix.frame m ρ

/-- So does the kernel over the extended reals. -/
theorem ideal_frame : Cert.quiescent_Kernel6Ideal (hKernel6Ideal := Cert.Kernel6Ideal.Gen.facts) := fun m ρ _ => Cert.Kernel6Ideal.Mix.frame m ρ

/-- And so does the reference. -/
theorem reference_frame : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The reference's argument arrays. -/
def rargs (m : (ℓ : Loc Cert.Reference6Ideal.nD Cert.Reference6Ideal.τ Cert.Reference6Ideal.sig) → Buf (Elt Ideal) ℓ) (c : Dev Cert.Reference6Ideal.nD) : In :=
  ⟨m ((c.tc : Thread Cert.Reference6Ideal.nD Cert.Reference6Ideal.τ).loc Cert.Reference6Ideal.main_arg0),
      m ((c.tc : Thread Cert.Reference6Ideal.nD Cert.Reference6Ideal.τ).loc Cert.Reference6Ideal.main_arg1),
      m ((c.tc : Thread Cert.Reference6Ideal.nD Cert.Reference6Ideal.τ).loc Cert.Reference6Ideal.main_arg2),
      m ((c.tc : Thread Cert.Reference6Ideal.nD Cert.Reference6Ideal.τ).loc Cert.Reference6Ideal.main_arg3),
      m ((c.tc : Thread Cert.Reference6Ideal.nD Cert.Reference6Ideal.τ).loc Cert.Reference6Ideal.main_arg4),
      m ((c.tc : Thread Cert.Reference6Ideal.nD Cert.Reference6Ideal.τ).loc Cert.Reference6Ideal.main_arg5),
      m ((c.tc : Thread Cert.Reference6Ideal.nD Cert.Reference6Ideal.τ).loc Cert.Reference6Ideal.main_arg6),
      m ((c.tc : Thread Cert.Reference6Ideal.nD Cert.Reference6Ideal.τ).loc Cert.Reference6Ideal.main_arg7),
      m ((c.tc : Thread Cert.Reference6Ideal.nD Cert.Reference6Ideal.τ).loc Cert.Reference6Ideal.main_arg8),
      m ((c.tc : Thread Cert.Reference6Ideal.nD Cert.Reference6Ideal.τ).loc Cert.Reference6Ideal.main_arg9),
      m ((c.tc : Thread Cert.Reference6Ideal.nD Cert.Reference6Ideal.τ).loc Cert.Reference6Ideal.main_arg10),
      m ((c.tc : Thread Cert.Reference6Ideal.nD Cert.Reference6Ideal.τ).loc Cert.Reference6Ideal.main_arg11)⟩

/-- The kernel and the reference end with the same two arrays. -/
theorem value : Cert.algebraic_Kernel6Ideal_Reference6Ideal (hKernel6Ideal := Cert.Kernel6Ideal.Gen.facts)
    (hReference6Ideal := Cert.Reference6Ideal.Gen.facts) := by
  intro m ρ m' ρ' _ hagree
  have e : ∀ c, rargs m' c = Cert.Kernel6Ideal.Mix.args m c := fun c => by
    obtain ⟨h0, h1, h2, h3, h4, h5, h6, h7, h8, h9, h10, h11, -⟩ := hagree c
    unfold rargs Cert.Kernel6Ideal.Mix.args
    rw [h0, h1, h2, h3, h4, h5, h6, h7, h8, h9, h10, h11]
  refine ⟨fun c => first (Cert.Kernel6Ideal.Mix.args m c), fun c => second (Cert.Kernel6Ideal.Mix.args m c), ?_, ?_⟩
  · refine (θ_run Cert.Kernel6Ideal.defs _ _).mono (fun _ h c => ?_)
      (θ_run_and (Cert.Kernel6Ideal.Mix.run_main (F := Ideal) m ρ) (Cert.Kernel6Ideal.Mix.unchanged (F := Ideal) m ρ))
    obtain ⟨ha, -⟩ := h.1 c
    exact ⟨(ha 14).trans (Cert.Kernel6Ideal.Mix.final14 m c), (ha 15).trans (Cert.Kernel6Ideal.Mix.final15 m c), h.2 c⟩
  · refine (θ_run Cert.Reference6Ideal.defs _ _).mono (fun _ h c => ?_) (Cert.Reference6Ideal.Value.run (F := Ideal) m' ρ')
    obtain ⟨h0, h1, hk⟩ := h c
    beta_reduce
    rw [← e c]
    exact ⟨h0.trans ((Cert.Reference6Ideal.Read.val_main_v56_eq _ _).trans (Cert.Reference6Ideal.Mix.first_eq (rargs m' c))),
      h1.trans ((Cert.Reference6Ideal.Read.val_main_v57_eq _ _).trans (Cert.Reference6Ideal.Mix.second_eq (rargs m' c))), hk⟩

end Cert.Proof.Mixing

end
-- ==== Proof.SampConv.lean ====
/- The convolution of the sample's tokens: the result array, as 31 products a channel. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Tactic.CleanTypes

@[expose] public section

set_option maxRecDepth 8192

noncomputable section

namespace Cert.Kernel7Ideal.Conv

open Idealize.ShloMosaic Idealize.ShloMosaic.TcCoe Cert.Kernel7Ideal Cert.Kernel7Ideal.Gen

/-- The convolution's one position: each channel's 31 rows against its 31 weights, and the bias. -/
def conv (e : FVec Ideal (⟨3, ![128, 31, 512]⟩ : Shape) .f32) (w : FVec Ideal (⟨2, ![31, 512]⟩ : Shape) .f32)
    (b : FVec Ideal (⟨2, ![1, 512]⟩ : Shape) .f32) (r : Fin 128) (l : Fin 512) : EReal :=
  ∑ k : Fin 31, e (ix3 r k l) * w (ix2 k l) + b (ix2 0 l)

theorem origin : (![0, 0] : Fin 2 → ℕ) = fun _ => 0 := by decide

/-- A running sum from `b` over 31 terms. -/
theorem running_sum (b : EReal) (f : Fin 31 → EReal) :
    b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ k, f k + b := by
  rw [add_comm (∑ k, f k) b]
  simp only [Fin.sum_univ_castSucc, Finset.univ_eq_empty, Finset.sum_empty, zero_add, add_assoc]
  rfl

variable (m : (ℓ : Loc nD τ sig) → Buf (Elt Ideal) ℓ) (c : Dev nD) (t : Fin cfg0.N)

/-- The kernel's rows, weights and bias. -/
def rows : FVec Ideal S128x31x512 .f32 := m ((c : Thread nD τ).loc main_arg0)
def weights : FVec Ideal S31x512 .f32 := m ((c : Thread nD τ).loc main_arg1)
def bias : FVec Ideal S1x512 .f32 := m ((c : Thread nD τ).loc main_arg2)

/-- The host's padding leaves the 31 weights where they are. -/
theorem pad_apply (k : Fin 31) (l : Fin 512) : (V m c main_v1 : FVec Ideal S32x512 .f32) (ix2 ⟨k, by omega⟩ l) = weights m c (ix2 k l) := by
  unfold weights
  unfold_abbrev_sides
  after_results
  pointwise

/-- The host turns the rows so that the taps come first. -/
theorem turned_apply (k : Fin 31) (r : Fin 128) (l : Fin 512) :
    (V m c main_v2 : FVec Ideal S31x128x512 .f32) (ix3 k r l) = rows m c (ix3 r k l) := by
  unfold rows
  unfold_abbrev_sides
  after_results
  pointwise

theorem out3_apply (x0 : Vec Ideal S31x128x512 .f32) (x1 : Vec Ideal S32x512 .f32) (x2 : Vec Ideal S1x512 .f32) (r : Fin 128) (l : Fin 512) :
    out0_3 x0 x1 x2 (ix2 r l) = ∑ k : Fin 31, x1 (ix2 ⟨k, by omega⟩ l) * x0 (ix3 k r l) + x2 (ix2 0 l) := by
  unfold out0_3
  rw [View.canon_unit_zero origin]
  pointwise [k0_pay1, k0_pay2, k0_pay3, k0_pay4, k0_pay5, k0_pay6, k0_pay7, k0_pay8, k0_pay9, k0_pay10, k0_pay11, k0_pay12, k0_pay13]
  exact running_sum (x2 (ix2 0 l)) fun k => x1 (ix2 ⟨k, by omega⟩ l) * x0 (ix3 k r l)

/-- Each window's block lies at its array's origin: the arrays are taken whole. -/
theorem index_facts : ∀ t : Fin cfg0.N,
    (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

theorem iblk0 (k : Fin 31) (r : Fin 128) (l : Fin 512) : (iblk m c 0 t : Vec Ideal S31x128x512 .f32) (ix3 k r l) = rows m c (ix3 r k l) := by
  obtain ⟨e, _⟩ := index_facts t
  rw [← turned_apply]
  show V m c main_v2 (((cfg0.win 0).blk t).view.emb _) = _
  refine congrArg (V m c main_v2) (funext fun a => Fin.ext ?_)
  match a with
  | ⟨0, _⟩ => show win0_0.index t (0 : Fin 3) * 31 + 1 * k.val = k.val; omega
  | ⟨1, _⟩ => show win0_0.index t (1 : Fin 3) * 128 + 1 * r.val = r.val; omega
  | ⟨2, _⟩ => show win0_0.index t (2 : Fin 3) * 512 + 1 * l.val = l.val; omega

theorem iblk1 (k : Fin 31) (l : Fin 512) : (iblk m c 1 t : Vec Ideal S32x512 .f32) (ix2 ⟨k, by omega⟩ l) = weights m c (ix2 k l) := by
  obtain ⟨_, e, _⟩ := index_facts t
  rw [← pad_apply]
  show V m c main_v1 (((cfg0.win 1).blk t).view.emb _) = _
  refine congrArg (V m c main_v1) (funext fun a => Fin.ext ?_)
  match a with
  | ⟨0, _⟩ => show win0_1.index t (0 : Fin 2) * 32 + 1 * k.val = k.val; omega
  | ⟨1, _⟩ => show win0_1.index t (1 : Fin 2) * 512 + 1 * l.val = l.val; omega

theorem iblk2 (l : Fin 512) : (iblk m c 2 t : Vec Ideal S1x512 .f32) (ix2 0 l) = bias m c (ix2 0 l) := by
  obtain ⟨_, _, e, _⟩ := index_facts t
  show V m c main_arg2 (((cfg0.win 2).blk t).view.emb _) = _
  rw [V_main_arg2]
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 512 + 1 * l.val = l.val; omega

/-- The result array after the run. -/
theorem final3 : (dats m 0 c).arrAt 3 cfg0.N = ((fun y => conv (rows m c) (weights m c) (bias m c) (y 0) (y 1)) : Vec Ideal S128x512 .f32) := by
  refine (dats m 0 c).arrAt_eq_of_covers 3 _ (by decide +kernel) fun t _ y => ?_
  obtain ⟨_, _, _, e⟩ := index_facts t
  have h : ∀ (r : Fin 128) (l : Fin 512), out0_3 (iblk m c 0 t) (iblk m c 1 t) (iblk m c 2 t) (ix2 r l)
      = conv (rows m c) (weights m c) (bias m c) r l := fun r l => by
    rw [out3_apply]
    unfold conv
    simp only [iblk0, iblk1, iblk2]
    exact congrArg (· + _) (Finset.sum_congr rfl fun k _ => mul_comm _ _)
  blk_simp
  rw [after0_3]
  obtain ⟨r, l, rfl⟩ : ∃ (r : Fin 128) (l : Fin 512), y = ix2 r l := ⟨y 0, y 1, eq_ix2 y⟩
  rw [h]
  refine congr (congrArg _ (Fin.ext ?_)) (Fin.ext ?_)
  · show r.val = win0_3.index t (0 : Fin 2) * 128 + 1 * r.val; omega
  · show l.val = win0_3.index t (1 : Fin 2) * 512 + 1 * l.val; omega

end Cert.Kernel7Ideal.Conv

namespace Cert.Reference7Ideal.Conv

open Idealize.ShloMosaic Cert.Reference7Ideal Cert.Reference7Ideal.Gen Cert.Reference7Ideal.Read Cert.Kernel7Ideal.Conv

/-- The reference's array, at an index. -/
theorem conv_apply (e : FVec Ideal S128x31x512 .f32) (w : FVec Ideal S31x512 .f32) (b : FVec Ideal S1x512 .f32) (r : Fin 128) (l : Fin 512) :
    val_main_v5 (F := Ideal) e w b (ix2 r l) = conv e w b r l := by
  unfold conv
  pointwise [val_main_v5, val_main_v4, val_main_v3, val_main_cst, val_main_v2, val_main_v1, val_main_v0]

theorem conv_rows (e : FVec Ideal S128x31x512 .f32) (w : FVec Ideal S31x512 .f32) (b : FVec Ideal S1x512 .f32) :
    val_main_v5 (F := Ideal) e w b = fun y => conv e w b (y 0) (y 1) := by
  refine funext fun y => ?_
  obtain ⟨r, l, rfl⟩ : ∃ (r : Fin 128) (l : Fin 512), y = ix2 r l := ⟨y 0, y 1, eq_ix2 y⟩
  exact conv_apply e w b r l

end Cert.Reference7Ideal.Conv

end
-- ==== Proof.SampDense.lean ====
/- The sample's two dense products: their result arrays, as plain sums. -/
module

public import proofs.«01_k».proof.Proof.SampConv
public import proofs.«01_k».proof.Proof.Gen.Kernel8Ideal.Value
public import proofs.«01_k».proof.Proof.Gen.Kernel9Ideal.Value
public import proofs.«01_k».proof.Proof.Gen.Reference8Ideal.Read
public import proofs.«01_k».proof.Proof.Gen.Reference9Ideal.Read

@[expose] public section

set_option maxRecDepth 8192

noncomputable section

open Idealize.ShloMosaic in
/-- Row `r` of the left array times column `l` of the right one. -/
def Cert.DenseSpec.prod {K N : ℕ} {p q : FTy} (a : FVec Ideal (⟨2, ![128, K]⟩ : Shape) p) (w : FVec Ideal (⟨2, ![K, N]⟩ : Shape) q)
    (r : Fin 128) (l : Fin N) : EReal := ∑ k : Fin K, a (ix2 r k) * w (ix2 k l)

open Cert.DenseSpec

namespace Cert.Kernel8Ideal.Dense

open Idealize.ShloMosaic Idealize.ShloMosaic.TcCoe Cert.Kernel8Ideal Cert.Kernel8Ideal.Gen

variable (m : (ℓ : Loc nD τ sig) → Buf (Elt Ideal) ℓ) (c : Dev nD) (t : Fin cfg0.N)

/-- The kernel's two argument arrays. -/
def left : FVec Ideal S128x1024 .bf16 := m ((c : Thread nD τ).loc main_arg0)
def right : FVec Ideal S1024x4096 .bf16 := m ((c : Thread nD τ).loc main_arg1)

theorem out2_apply (x0 : Vec Ideal S128x1024 .bf16) (x1 : Vec Ideal S1024x4096 .bf16) (r : Fin 128) (l : Fin 4096) :
    out0_2 x0 x1 (ix2 r l) = ∑ k : Fin 1024, x0 (ix2 r k) * x1 (ix2 k l) := by
  unfold out0_2
  rw [View.canon_unit_zero Cert.Kernel7Ideal.Conv.origin]
  pointwise [k0_pay1]

/-- The arrays are taken whole. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

theorem iblk0 (r : Fin 128) (k : Fin 1024) : (iblk m c 0 t : Vec Ideal S128x1024 .bf16) (ix2 r k) = left m c (ix2 r k) := by
  obtain ⟨e, _⟩ := index_facts t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 128 + 1 * r.val = r.val; omega
  | ⟨1, _⟩ => show win0_0.index t (1 : Fin 2) * 1024 + 1 * k.val = k.val; omega

theorem iblk1 (k : Fin 1024) (l : Fin 4096) : (iblk m c 1 t : Vec Ideal S1024x4096 .bf16) (ix2 k l) = right m c (ix2 k l) := by
  obtain ⟨_, e, _⟩ := index_facts t
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 1024 + 1 * k.val = k.val; omega
  | ⟨1, _⟩ => show win0_1.index t (1 : Fin 2) * 4096 + 1 * l.val = l.val; omega

/-- The result array after the run. -/
theorem final2 : (dats m 0 c).arrAt 2 cfg0.N = ((fun y => prod (left m c) (right m c) (y 0) (y 1)) : Vec Ideal S128x4096 .f32) := by
  refine (dats m 0 c).arrAt_eq_of_covers 2 _ (by decide +kernel) fun t _ y => ?_
  obtain ⟨_, _, e⟩ := index_facts t
  have h : ∀ (r : Fin 128) (l : Fin 4096), out0_2 (iblk m c 0 t) (iblk m c 1 t) (ix2 r l) = prod (left m c) (right m c) r l := fun r l => by
    rw [out2_apply]
    unfold prod
    simp only [iblk0, iblk1]
  blk_simp
  rw [after0_2]
  obtain ⟨r, l, rfl⟩ : ∃ (r : Fin 128) (l : Fin 4096), y = ix2 r l := ⟨y 0, y 1, eq_ix2 y⟩
  rw [h]
  refine congr (congrArg _ (Fin.ext ?_)) (Fin.ext ?_)
  · show r.val = win0_2.index t (0 : Fin 2) * 128 + 1 * r.val; omega
  · show l.val = win0_2.index t (1 : Fin 2) * 4096 + 1 * l.val; omega

end Cert.Kernel8Ideal.Dense

namespace Cert.Reference8Ideal.Dense

open Idealize.ShloMosaic Cert.Reference8Ideal Cert.Reference8Ideal.Gen Cert.Reference8Ideal.Read

/-- The reference's array. -/
theorem prod_rows (a : FVec Ideal S128x1024 .bf16) (w : FVec Ideal S1024x4096 .bf16) :
    val_main_v2 (F := Ideal) a w = fun y => prod a w (y 0) (y 1) := by
  refine funext fun y => ?_
  obtain ⟨r, l, rfl⟩ : ∃ (r : Fin 128) (l : Fin 4096), y = ix2 r l := ⟨y 0, y 1, eq_ix2 y⟩
  unfold prod
  pointwise [val_main_v2, val_main_v1, val_main_v0]

end Cert.Reference8Ideal.Dense

namespace Cert.Kernel9Ideal.Dense

open Idealize.ShloMosaic Idealize.ShloMosaic.TcCoe Cert.Kernel9Ideal Cert.Kernel9Ideal.Gen

variable (m : (ℓ : Loc nD τ sig) → Buf (Elt Ideal) ℓ) (c : Dev nD) (t : Fin cfg0.N)

/-- The kernel's two argument arrays. -/
def left : FVec Ideal S128x4096 .f32 := m ((c : Thread nD τ).loc main_arg0)
def right : FVec Ideal S4096x1024 .bf16 := m ((c : Thread nD τ).loc main_arg1)

theorem out2_apply (x0 : Vec Ideal S128x4096 .f32) (x1 : Vec Ideal S4096x1024 .bf16) (r : Fin 128) (l : Fin 1024) :
    out0_2 x0 x1 (ix2 r l) = ∑ k : Fin 4096, x0 (ix2 r k) * x1 (ix2 k l) := by
  unfold out0_2
  rw [View.canon_unit_zero Cert.Kernel7Ideal.Conv.origin]
  pointwise [k0_pay1]

/-- The arrays are taken whole. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

theorem iblk0 (r : Fin 128) (k : Fin 4096) : (iblk m c 0 t : Vec Ideal S128x4096 .f32) (ix2 r k) = left m c (ix2 r k) := by
  obtain ⟨e, _⟩ := index_facts t
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 128 + 1 * r.val = r.val; omega
  | ⟨1, _⟩ => show win0_0.index t (1 : Fin 2) * 4096 + 1 * k.val = k.val; omega

theorem iblk1 (k : Fin 4096) (l : Fin 1024) : (iblk m c 1 t : Vec Ideal S4096x1024 .bf16) (ix2 k l) = right m c (ix2 k l) := by
  obtain ⟨_, e, _⟩ := index_facts t
  show V m c main_arg1 (((cfg0.win 1).blk t).view.emb _) = _
  rw [V_main_arg1]
  refine congrArg (m ((c : Thread nD τ).loc main_arg1)) (funext fun a => Fin.ext ?_)
  match a with
  | ⟨0, _⟩ => show win0_1.index t (0 : Fin 2) * 4096 + 1 * k.val = k.val; omega
  | ⟨1, _⟩ => show win0_1.index t (1 : Fin 2) * 1024 + 1 * l.val = l.val; omega

/-- The result array after the run. -/
theorem final2 : (dats m 0 c).arrAt 2 cfg0.N = ((fun y => prod (left m c) (right m c) (y 0) (y 1)) : Vec Ideal S128x1024 .bf16) := by
  refine (dats m 0 c).arrAt_eq_of_covers 2 _ (by decide +kernel) fun t _ y => ?_
  obtain ⟨_, _, e⟩ := index_facts t
  have h : ∀ (r : Fin 128) (l : Fin 1024), out0_2 (iblk m c 0 t) (iblk m c 1 t) (ix2 r l) = prod (left m c) (right m c) r l := fun r l => by
    rw [out2_apply]
    unfold prod
    simp only [iblk0, iblk1]
  blk_simp
  rw [after0_2]
  obtain ⟨r, l, rfl⟩ : ∃ (r : Fin 128) (l : Fin 1024), y = ix2 r l := ⟨y 0, y 1, eq_ix2 y⟩
  rw [h]
  refine congr (congrArg _ (Fin.ext ?_)) (Fin.ext ?_)
  · show r.val = win0_2.index t (0 : Fin 2) * 128 + 1 * r.val; omega
  · show l.val = win0_2.index t (1 : Fin 2) * 1024 + 1 * l.val; omega

end Cert.Kernel9Ideal.Dense

namespace Cert.Reference9Ideal.Dense

open Idealize.ShloMosaic Cert.Reference9Ideal Cert.Reference9Ideal.Gen Cert.Reference9Ideal.Read

/-- The reference's array. -/
theorem prod_rows (a : FVec Ideal S128x4096 .f32) (w : FVec Ideal S4096x1024 .bf16) :
    val_main_v2 (F := Ideal) a w = fun y => prod a w (y 0) (y 1) := by
  refine funext fun y => ?_
  obtain ⟨r, l, rfl⟩ : ∃ (r : Fin 128) (l : Fin 1024), y = ix2 r l := ⟨y 0, y 1, eq_ix2 y⟩
  unfold prod
  pointwise [val_main_v2, val_main_v1, val_main_v0]

end Cert.Reference9Ideal.Dense

end
-- ==== Proof.Products.lean ====
/- The claims about the sample's convolution and its two dense products: the frames and the values. -/
module

public import proofs.«01_k».proof.Defs
public import proofs.«01_k».proof.Proof.SampDense
public import proofs.«01_k».proof.Proof.Gen.Kernel7.Frame
public import proofs.«01_k».proof.Proof.Gen.Kernel8.Frame
public import proofs.«01_k».proof.Proof.Gen.Kernel9.Frame
public import proofs.«01_k».proof.Proof.Gen.Reference7Ideal.Run
public import proofs.«01_k».proof.Proof.Gen.Reference8Ideal.Run
public import proofs.«01_k».proof.Proof.Gen.Reference9Ideal.Run
public import Idealize.ShloMosaic.Lib.Quiescent

@[expose] public section

set_option maxRecDepth 8192

noncomputable section

namespace Cert.Proof.Products

open Idealize.ShloMosaic Idealize.SL.Sem

/-- The sample's convolution runs to its end and keeps its arguments. -/
theorem kernel7_frame : Cert.quiescent_Kernel7 (hKernel7 := Cert.Kernel7.Gen.facts) := fun m ρ _ => Cert.Kernel7.Gen.frame m ρ

/-- So does it over the extended reals. -/
theorem ideal7_frame : Cert.quiescent_Kernel7Ideal (hKernel7Ideal := Cert.Kernel7Ideal.Gen.facts) := fun m ρ _ => Cert.Kernel7Ideal.Gen.frame m ρ

/-- And so does its reference. -/
theorem reference7_frame : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The sample's convolution and its reference end with the same array. -/
theorem value7 : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => fun y => Cert.Kernel7Ideal.Conv.conv (Cert.Kernel7Ideal.Conv.rows m c) (Cert.Kernel7Ideal.Conv.weights m c) (Cert.Kernel7Ideal.Conv.bias m c) (y 0) (y 1), ?_, ?_⟩
  · refine (θ_run Cert.Kernel7Ideal.defs _ _).mono (fun _ h c => ?_) (Cert.Kernel7Ideal.Value.run_blocks (F := Ideal) m ρ)
    exact ⟨(h c).1.trans (Cert.Kernel7Ideal.Conv.final3 m c), (h c).2⟩
  · refine (θ_run Cert.Reference7Ideal.defs _ _).mono (fun _ h c => ?_) (Cert.Reference7Ideal.Value.run (F := Ideal) m' ρ')
    obtain ⟨e0, e1, e2⟩ := hagree c
    refine ⟨(h c).1.trans ?_, (h c).2⟩
    rw [e0, e1, e2]
    exact Cert.Reference7Ideal.Conv.conv_rows (Cert.Kernel7Ideal.Conv.rows m c) (Cert.Kernel7Ideal.Conv.weights m c) (Cert.Kernel7Ideal.Conv.bias m c)

/-- The product that takes the sample's queries to the latent runs to its end and keeps its arguments. -/
theorem kernel8_frame : Cert.quiescent_Kernel8 (hKernel8 := Cert.Kernel8.Gen.facts) := fun m ρ _ => Cert.Kernel8.Gen.frame m ρ

/-- So does it over the extended reals. -/
theorem ideal8_frame : Cert.quiescent_Kernel8Ideal (hKernel8Ideal := Cert.Kernel8Ideal.Gen.facts) := fun m ρ _ => Cert.Kernel8Ideal.Gen.frame m ρ

/-- And so does its reference. -/
theorem reference8_frame : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The product that takes the sample's queries to the latent and its reference end with the same array. -/
theorem value8 : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => fun y => Cert.DenseSpec.prod (Cert.Kernel8Ideal.Dense.left m c) (Cert.Kernel8Ideal.Dense.right m c) (y 0) (y 1), ?_, ?_⟩
  · refine (θ_run Cert.Kernel8Ideal.defs _ _).mono (fun _ h c => ?_) (Cert.Kernel8Ideal.Value.run_blocks (F := Ideal) m ρ)
    exact ⟨(h c).1.trans (Cert.Kernel8Ideal.Dense.final2 m c), (h c).2⟩
  · refine (θ_run Cert.Reference8Ideal.defs _ _).mono (fun _ h c => ?_) (Cert.Reference8Ideal.Value.run (F := Ideal) m' ρ')
    obtain ⟨e0, e1⟩ := hagree c
    refine ⟨(h c).1.trans ?_, (h c).2⟩
    rw [e0, e1]
    exact Cert.Reference8Ideal.Dense.prod_rows (Cert.Kernel8Ideal.Dense.left m c) (Cert.Kernel8Ideal.Dense.right m c)

/-- The product that takes the sample's attention from the latent runs to its end and keeps its arguments. -/
theorem kernel9_frame : Cert.quiescent_Kernel9 (hKernel9 := Cert.Kernel9.Gen.facts) := fun m ρ _ => Cert.Kernel9.Gen.frame m ρ

/-- So does it over the extended reals. -/
theorem ideal9_frame : Cert.quiescent_Kernel9Ideal (hKernel9Ideal := Cert.Kernel9Ideal.Gen.facts) := fun m ρ _ => Cert.Kernel9Ideal.Gen.frame m ρ

/-- And so does its reference. -/
theorem reference9_frame : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The product that takes the sample's attention from the latent and its reference end with the same array. -/
theorem value9 : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => fun y => Cert.DenseSpec.prod (Cert.Kernel9Ideal.Dense.left m c) (Cert.Kernel9Ideal.Dense.right m c) (y 0) (y 1), ?_, ?_⟩
  · refine (θ_run Cert.Kernel9Ideal.defs _ _).mono (fun _ h c => ?_) (Cert.Kernel9Ideal.Value.run_blocks (F := Ideal) m ρ)
    exact ⟨(h c).1.trans (Cert.Kernel9Ideal.Dense.final2 m c), (h c).2⟩
  · refine (θ_run Cert.Reference9Ideal.defs _ _).mono (fun _ h c => ?_) (Cert.Reference9Ideal.Value.run (F := Ideal) m' ρ')
    obtain ⟨e0, e1⟩ := hagree c
    refine ⟨(h c).1.trans ?_, (h c).2⟩
    rw [e0, e1]
    exact Cert.Reference9Ideal.Dense.prod_rows (Cert.Kernel9Ideal.Dense.left m c) (Cert.Kernel9Ideal.Dense.right m c)

end Cert.Proof.Products

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Attention
public import proofs.«01_k».proof.Proof.Projection
public import proofs.«01_k».proof.Proof.Sample
public import proofs.«01_k».proof.Proof.Tables
public import proofs.«01_k».proof.Proof.Mixing
public import proofs.«01_k».proof.Proof.Products
public import Idealize.ShloMosaic.Adequacy
public import Idealize.ShloMosaic.Init

@[expose] public section

noncomputable section

namespace Cert.Proof

open Idealize.ShloMosaic Idealize.SL.Sem Cert.Kernel

/-- Everything certified, from the frames, the named constant and the values of the attention, the two input projections, the tables, the sample's mixing, its convolution and its two
    dense products. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite_keys.facts,
    Attention.kernel_frame, Attention.ideal_frame, fun m ρ _ => Attention.ideal_frame m ρ trivial,
    Attention.reference_frame, fun m ρ _ => Attention.reference_frame m ρ trivial,
    Projection.kernel_frame, Projection.ideal_frame, Projection.reference_frame,
    Sample.kernel_frame, Sample.ideal_frame, Sample.reference_frame,
  Tables.kernel4_frame, Tables.ideal4_frame, Tables.reference4_frame, Tables.kernel5_frame, Tables.ideal5_frame, Tables.reference5_frame,
  Mixing.kernel_frame, Mixing.ideal_frame, Mixing.reference_frame,
  Products.kernel7_frame, Products.ideal7_frame, Products.reference7_frame,
  Products.kernel8_frame, Products.ideal8_frame, Products.reference8_frame,
  Products.kernel9_frame, Products.ideal9_frame, Products.reference9_frame,
  Attention.mask, Attention.value, trivial, Projection.value, trivial, Sample.value, trivial, Tables.value4, trivial, Tables.value5, trivial, Mixing.value,
  trivial, Products.value7, trivial, Products.value8, trivial, Products.value9⟩

end Cert.Proof

end
